-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_inputs [hPre_mla_inputs : Cert.Pre_mla_inputs.Facts] (m : (ℓ : Loc Cert.MlaIdeal.nD Cert.MlaIdeal.τ Cert.MlaIdeal.sig) → Buf (Elt Ideal) ℓ) : Prop :=
  ∀ c : Dev Cert.MlaIdeal.nD,
    (Cert.Pre_mla_inputs.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_mla_inputs.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2.1 = (fun _ => 1#1)
    ∧ (Cert.Pre_mla_inputs.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_inputs [hPre_mla_inputs : Cert.Pre_mla_inputs.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_inputs.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_mla_inputs.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2.1 = (fun _ => 1#1)
    ∧ (Cert.Pre_mla_inputs.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2.2 = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_inputs [hPre_diff_inputs : Cert.Pre_diff_inputs.Facts] (m : (ℓ : Loc Cert.DiffIdeal.nD Cert.DiffIdeal.τ Cert.DiffIdeal.sig) → Buf (Elt Ideal) ℓ) : Prop :=
  ∀ c : Dev Cert.DiffIdeal.nD,
    (Cert.Pre_diff_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).1 = (fun _ => 1#1)
    ∧ (Cert.Pre_diff_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.1 = (fun _ => 1#1)
    ∧ (Cert.Pre_diff_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.1 = (fun _ => 1#1)
    ∧ (Cert.Pre_diff_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.2.1 = (fun _ => 1#1)
    ∧ (Cert.Pre_diff_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_inputs [hPre_diff_inputs : Cert.Pre_diff_inputs.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).1 = (fun _ => 1#1)
    ∧ (Cert.Pre_diff_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.1 = (fun _ => 1#1)
    ∧ (Cert.Pre_diff_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.2.1 = (fun _ => 1#1)
    ∧ (Cert.Pre_diff_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.2.2.1 = (fun _ => 1#1)
    ∧ (Cert.Pre_diff_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_inputs [hMlaIdeal : Cert.MlaIdeal.Facts] [hPre_mla_inputs : Cert.Pre_mla_inputs.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_inputs m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_inputs [hMlaRefIdeal : Cert.MlaRefIdeal.Facts] [hPre_mla_inputs : Cert.Pre_mla_inputs.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_inputs m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_diff_inputs [hDiffIdeal : Cert.DiffIdeal.Facts] [hPre_diff_inputs : Cert.Pre_diff_inputs.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_inputs m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_diff_inputs [hDiffRefIdeal : Cert.DiffRefIdeal.Facts] [hPre_diff_inputs : Cert.Pre_diff_inputs.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_inputs m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def preserves_Mla_MlaIdeal : Prop :=
  True

def algebraic_MlaIdeal_MlaRefIdeal_pre_mla_inputs [hMlaIdeal : Cert.MlaIdeal.Facts] [hMlaRefIdeal : Cert.MlaRefIdeal.Facts] [hPre_mla_inputs : Cert.Pre_mla_inputs.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_inputs m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v43) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Diff_DiffIdeal : Prop :=
  True

def algebraic_DiffIdeal_DiffRefIdeal_pre_diff_inputs [hDiffIdeal : Cert.DiffIdeal.Facts] [hDiffRefIdeal : Cert.DiffRefIdeal.Facts] [hPre_diff_inputs : Cert.Pre_diff_inputs.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_inputs m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v2)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v2) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v91) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v20)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v20) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v118) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v39) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)) →
    ∃ (v0 : (c : Dev Cert.InIdeal.nD) → Buf (Elt Ideal) ((c.tc : Thread Cert.InIdeal.nD Cert.InIdeal.τ).loc Cert.InIdeal.main_v123_2)) (v1 : (c : Dev Cert.InIdeal.nD) → Buf (Elt Ideal) ((c.tc : Thread Cert.InIdeal.nD Cert.InIdeal.τ).loc Cert.InIdeal.main_v123_3)) (v2 : (c : Dev Cert.InIdeal.nD) → Buf (Elt Ideal) ((c.tc : Thread Cert.InIdeal.nD Cert.InIdeal.τ).loc Cert.InIdeal.main_v123_4)) (v3 : (c : Dev Cert.InIdeal.nD) → Buf (Elt Ideal) ((c.tc : Thread Cert.InIdeal.nD Cert.InIdeal.τ).loc Cert.InIdeal.main_v123_7)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v123_2) = v0 c
          ∧ r.2.mem ((c.tc : Thread Cert.InIdeal.nD Cert.InIdeal.τ).loc Cert.InIdeal.main_v123_3) = v1 c
          ∧ r.2.mem ((c.tc : Thread Cert.InIdeal.nD Cert.InIdeal.τ).loc Cert.InIdeal.main_v123_4) = v2 c
          ∧ r.2.mem ((c.tc : Thread Cert.InIdeal.nD Cert.InIdeal.τ).loc Cert.InIdeal.main_v123_7) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v65) = v0 c
          ∧ r.2.mem ((c.tc : Thread Cert.InRefIdeal.nD Cert.InRefIdeal.τ).loc Cert.InRefIdeal.main_v66) = v1 c
          ∧ r.2.mem ((c.tc : Thread Cert.InRefIdeal.nD Cert.InRefIdeal.τ).loc Cert.InRefIdeal.main_v67) = v2 c
          ∧ r.2.mem ((c.tc : Thread Cert.InRefIdeal.nD Cert.InRefIdeal.τ).loc Cert.InRefIdeal.main_v68) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def Claim : Prop :=
  ∃ (hMla : Cert.Mla.Facts) (hMlaIdeal : Cert.MlaIdeal.Facts) (hMlaRefIdeal : Cert.MlaRefIdeal.Facts) (hDiff : Cert.Diff.Facts) (hDiffIdeal : Cert.DiffIdeal.Facts) (hDiffRefIdeal : Cert.DiffRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hPre_mla_inputs : Cert.Pre_mla_inputs.Facts) (hPre_diff_inputs : Cert.Pre_diff_inputs.Facts),
    quiescent_Mla (hMla := hMla)
    ∧ quiescent_MlaIdeal (hMlaIdeal := hMlaIdeal)
    ∧ quiescent_MlaIdeal_pre_mla_inputs (hMlaIdeal := hMlaIdeal) (hPre_mla_inputs := hPre_mla_inputs)
    ∧ quiescent_MlaRefIdeal (hMlaRefIdeal := hMlaRefIdeal)
    ∧ quiescent_MlaRefIdeal_pre_mla_inputs (hMlaRefIdeal := hMlaRefIdeal) (hPre_mla_inputs := hPre_mla_inputs)
    ∧ quiescent_Diff (hDiff := hDiff)
    ∧ quiescent_DiffIdeal (hDiffIdeal := hDiffIdeal)
    ∧ quiescent_DiffIdeal_pre_diff_inputs (hDiffIdeal := hDiffIdeal) (hPre_diff_inputs := hPre_diff_inputs)
    ∧ quiescent_DiffRefIdeal (hDiffRefIdeal := hDiffRefIdeal)
    ∧ quiescent_DiffRefIdeal_pre_diff_inputs (hDiffRefIdeal := hDiffRefIdeal) (hPre_diff_inputs := hPre_diff_inputs)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ preserves_Mla_MlaIdeal
    ∧ algebraic_MlaIdeal_MlaRefIdeal_pre_mla_inputs (hMlaIdeal := hMlaIdeal) (hMlaRefIdeal := hMlaRefIdeal) (hPre_mla_inputs := hPre_mla_inputs)
    ∧ preserves_Diff_DiffIdeal
    ∧ algebraic_DiffIdeal_DiffRefIdeal_pre_diff_inputs (hDiffIdeal := hDiffIdeal) (hDiffRefIdeal := hDiffRefIdeal) (hPre_diff_inputs := hPre_diff_inputs)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
-- ==== Pre_diff_inputs.lean ====
abbrev S2x8448x384 : Shape := ⟨3, ![2, 8448, 384]⟩
abbrev S2x10x33x80x256 : Shape := ⟨5, ![2, 10, 33, 80, 256]⟩
abbrev S1x8x32 : Shape := ⟨3, ![1, 8, 32]⟩
abbrev S64 : Shape := ⟨1, ![64]⟩
abbrev S_ : Shape := ⟨0, ![]⟩
abbrev S2x6x33x64x256 : Shape := ⟨5, ![2, 6, 33, 64, 256]⟩
abbrev S1x5x32 : Shape := ⟨3, ![1, 5, 32]⟩
abbrev S5x32 : Shape := ⟨2, ![5, 32]⟩
abbrev S2x6x33x1x256 : Shape := ⟨5, ![2, 6, 33, 1, 256]⟩
abbrev S2x6x33x256 : Shape := ⟨4, ![2, 6, 33, 256]⟩

class Facts : Prop where
  bcast_S_S2x8448x384 : S_.BroadcastsInDim S2x8448x384 (![] : Fin 0 → Fin S2x8448x384.rank)
  slices_S2x10x33x80x256_S2x6x33x64x256_0_0_0_0_0 : S2x10x33x80x256.Slices ![0, 0, 0, 0, 0] S2x6x33x64x256
  bcast_S_S2x6x33x64x256 : S_.BroadcastsInDim S2x6x33x64x256 (![] : Fin 0 → Fin S2x6x33x64x256.rank)
  slices_S1x8x32_S1x5x32_0_0_0 : S1x8x32.Slices ![0, 0, 0] S1x5x32
  shapeCasts_S1x5x32_S5x32 : S1x5x32.ShapeCasts S5x32
  bcast_S_S5x32 : S_.BroadcastsInDim S5x32 (![] : Fin 0 → Fin S5x32.rank)
  slices_S2x10x33x80x256_S2x6x33x1x256_0_0_0_64_0 : S2x10x33x80x256.Slices ![0, 0, 0, 64, 0] S2x6x33x1x256
  shapeCasts_S2x6x33x1x256_S2x6x33x256 : S2x6x33x1x256.ShapeCasts S2x6x33x256
  bcast_S_S2x6x33x256 : S_.BroadcastsInDim S2x6x33x256 (![] : Fin 0 → Fin S2x6x33x256.rank)

variable [Facts]

def fn {F : FTy → Type} [FloatOps F] (main_arg0 : FVec F S2x8448x384 .bf16) (main_arg1 : FVec F S2x8448x384 .bf16) (main_arg2 : FVec F S2x10x33x80x256 .bf16) (main_arg3 : FVec F S1x8x32 .f32) (main_arg4 : FVec F S64 .f32) : IVec S2x8448x384 1 × IVec S2x8448x384 1 × IVec S2x6x33x64x256 1 × IVec S5x32 1 × IVec S2x6x33x256 1 :=
  let main_v0 : FVec F S2x8448x384 .bf16 := Host.absf main_arg0
  let main_cst : FVec F S_ .bf16 := constant S_ .bf16 0x7F80#16
  let main_v1 : FVec F S2x8448x384 .bf16 := broadcastInDim S2x8448x384 ![] bcast_S_S2x8448x384 main_cst
  let main_v2 : IVec S2x8448x384 1 := cmpf .olt main_v0 main_v1
  let main_v3 : FVec F S2x8448x384 .bf16 := Host.absf main_arg1
  let main_cst_0 : FVec F S_ .bf16 := constant S_ .bf16 0x7F80#16
  let main_v4 : FVec F S2x8448x384 .bf16 := broadcastInDim S2x8448x384 ![] bcast_S_S2x8448x384 main_cst_0
  let main_v5 : IVec S2x8448x384 1 := cmpf .olt main_v3 main_v4
  let main_v6 : FVec F S2x6x33x64x256 .bf16 := (extractStridedSlice S2x6x33x64x256 ![0, 0, 0, 0, 0] · slices_S2x10x33x80x256_S2x6x33x64x256_0_0_0_0_0) main_arg2
  let main_v7 : FVec F S2x6x33x64x256 .bf16 := Host.absf main_v6
  let main_cst_1 : FVec F S_ .bf16 := constant S_ .bf16 0x7F80#16
  let main_v8 : FVec F S2x6x33x64x256 .bf16 := broadcastInDim S2x6x33x64x256 ![] bcast_S_S2x6x33x64x256 main_cst_1
  let main_v9 : IVec S2x6x33x64x256 1 := cmpf .olt main_v7 main_v8
  let main_v10 : FVec F S1x5x32 .f32 := (extractStridedSlice S1x5x32 ![0, 0, 0] · slices_S1x8x32_S1x5x32_0_0_0) main_arg3
  let main_v11 : FVec F S5x32 .f32 := shapeCast S5x32 main_v10 shapeCasts_S1x5x32_S5x32
  let main_v12 : FVec F S5x32 .f32 := Host.absf main_v11
  let main_cst_2 : FVec F S_ .f32 := constant S_ .f32 0x7F800000#32
  let main_v13 : FVec F S5x32 .f32 := broadcastInDim S5x32 ![] bcast_S_S5x32 main_cst_2
  let main_v14 : IVec S5x32 1 := cmpf .olt main_v12 main_v13
  let main_v15 : FVec F S2x6x33x1x256 .bf16 := (extractStridedSlice S2x6x33x1x256 ![0, 0, 0, 64, 0] · slices_S2x10x33x80x256_S2x6x33x1x256_0_0_0_64_0) main_arg2
  let main_v16 : FVec F S2x6x33x256 .bf16 := shapeCast S2x6x33x256 main_v15 shapeCasts_S2x6x33x1x256_S2x6x33x256
  let main_cst_3 : FVec F S_ .bf16 := constant S_ .bf16 0x3F80#16
  let main_v17 : FVec F S2x6x33x256 .bf16 := broadcastInDim S2x6x33x256 ![] bcast_S_S2x6x33x256 main_cst_3
  let main_v18 : IVec S2x6x33x256 1 := cmpf .oeq main_v16 main_v17
  (main_v2, main_v5, main_v9, main_v14, main_v18)
-- ==== Pre_mla_inputs.lean ====
abbrev S2x8448x512 : Shape := ⟨3, ![2, 8448, 512]⟩
abbrev S2x10x33x80x256 : Shape := ⟨5, ![2, 10, 33, 80, 256]⟩
abbrev S_ : Shape := ⟨0, ![]⟩
abbrev S2x4x33x1x256 : Shape := ⟨5, ![2, 4, 33, 1, 256]⟩
abbrev S2x4x33x256 : Shape := ⟨4, ![2, 4, 33, 256]⟩

class Facts : Prop where
  bcast_S_S2x8448x512 : S_.BroadcastsInDim S2x8448x512 (![] : Fin 0 → Fin S2x8448x512.rank)
  slices_S2x10x33x80x256_S2x4x33x1x256_0_6_0_64_0 : S2x10x33x80x256.Slices ![0, 6, 0, 64, 0] S2x4x33x1x256
  shapeCasts_S2x4x33x1x256_S2x4x33x256 : S2x4x33x1x256.ShapeCasts S2x4x33x256
  bcast_S_S2x4x33x256 : S_.BroadcastsInDim S2x4x33x256 (![] : Fin 0 → Fin S2x4x33x256.rank)

variable [Facts]

def fn {F : FTy → Type} [FloatOps F] (main_arg0 : FVec F S2x8448x512 .bf16) (main_arg1 : FVec F S2x8448x512 .bf16) (main_arg2 : FVec F S2x10x33x80x256 .bf16) : IVec S2x8448x512 1 × IVec S2x8448x512 1 × IVec S2x4x33x256 1 :=
  let main_v0 : FVec F S2x8448x512 .bf16 := Host.absf main_arg0
  let main_cst : FVec F S_ .bf16 := constant S_ .bf16 0x7F80#16
  let main_v1 : FVec F S2x8448x512 .bf16 := broadcastInDim S2x8448x512 ![] bcast_S_S2x8448x512 main_cst
  let main_v2 : IVec S2x8448x512 1 := cmpf .olt main_v0 main_v1
  let main_v3 : FVec F S2x8448x512 .bf16 := Host.absf main_arg1
  let main_cst_0 : FVec F S_ .bf16 := constant S_ .bf16 0x7F80#16
  let main_v4 : FVec F S2x8448x512 .bf16 := broadcastInDim S2x8448x512 ![] bcast_S_S2x8448x512 main_cst_0
  let main_v5 : IVec S2x8448x512 1 := cmpf .olt main_v3 main_v4
  let main_v6 : FVec F S2x4x33x1x256 .bf16 := (extractStridedSlice S2x4x33x1x256 ![0, 6, 0, 64, 0] · slices_S2x10x33x80x256_S2x4x33x1x256_0_6_0_64_0) main_arg2
  let main_v7 : FVec F S2x4x33x256 .bf16 := shapeCast S2x4x33x256 main_v6 shapeCasts_S2x4x33x1x256_S2x4x33x256
  let main_cst_1 : FVec F S_ .bf16 := constant S_ .bf16 0x3F80#16
  let main_v8 : FVec F S2x4x33x256 .bf16 := broadcastInDim S2x4x33x256 ![] bcast_S_S2x4x33x256 main_cst_1
  let main_v9 : IVec S2x4x33x256 1 := cmpf .oeq main_v7 main_v8
  (main_v2, main_v5, main_v9)
-- ==== Mla.lean ====
abbrev S2x8448x512 : Shape := ⟨3, ![2, 8448, 512]⟩
abbrev S2x10x33x80x256 : Shape := ⟨5, ![2, 10, 33, 80, 256]⟩
abbrev S2x8448x256 : Shape := ⟨3, ![2, 8448, 256]⟩
abbrev S1x256x256 : Shape := ⟨3, ![1, 256, 256]⟩
abbrev S1x8448x256 : Shape := ⟨3, ![1, 8448, 256]⟩
abbrev S1x2x33x80x256 : Shape := ⟨5, ![1, 2, 33, 80, 256]⟩
abbrev S1x256x128 : Shape := ⟨3, ![1, 256, 128]⟩
abbrev S2x1x256 : Shape := ⟨3, ![2, 1, 256]⟩
abbrev S2x80x256 : Shape := ⟨3, ![2, 80, 256]⟩
abbrev S256x256 : Shape := ⟨2, ![256, 256]⟩
abbrev S256x128 : Shape := ⟨2, ![256, 128]⟩
abbrev S1x256 : Shape := ⟨2, ![1, 256]⟩
abbrev S1x1x256 : Shape := ⟨3, ![1, 1, 256]⟩
abbrev S80x256 : Shape := ⟨2, ![80, 256]⟩
abbrev S1x80x256 : Shape := ⟨3, ![1, 80, 256]⟩
abbrev S256 : Shape := ⟨1, ![256]⟩
abbrev S1x1x1x80x256 : Shape := ⟨5, ![1, 1, 1, 80, 256]⟩
abbrev S64x256 : Shape := ⟨2, ![64, 256]⟩
abbrev S128x256 : Shape := ⟨2, ![128, 256]⟩

abbrev nBuf : Space → Nat
  | .hbm => 4
  | .vmem => 10
  | .smem => 0
  | _ => 0

abbrev bufTy : (tb : Table) → Fin (tcTables nBuf tb) → BufTy
  | .hbm, ⟨0, _⟩ => ⟨S2x8448x512, .bf16⟩
  | .hbm, ⟨1, _⟩ => ⟨S2x8448x512, .bf16⟩
  | .hbm, ⟨2, _⟩ => ⟨S2x10x33x80x256, .bf16⟩
  | .hbm, ⟨3, _⟩ => ⟨S2x8448x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x2x33x80x256, .bf16⟩
  | .local _ .vmem, ⟨5, _⟩ => ⟨S1x2x33x80x256, .bf16⟩
  | .local _ .vmem, ⟨6, _⟩ => ⟨S1x256x128, .bf16⟩
  | .local _ .vmem, ⟨7, _⟩ => ⟨S1x256x128, .bf16⟩
  | .local _ .vmem, ⟨8, _⟩ => ⟨S2x1x256, .f32⟩
  | .local _ .vmem, ⟨9, _⟩ => ⟨S2x80x256, .f32⟩
  | _, _ => ⟨S2x8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 33], ![false, false, false]⟩

@[reducible] def k0_t1_loop (i : grid0.Coords) : Scf.Loop 32 :=
  let c0_i32_17 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v22 : BitVec 32 := Scalar.subi v1 c0_i32_17
  let c1_i32_18 : BitVec 32 := 1#32
  let v24 : BitVec 32 := Scalar.divsi v22 c1_i32_18
  let v25 : BitVec 32 := Scalar.muli v24 c1_i32_18
  let v26 : BitVec 32 := Scalar.addi c0_i32_17 v25
  let c1_i32_19 : BitVec 32 := 1#32
  ⟨c0_i32_17, v26, c1_i32_19⟩
def k0_mult1 (i : grid0.Coords) (k0_t1 : Fin (k0_t1_loop i).trips) : BitVec 32 :=
  let c0_i32_17 : BitVec 32 := 0#32
  let c1_i32_19 : BitVec 32 := 1#32
  let arg9 : BitVec 32 := Scf.iv c0_i32_17 c1_i32_19 k0_t1
  let c256_i32 : BitVec 32 := 256#32
  let v45 : BitVec 32 := Scalar.muli arg9 c256_i32
  v45
def k0_off1 (i : grid0.Coords) (k0_t1 : Fin (k0_t1_loop i).trips) : Fin 3 → Nat :=
  let c0_30 : Index := 0#32
  let c0_i32_17 : BitVec 32 := 0#32
  let c1_i32_19 : BitVec 32 := 1#32
  let arg9 : BitVec 32 := Scf.iv c0_i32_17 c1_i32_19 k0_t1
  let c256_i32 : BitVec 32 := 256#32
  let v45 : BitVec 32 := Scalar.muli arg9 c256_i32
  let v46 : BitVec 32 := v45
  let v47 : Index := Scalar.indexCast v46
  let c0_31 : Index := 0#32
  ![0, v47.toNat, 0]
def k0_off2 (i : grid0.Coords) (k0_t1 : Fin (k0_t1_loop i).trips) : Fin 5 → Nat :=
  let c0_37 : Index := 0#32
  let c0_38 : Index := 0#32
  let c0_i32_17 : BitVec 32 := 0#32
  let c1_i32_19 : BitVec 32 := 1#32
  let arg9 : BitVec 32 := Scf.iv c0_i32_17 c1_i32_19 k0_t1
  let v62 : Index := Scalar.indexCast arg9
  let c0_39 : Index := 0#32
  let c0_40 : Index := 0#32
  ![0, 0, v62.toNat, 0, 0]
def k0_mult2 (i : grid0.Coords) (k0_t1 : Fin (k0_t1_loop i).trips) : BitVec 32 :=
  let c0_i32_17 : BitVec 32 := 0#32
  let c1_i32_19 : BitVec 32 := 1#32
  let arg9 : BitVec 32 := Scf.iv c0_i32_17 c1_i32_19 k0_t1
  let c256_i32_51 : BitVec 32 := 256#32
  let v77 : BitVec 32 := Scalar.muli arg9 c256_i32_51
  v77
def k0_off3 (i : grid0.Coords) (k0_t1 : Fin (k0_t1_loop i).trips) : Fin 3 → Nat :=
  let c0_52 : Index := 0#32
  let c0_i32_17 : BitVec 32 := 0#32
  let c1_i32_19 : BitVec 32 := 1#32
  let arg9 : BitVec 32 := Scf.iv c0_i32_17 c1_i32_19 k0_t1
  let c256_i32_51 : BitVec 32 := 256#32
  let v77 : BitVec 32 := Scalar.muli arg9 c256_i32_51
  let v78 : BitVec 32 := v77
  let v79 : Index := Scalar.indexCast v78
  let c128 : Index := 128#32
  ![0, v79.toNat, 128]
def k0_off4 (i : grid0.Coords) (k0_t1 : Fin (k0_t1_loop i).trips) : Fin 5 → Nat :=
  let c0_58 : Index := 0#32
  let c1_59 : Index := 1#32
  let c0_i32_17 : BitVec 32 := 0#32
  let c1_i32_19 : BitVec 32 := 1#32
  let arg9 : BitVec 32 := Scf.iv c0_i32_17 c1_i32_19 k0_t1
  let v94 : Index := Scalar.indexCast arg9
  let c0_60 : Index := 0#32
  let c0_61 : Index := 0#32
  ![0, 1, v94.toNat, 0, 0]
@[reducible] def k0_t2_loop (i : grid0.Coords) : Scf.Loop 32 :=
  let c0_i32_17 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v22 : BitVec 32 := Scalar.subi v1 c0_i32_17
  let c1_i32_18 : BitVec 32 := 1#32
  let v24 : BitVec 32 := Scalar.divsi v22 c1_i32_18
  let v25 : BitVec 32 := Scalar.muli v24 c1_i32_18
  let v26 : BitVec 32 := Scalar.addi c0_i32_17 v25
  let v23 : BitVec 32 := Scalar.addi c0_i32_17 v22
  let c1_i32_20 : BitVec 32 := 1#32
  ⟨v26, v23, c1_i32_20⟩
def k0_mult3 (i : grid0.Coords) (k0_t2 : Fin (k0_t2_loop i).trips) : BitVec 32 :=
  let c0_i32_17 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v22 : BitVec 32 := Scalar.subi v1 c0_i32_17
  let c1_i32_18 : BitVec 32 := 1#32
  let v24 : BitVec 32 := Scalar.divsi v22 c1_i32_18
  let v25 : BitVec 32 := Scalar.muli v24 c1_i32_18
  let v26 : BitVec 32 := Scalar.addi c0_i32_17 v25
  let c1_i32_20 : BitVec 32 := 1#32
  let arg9 : BitVec 32 := Scf.iv v26 c1_i32_20 k0_t2
  let c256_i32 : BitVec 32 := 256#32
  let v45 : BitVec 32 := Scalar.muli arg9 c256_i32
  v45
def k0_off5 (i : grid0.Coords) (k0_t2 : Fin (k0_t2_loop i).trips) : Fin 3 → Nat :=
  let c0_30 : Index := 0#32
  let c0_i32_17 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v22 : BitVec 32 := Scalar.subi v1 c0_i32_17
  let c1_i32_18 : BitVec 32 := 1#32
  let v24 : BitVec 32 := Scalar.divsi v22 c1_i32_18
  let v25 : BitVec 32 := Scalar.muli v24 c1_i32_18
  let v26 : BitVec 32 := Scalar.addi c0_i32_17 v25
  let c1_i32_20 : BitVec 32 := 1#32
  let arg9 : BitVec 32 := Scf.iv v26 c1_i32_20 k0_t2
  let c256_i32 : BitVec 32 := 256#32
  let v45 : BitVec 32 := Scalar.muli arg9 c256_i32
  let v46 : BitVec 32 := v45
  let v47 : Index := Scalar.indexCast v46
  let c0_31 : Index := 0#32
  ![0, v47.toNat, 0]
def k0_off6 (i : grid0.Coords) (k0_t2 : Fin (k0_t2_loop i).trips) : Fin 5 → Nat :=
  let c0_37 : Index := 0#32
  let c0_38 : Index := 0#32
  let c0_i32_17 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v22 : BitVec 32 := Scalar.subi v1 c0_i32_17
  let c1_i32_18 : BitVec 32 := 1#32
  let v24 : BitVec 32 := Scalar.divsi v22 c1_i32_18
  let v25 : BitVec 32 := Scalar.muli v24 c1_i32_18
  let v26 : BitVec 32 := Scalar.addi c0_i32_17 v25
  let c1_i32_20 : BitVec 32 := 1#32
  let arg9 : BitVec 32 := Scf.iv v26 c1_i32_20 k0_t2
  let v62 : Index := Scalar.indexCast arg9
  let c0_39 : Index := 0#32
  let c0_40 : Index := 0#32
  ![0, 0, v62.toNat, 0, 0]
def k0_mult4 (i : grid0.Coords) (k0_t2 : Fin (k0_t2_loop i).trips) : BitVec 32 :=
  let c0_i32_17 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v22 : BitVec 32 := Scalar.subi v1 c0_i32_17
  let c1_i32_18 : BitVec 32 := 1#32
  let v24 : BitVec 32 := Scalar.divsi v22 c1_i32_18
  let v25 : BitVec 32 := Scalar.muli v24 c1_i32_18
  let v26 : BitVec 32 := Scalar.addi c0_i32_17 v25
  let c1_i32_20 : BitVec 32 := 1#32
  let arg9 : BitVec 32 := Scf.iv v26 c1_i32_20 k0_t2
  let c256_i32_51 : BitVec 32 := 256#32
  let v77 : BitVec 32 := Scalar.muli arg9 c256_i32_51
  v77
def k0_off7 (i : grid0.Coords) (k0_t2 : Fin (k0_t2_loop i).trips) : Fin 3 → Nat :=
  let c0_52 : Index := 0#32
  let c0_i32_17 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v22 : BitVec 32 := Scalar.subi v1 c0_i32_17
  let c1_i32_18 : BitVec 32 := 1#32
  let v24 : BitVec 32 := Scalar.divsi v22 c1_i32_18
  let v25 : BitVec 32 := Scalar.muli v24 c1_i32_18
  let v26 : BitVec 32 := Scalar.addi c0_i32_17 v25
  let c1_i32_20 : BitVec 32 := 1#32
  let arg9 : BitVec 32 := Scf.iv v26 c1_i32_20 k0_t2
  let c256_i32_51 : BitVec 32 := 256#32
  let v77 : BitVec 32 := Scalar.muli arg9 c256_i32_51
  let v78 : BitVec 32 := v77
  let v79 : Index := Scalar.indexCast v78
  let c128 : Index := 128#32
  ![0, v79.toNat, 128]
def k0_off8 (i : grid0.Coords) (k0_t2 : Fin (k0_t2_loop i).trips) : Fin 5 → Nat :=
  let c0_58 : Index := 0#32
  let c1_59 : Index := 1#32
  let c0_i32_17 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v22 : BitVec 32 := Scalar.subi v1 c0_i32_17
  let c1_i32_18 : BitVec 32 := 1#32
  let v24 : BitVec 32 := Scalar.divsi v22 c1_i32_18
  let v25 : BitVec 32 := Scalar.muli v24 c1_i32_18
  let v26 : BitVec 32 := Scalar.addi c0_i32_17 v25
  let c1_i32_20 : BitVec 32 := 1#32
  let arg9 : BitVec 32 := Scf.iv v26 c1_i32_20 k0_t2
  let v94 : Index := Scalar.indexCast arg9
  let c0_60 : Index := 0#32
  let c0_61 : Index := 0#32
  ![0, 1, v94.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x33x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S2x8448x512 : Shape := ⟨3, ![2, 8448, 512]⟩
abbrev S2x10x33x80x256 : Shape := ⟨5, ![2, 10, 33, 80, 256]⟩
abbrev S2x8448x4x128 : Shape := ⟨4, ![2, 8448, 4, 128]⟩
abbrev S2x4x8448x128 : Shape := ⟨4, ![2, 4, 8448, 128]⟩
abbrev S2x4x33x64x256 : Shape := ⟨5, ![2, 4, 33, 64, 256]⟩
abbrev S2x4x33x256x64 : Shape := ⟨5, ![2, 4, 33, 256, 64]⟩
abbrev S2x4x8448x64 : Shape := ⟨4, ![2, 4, 8448, 64]⟩
abbrev S2x4x256x128 : Shape := ⟨4, ![2, 4, 256, 128]⟩
abbrev S2x4x256x64 : Shape := ⟨4, ![2, 4, 256, 64]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩
abbrev S2x4x8192x128 : Shape := ⟨4, ![2, 4, 8192, 128]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x4x8192x64 : Shape := ⟨4, ![2, 4, 8192, 64]⟩
abbrev S2x8448x4x64 : Shape := ⟨4, ![2, 8448, 4, 64]⟩
abbrev S2x8448x256 : Shape := ⟨3, ![2, 8448, 256]⟩

abbrev nBuf : Space → Nat
  | .hbm => 53
  | .vmem => 0
  | .smem => 0
  | _ => 0

abbrev bufTy : (tb : Table) → Fin (tcTables nBuf tb) → BufTy
  | .hbm, ⟨0, _⟩ => ⟨S2x8448x512, .bf16⟩
  | .hbm, ⟨1, _⟩ => ⟨S2x8448x512, .bf16⟩
  | .hbm, ⟨2, _⟩ => ⟨S2x10x33x80x256, .bf16⟩
  | .hbm, ⟨3, _⟩ => ⟨S2x8448x512, .f32⟩
  | .hbm, ⟨4, _⟩ => ⟨S2x8448x4x128, .f32⟩
  | .hbm, ⟨5, _⟩ => ⟨S2x4x8448x128, .f32⟩
  | .hbm, ⟨6, _⟩ => ⟨S2x8448x512, .f32⟩
  | .hbm, ⟨7, _⟩ => ⟨S2x8448x4x128, .f32⟩
  | .hbm, ⟨8, _⟩ => ⟨S2x4x8448x128, .f32⟩
  | .hbm, ⟨9, _⟩ => ⟨S2x4x33x64x256, .bf16⟩
  | .hbm, ⟨10, _⟩ => ⟨S2x4x33x64x256, .f32⟩
  | .hbm, ⟨11, _⟩ => ⟨S2x4x33x256x64, .f32⟩
  | .hbm, ⟨12, _⟩ => ⟨S2x4x8448x64, .f32⟩
  | .hbm, ⟨13, _⟩ => ⟨S2x4x256x128, .f32⟩
  | .hbm, ⟨14, _⟩ => ⟨S2x4x256x128, .f32⟩
  | .hbm, ⟨15, _⟩ => ⟨S2x4x256x64, .f32⟩
  | .hbm, ⟨16, _⟩ => ⟨S2x4x256x256, .f32⟩
  | .hbm, ⟨17, _⟩ => ⟨S_, .f32⟩
  | .hbm, ⟨18, _⟩ => ⟨S2x4x256, .f32⟩
  | .hbm, ⟨19, _⟩ => ⟨S_, .f32⟩
  | .hbm, ⟨20, _⟩ => ⟨S2x4x256, .f32⟩
  | .hbm, ⟨21, _⟩ => ⟨S2x4x256, .f32⟩
  | .hbm, ⟨22, _⟩ => ⟨S2x4x256x1, .f32⟩
  | .hbm, ⟨23, _⟩ => ⟨S2x4x256x256, .f32⟩
  | .hbm, ⟨24, _⟩ => ⟨S2x4x256x256, .f32⟩
  | .hbm, ⟨25, _⟩ => ⟨S2x4x256x256, .f32⟩
  | .hbm, ⟨26, _⟩ => ⟨S_, .f32⟩
  | .hbm, ⟨27, _⟩ => ⟨S2x4x256, .f32⟩
  | .hbm, ⟨28, _⟩ => ⟨S2x4x256x1, .f32⟩
  | .hbm, ⟨29, _⟩ => ⟨S2x4x256x256, .f32⟩
  | .hbm, ⟨30, _⟩ => ⟨S2x4x256x256, .f32⟩
  | .hbm, ⟨31, _⟩ => ⟨S2x4x256x64, .f32⟩
  | .hbm, ⟨32, _⟩ => ⟨S2x4x8192x128, .f32⟩
  | .hbm, ⟨33, _⟩ => ⟨S2x4x8192x8448, .f32⟩
  | .hbm, ⟨34, _⟩ => ⟨S_, .f32⟩
  | .hbm, ⟨35, _⟩ => ⟨S2x4x8192, .f32⟩
  | .hbm, ⟨36, _⟩ => ⟨S_, .f32⟩
  | .hbm, ⟨37, _⟩ => ⟨S2x4x8192, .f32⟩
  | .hbm, ⟨38, _⟩ => ⟨S2x4x8192, .f32⟩
  | .hbm, ⟨39, _⟩ => ⟨S2x4x8192x1, .f32⟩
  | .hbm, ⟨40, _⟩ => ⟨S2x4x8192x8448, .f32⟩
  | .hbm, ⟨41, _⟩ => ⟨S2x4x8192x8448, .f32⟩
  | .hbm, ⟨42, _⟩ => ⟨S2x4x8192x8448, .f32⟩
  | .hbm, ⟨43, _⟩ => ⟨S_, .f32⟩
  | .hbm, ⟨44, _⟩ => ⟨S2x4x8192, .f32⟩
  | .hbm, ⟨45, _⟩ => ⟨S2x4x8192x1, .f32⟩
  | .hbm, ⟨46, _⟩ => ⟨S2x4x8192x8448, .f32⟩
  | .hbm, ⟨47, _⟩ => ⟨S2x4x8192x8448, .f32⟩
  | .hbm, ⟨48, _⟩ => ⟨S2x4x8192x64, .f32⟩
  | .hbm, ⟨49, _⟩ => ⟨S2x4x8448x64, .f32⟩
  | .hbm, ⟨50, _⟩ => ⟨S2x8448x4x64, .f32⟩
  | .hbm, ⟨51, _⟩ => ⟨S2x8448x256, .f32⟩
  | .hbm, ⟨52, _⟩ => ⟨S2x8448x256, .bf16⟩
  | _, _ => ⟨S2x8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Diff.lean ====
abbrev S2x8448x384 : Shape := ⟨3, ![2, 8448, 384]⟩
abbrev S2x10x33x80x256 : Shape := ⟨5, ![2, 10, 33, 80, 256]⟩
abbrev S1x8x32 : Shape := ⟨3, ![1, 8, 32]⟩
abbrev S64 : Shape := ⟨1, ![64]⟩
abbrev S8x128 : Shape := ⟨2, ![8, 128]⟩
abbrev S128 : Shape := ⟨1, ![128]⟩
abbrev S1x1x128 : Shape := ⟨3, ![1, 1, 128]⟩
abbrev S1x256x128 : Shape := ⟨3, ![1, 256, 128]⟩
abbrev S1x8448x128 : Shape := ⟨3, ![1, 8448, 128]⟩
abbrev S1x2x33x80x256 : Shape := ⟨5, ![1, 2, 33, 80, 256]⟩
abbrev S4x1x256 : Shape := ⟨3, ![4, 1, 256]⟩
abbrev S4x80x256 : Shape := ⟨3, ![4, 80, 256]⟩
abbrev S256x128 : Shape := ⟨2, ![256, 128]⟩
abbrev S1x128 : Shape := ⟨2, ![1, 128]⟩
abbrev S1x256 : Shape := ⟨2, ![1, 256]⟩
abbrev S1x1x256 : Shape := ⟨3, ![1, 1, 256]⟩
abbrev S80x256 : Shape := ⟨2, ![80, 256]⟩
abbrev S1x80x256 : Shape := ⟨3, ![1, 80, 256]⟩
abbrev S256x256 : Shape := ⟨2, ![256, 256]⟩
abbrev S256 : Shape := ⟨1, ![256]⟩
abbrev S1x1x1x80x256 : Shape := ⟨5, ![1, 1, 1, 80, 256]⟩
abbrev S64x256 : Shape := ⟨2, ![64, 256]⟩
abbrev S8x32 : Shape := ⟨2, ![8, 32]⟩
abbrev S1x1 : Shape := ⟨2, ![1, 1]⟩
abbrev S1x32 : Shape := ⟨2, ![1, 32]⟩
abbrev S1 : Shape := ⟨1, ![1]⟩
abbrev S128x256 : Shape := ⟨2, ![128, 256]⟩

abbrev nBuf : Space → Nat
  | .hbm => 9
  | .vmem => 13
  | .smem => 0
  | _ => 0

abbrev bufTy : (tb : Table) → Fin (tcTables nBuf tb) → BufTy
  | .hbm, ⟨0, _⟩ => ⟨S2x8448x384, .bf16⟩
  | .hbm, ⟨1, _⟩ => ⟨S2x8448x384, .bf16⟩
  | .hbm, ⟨2, _⟩ => ⟨S2x10x33x80x256, .bf16⟩
  | .hbm, ⟨3, _⟩ => ⟨S1x8x32, .f32⟩
  | .hbm, ⟨4, _⟩ => ⟨S64, .f32⟩
  | .hbm, ⟨5, _⟩ => ⟨S8x128, .f32⟩
  | .hbm, ⟨6, _⟩ => ⟨S128, .f32⟩
  | .hbm, ⟨7, _⟩ => ⟨S1x1x128, .f32⟩
  | .hbm, ⟨8, _⟩ => ⟨S2x8448x384, .bf16⟩
  | .local _ .vmem, ⟨0, _⟩ => ⟨S1x256x128, .bf16⟩
  | .local _ .vmem, ⟨1, _⟩ => ⟨S1x256x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x2x33x80x256, .bf16⟩
  | .local _ .vmem, ⟨5, _⟩ => ⟨S1x2x33x80x256, .bf16⟩
  | .local _ .vmem, ⟨6, _⟩ => ⟨S8x128, .f32⟩
  | .local _ .vmem, ⟨7, _⟩ => ⟨S1x8x32, .f32⟩
  | .local _ .vmem, ⟨8, _⟩ => ⟨S1x1x128, .f32⟩
  | .local _ .vmem, ⟨9, _⟩ => ⟨S1x256x128, .bf16⟩
  | .local _ .vmem, ⟨10, _⟩ => ⟨S1x256x128, .bf16⟩
  | .local _ .vmem, ⟨11, _⟩ => ⟨S4x1x256, .f32⟩
  | .local _ .vmem, ⟨12, _⟩ => ⟨S4x80x256, .f32⟩
  | _, _ => ⟨S2x8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 3, 33], ![false, false, false]⟩

@[reducible] def k0_t1_loop (i : grid0.Coords) : Scf.Loop 32 :=
  let c0_i32_39 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v53 : BitVec 32 := Scalar.subi v1 c0_i32_39
  let c1_i32_40 : BitVec 32 := 1#32
  let v55 : BitVec 32 := Scalar.divsi v53 c1_i32_40
  let v56 : BitVec 32 := Scalar.muli v55 c1_i32_40
  let v57 : BitVec 32 := Scalar.addi c0_i32_39 v56
  let c1_i32_41 : BitVec 32 := 1#32
  ⟨c0_i32_39, v57, c1_i32_41⟩
def k0_mult1 (i : grid0.Coords) (k0_t1 : Fin (k0_t1_loop i).trips) : BitVec 32 :=
  let c0_i32_39 : BitVec 32 := 0#32
  let c1_i32_41 : BitVec 32 := 1#32
  let arg12 : BitVec 32 := Scf.iv c0_i32_39 c1_i32_41 k0_t1
  let c256_i32 : BitVec 32 := 256#32
  let v139 : BitVec 32 := Scalar.muli arg12 c256_i32
  v139
def k0_off1 (i : grid0.Coords) (k0_t1 : Fin (k0_t1_loop i).trips) : Fin 3 → Nat :=
  let c0_73 : Index := 0#32
  let c0_i32_39 : BitVec 32 := 0#32
  let c1_i32_41 : BitVec 32 := 1#32
  let arg12 : BitVec 32 := Scf.iv c0_i32_39 c1_i32_41 k0_t1
  let c256_i32 : BitVec 32 := 256#32
  let v139 : BitVec 32 := Scalar.muli arg12 c256_i32
  let v140 : BitVec 32 := v139
  let v141 : Index := Scalar.indexCast v140
  let c0_74 : Index := 0#32
  ![0, v141.toNat, 0]
def k0_off2 (i : grid0.Coords) (k0_t1 : Fin (k0_t1_loop i).trips) : Fin 5 → Nat :=
  let c0_80 : Index := 0#32
  let c0_81 : Index := 0#32
  let c0_i32_39 : BitVec 32 := 0#32
  let c1_i32_41 : BitVec 32 := 1#32
  let arg12 : BitVec 32 := Scf.iv c0_i32_39 c1_i32_41 k0_t1
  let v156 : Index := Scalar.indexCast arg12
  let c0_82 : Index := 0#32
  let c0_83 : Index := 0#32
  ![0, 0, v156.toNat, 0, 0]
def k0_mult2 (i : grid0.Coords) (k0_t1 : Fin (k0_t1_loop i).trips) : BitVec 32 :=
  let c0_i32_39 : BitVec 32 := 0#32
  let c1_i32_41 : BitVec 32 := 1#32
  let arg12 : BitVec 32 := Scf.iv c0_i32_39 c1_i32_41 k0_t1
  let c256_i32_94 : BitVec 32 := 256#32
  let v171 : BitVec 32 := Scalar.muli arg12 c256_i32_94
  v171
def k0_mult3 (i : grid0.Coords) (k0_t1 : Fin (k0_t1_loop i).trips) : BitVec 32 :=
  let c0_i32_39 : BitVec 32 := 0#32
  let c1_i32_41 : BitVec 32 := 1#32
  let arg12 : BitVec 32 := Scf.iv c0_i32_39 c1_i32_41 k0_t1
  let c256_i32_116 : BitVec 32 := 256#32
  let v203 : BitVec 32 := Scalar.muli arg12 c256_i32_116
  v203
def k0_off3 (i : grid0.Coords) (k0_t1 : Fin (k0_t1_loop i).trips) : Fin 5 → Nat :=
  let c0_124 : Index := 0#32
  let c1_125 : Index := 1#32
  let c0_i32_39 : BitVec 32 := 0#32
  let c1_i32_41 : BitVec 32 := 1#32
  let arg12 : BitVec 32 := Scf.iv c0_i32_39 c1_i32_41 k0_t1
  let v220 : Index := Scalar.indexCast arg12
  let c0_126 : Index := 0#32
  let c0_127 : Index := 0#32
  ![0, 1, v220.toNat, 0, 0]
def k0_mult4 (i : grid0.Coords) (k0_t1 : Fin (k0_t1_loop i).trips) : BitVec 32 :=
  let c0_i32_39 : BitVec 32 := 0#32
  let c1_i32_41 : BitVec 32 := 1#32
  let arg12 : BitVec 32 := Scf.iv c0_i32_39 c1_i32_41 k0_t1
  let c256_i32_138 : BitVec 32 := 256#32
  let v235 : BitVec 32 := Scalar.muli arg12 c256_i32_138
  v235
@[reducible] def k0_t2_loop (i : grid0.Coords) : Scf.Loop 32 :=
  let c0_i32_39 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v53 : BitVec 32 := Scalar.subi v1 c0_i32_39
  let c1_i32_40 : BitVec 32 := 1#32
  let v55 : BitVec 32 := Scalar.divsi v53 c1_i32_40
  let v56 : BitVec 32 := Scalar.muli v55 c1_i32_40
  let v57 : BitVec 32 := Scalar.addi c0_i32_39 v56
  let v54 : BitVec 32 := Scalar.addi c0_i32_39 v53
  let c1_i32_42 : BitVec 32 := 1#32
  ⟨v57, v54, c1_i32_42⟩
def k0_mult5 (i : grid0.Coords) (k0_t2 : Fin (k0_t2_loop i).trips) : BitVec 32 :=
  let c0_i32_39 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v53 : BitVec 32 := Scalar.subi v1 c0_i32_39
  let c1_i32_40 : BitVec 32 := 1#32
  let v55 : BitVec 32 := Scalar.divsi v53 c1_i32_40
  let v56 : BitVec 32 := Scalar.muli v55 c1_i32_40
  let v57 : BitVec 32 := Scalar.addi c0_i32_39 v56
  let c1_i32_42 : BitVec 32 := 1#32
  let arg12 : BitVec 32 := Scf.iv v57 c1_i32_42 k0_t2
  let c256_i32 : BitVec 32 := 256#32
  let v139 : BitVec 32 := Scalar.muli arg12 c256_i32
  v139
def k0_off4 (i : grid0.Coords) (k0_t2 : Fin (k0_t2_loop i).trips) : Fin 3 → Nat :=
  let c0_73 : Index := 0#32
  let c0_i32_39 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v53 : BitVec 32 := Scalar.subi v1 c0_i32_39
  let c1_i32_40 : BitVec 32 := 1#32
  let v55 : BitVec 32 := Scalar.divsi v53 c1_i32_40
  let v56 : BitVec 32 := Scalar.muli v55 c1_i32_40
  let v57 : BitVec 32 := Scalar.addi c0_i32_39 v56
  let c1_i32_42 : BitVec 32 := 1#32
  let arg12 : BitVec 32 := Scf.iv v57 c1_i32_42 k0_t2
  let c256_i32 : BitVec 32 := 256#32
  let v139 : BitVec 32 := Scalar.muli arg12 c256_i32
  let v140 : BitVec 32 := v139
  let v141 : Index := Scalar.indexCast v140
  let c0_74 : Index := 0#32
  ![0, v141.toNat, 0]
def k0_off5 (i : grid0.Coords) (k0_t2 : Fin (k0_t2_loop i).trips) : Fin 5 → Nat :=
  let c0_80 : Index := 0#32
  let c0_81 : Index := 0#32
  let c0_i32_39 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v53 : BitVec 32 := Scalar.subi v1 c0_i32_39
  let c1_i32_40 : BitVec 32 := 1#32
  let v55 : BitVec 32 := Scalar.divsi v53 c1_i32_40
  let v56 : BitVec 32 := Scalar.muli v55 c1_i32_40
  let v57 : BitVec 32 := Scalar.addi c0_i32_39 v56
  let c1_i32_42 : BitVec 32 := 1#32
  let arg12 : BitVec 32 := Scf.iv v57 c1_i32_42 k0_t2
  let v156 : Index := Scalar.indexCast arg12
  let c0_82 : Index := 0#32
  let c0_83 : Index := 0#32
  ![0, 0, v156.toNat, 0, 0]
def k0_mult6 (i : grid0.Coords) (k0_t2 : Fin (k0_t2_loop i).trips) : BitVec 32 :=
  let c0_i32_39 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v53 : BitVec 32 := Scalar.subi v1 c0_i32_39
  let c1_i32_40 : BitVec 32 := 1#32
  let v55 : BitVec 32 := Scalar.divsi v53 c1_i32_40
  let v56 : BitVec 32 := Scalar.muli v55 c1_i32_40
  let v57 : BitVec 32 := Scalar.addi c0_i32_39 v56
  let c1_i32_42 : BitVec 32 := 1#32
  let arg12 : BitVec 32 := Scf.iv v57 c1_i32_42 k0_t2
  let c256_i32_94 : BitVec 32 := 256#32
  let v171 : BitVec 32 := Scalar.muli arg12 c256_i32_94
  v171
def k0_mult7 (i : grid0.Coords) (k0_t2 : Fin (k0_t2_loop i).trips) : BitVec 32 :=
  let c0_i32_39 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v53 : BitVec 32 := Scalar.subi v1 c0_i32_39
  let c1_i32_40 : BitVec 32 := 1#32
  let v55 : BitVec 32 := Scalar.divsi v53 c1_i32_40
  let v56 : BitVec 32 := Scalar.muli v55 c1_i32_40
  let v57 : BitVec 32 := Scalar.addi c0_i32_39 v56
  let c1_i32_42 : BitVec 32 := 1#32
  let arg12 : BitVec 32 := Scf.iv v57 c1_i32_42 k0_t2
  let c256_i32_116 : BitVec 32 := 256#32
  let v203 : BitVec 32 := Scalar.muli arg12 c256_i32_116
  v203
def k0_off6 (i : grid0.Coords) (k0_t2 : Fin (k0_t2_loop i).trips) : Fin 5 → Nat :=
  let c0_124 : Index := 0#32
  let c1_125 : Index := 1#32
  let c0_i32_39 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v53 : BitVec 32 := Scalar.subi v1 c0_i32_39
  let c1_i32_40 : BitVec 32 := 1#32
  let v55 : BitVec 32 := Scalar.divsi v53 c1_i32_40
  let v56 : BitVec 32 := Scalar.muli v55 c1_i32_40
  let v57 : BitVec 32 := Scalar.addi c0_i32_39 v56
  let c1_i32_42 : BitVec 32 := 1#32
  let arg12 : BitVec 32 := Scf.iv v57 c1_i32_42 k0_t2
  let v220 : Index := Scalar.indexCast arg12
  let c0_126 : Index := 0#32
  let c0_127 : Index := 0#32
  ![0, 1, v220.toNat, 0, 0]
def k0_mult8 (i : grid0.Coords) (k0_t2 : Fin (k0_t2_loop i).trips) : BitVec 32 :=
  let c0_i32_39 : BitVec 32 := 0#32
  let arg2 : BitVec 32 := BitVec.ofNat 32 (i 2).val
  let c0_i32 : BitVec 32 := 0#32
  let v0 : BitVec 1 := Scalar.cmpi .eq arg2 c0_i32
  let c1_i32 : BitVec 32 := 1#32
  let c33_i32 : BitVec 32 := 33#32
  let v1 : BitVec 32 := Scalar.select v0 c1_i32 c33_i32
  let v53 : BitVec 32 := Scalar.subi v1 c0_i32_39
  let c1_i32_40 : BitVec 32 := 1#32
  let v55 : BitVec 32 := Scalar.divsi v53 c1_i32_40
  let v56 : BitVec 32 := Scalar.muli v55 c1_i32_40
  let v57 : BitVec 32 := Scalar.addi c0_i32_39 v56
  let c1_i32_42 : BitVec 32 := 1#32
  let arg12 : BitVec 32 := Scf.iv v57 c1_i32_42 k0_t2
  let c256_i32_138 : BitVec 32 := 256#32
  let v235 : BitVec 32 := Scalar.muli arg12 c256_i32_138
  v235
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x33x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffRefIdeal.lean ====
abbrev S2x8448x384 : Shape := ⟨3, ![2, 8448, 384]⟩
abbrev S2x10x33x80x256 : Shape := ⟨5, ![2, 10, 33, 80, 256]⟩
abbrev S1x8x32 : Shape := ⟨3, ![1, 8, 32]⟩
abbrev S64 : Shape := ⟨1, ![64]⟩
abbrev S2x8448x6x2x32 : Shape := ⟨5, ![2, 8448, 6, 2, 32]⟩
abbrev S2x6x8448x2x32 : Shape := ⟨5, ![2, 6, 8448, 2, 32]⟩
abbrev S2x6x33x64x256 : Shape := ⟨5, ![2, 6, 33, 64, 256]⟩
abbrev S2x6x33x256x64 : Shape := ⟨5, ![2, 6, 33, 256, 64]⟩
abbrev S2x6x8448x64 : Shape := ⟨4, ![2, 6, 8448, 64]⟩
abbrev S1x1x32 : Shape := ⟨3, ![1, 1, 32]⟩
abbrev S32 : Shape := ⟨1, ![32]⟩
abbrev S1x1x1 : Shape := ⟨3, ![1, 1, 1]⟩
abbrev S_ : Shape := ⟨0, ![]⟩
abbrev S2x6x256x2x32 : Shape := ⟨5, ![2, 6, 256, 2, 32]⟩
abbrev S2x6x256x64 : Shape := ⟨4, ![2, 6, 256, 64]⟩
abbrev S2x6x2x256x256 : Shape := ⟨5, ![2, 6, 2, 256, 256]⟩
abbrev S2x6x2x256 : Shape := ⟨4, ![2, 6, 2, 256]⟩
abbrev S2x6x2x256x1 : Shape := ⟨5, ![2, 6, 2, 256, 1]⟩
abbrev S2x6x1x256x256 : Shape := ⟨5, ![2, 6, 1, 256, 256]⟩
abbrev S2x6x256x256 : Shape := ⟨4, ![2, 6, 256, 256]⟩
abbrev S2x6x8192x2x32 : Shape := ⟨5, ![2, 6, 8192, 2, 32]⟩
abbrev S2x6x2x8192x8448 : Shape := ⟨5, ![2, 6, 2, 8192, 8448]⟩
abbrev S2x6x2x8192 : Shape := ⟨4, ![2, 6, 2, 8192]⟩
abbrev S2x6x2x8192x1 : Shape := ⟨5, ![2, 6, 2, 8192, 1]⟩
abbrev S2x6x1x8192x8448 : Shape := ⟨5, ![2, 6, 1, 8192, 8448]⟩
abbrev S2x6x8192x8448 : Shape := ⟨4, ![2, 6, 8192, 8448]⟩
abbrev S2x6x8192x64 : Shape := ⟨4, ![2, 6, 8192, 64]⟩
abbrev S2x6x8448 : Shape := ⟨3, ![2, 6, 8448]⟩
abbrev S2x6x8448x1 : Shape := ⟨4, ![2, 6, 8448, 1]⟩
abbrev S1x1x1x64 : Shape := ⟨4, ![1, 1, 1, 64]⟩
abbrev S2x8448x6x64 : Shape := ⟨4, ![2, 8448, 6, 64]⟩

abbrev nBuf : Space → Nat
  | .hbm => 109
  | .vmem => 0
  | .smem => 0
  | _ => 0

abbrev bufTy : (tb : Table) → Fin (tcTables nBuf tb) → BufTy
  | .hbm, ⟨0, _⟩ => ⟨S2x8448x384, .bf16⟩
  | .hbm, ⟨1, _⟩ => ⟨S2x8448x384, .bf16⟩
  | .hbm, ⟨2, _⟩ => ⟨S2x10x33x80x256, .bf16⟩
  | .hbm, ⟨3, _⟩ => ⟨S1x8x32, .f32⟩
  | .hbm, ⟨4, _⟩ => ⟨S64, .f32⟩
  | .hbm, ⟨5, _⟩ => ⟨S2x8448x384, .f32⟩
  | .hbm, ⟨6, _⟩ => ⟨S2x8448x6x2x32, .f32⟩
  | .hbm, ⟨7, _⟩ => ⟨S2x6x8448x2x32, .f32⟩
  | .hbm, ⟨8, _⟩ => ⟨S2x8448x384, .f32⟩
  | .hbm, ⟨9, _⟩ => ⟨S2x8448x6x2x32, .f32⟩
  | .hbm, ⟨10, _⟩ => ⟨S2x6x8448x2x32, .f32⟩
  | .hbm, ⟨11, _⟩ => ⟨S2x6x33x64x256, .bf16⟩
  | .hbm, ⟨12, _⟩ => ⟨S2x6x33x64x256, .f32⟩
  | .hbm, ⟨13, _⟩ => ⟨S2x6x33x256x64, .f32⟩
  | .hbm, ⟨14, _⟩ => ⟨S2x6x8448x64, .f32⟩
  | .hbm, ⟨15, _⟩ => ⟨S1x1x32, .f32⟩
  | .hbm, ⟨16, _⟩ => ⟨S32, .f32⟩
  | .hbm, ⟨17, _⟩ => ⟨S1x1x32, .f32⟩
  | .hbm, ⟨18, _⟩ => ⟨S32, .f32⟩
  | .hbm, ⟨19, _⟩ => ⟨S1x1x32, .f32⟩
  | .hbm, ⟨20, _⟩ => ⟨S32, .f32⟩
  | .hbm, ⟨21, _⟩ => ⟨S1x1x32, .f32⟩
  | .hbm, ⟨22, _⟩ => ⟨S32, .f32⟩
  | .hbm, ⟨23, _⟩ => ⟨S1x1x1, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x6x256x2x32, .f32⟩
  | .hbm, ⟨36, _⟩ => ⟨S2x6x256x2x32, .f32⟩
  | .hbm, ⟨37, _⟩ => ⟨S2x6x256x64, .f32⟩
  | .hbm, ⟨38, _⟩ => ⟨S2x6x2x256x256, .f32⟩
  | .hbm, ⟨39, _⟩ => ⟨S_, .f32⟩
  | .hbm, ⟨40, _⟩ => ⟨S2x6x2x256, .f32⟩
  | .hbm, ⟨41, _⟩ => ⟨S_, .f32⟩
  | .hbm, ⟨42, _⟩ => ⟨S2x6x2x256, .f32⟩
  | .hbm, ⟨43, _⟩ => ⟨S2x6x2x256, .f32⟩
  | .hbm, ⟨44, _⟩ => ⟨S2x6x2x256x1, .f32⟩
  | .hbm, ⟨45, _⟩ => ⟨S2x6x2x256x256, .f32⟩
  | .hbm, ⟨46, _⟩ => ⟨S2x6x2x256x256, .f32⟩
  | .hbm, ⟨47, _⟩ => ⟨S2x6x2x256x256, .f32⟩
  | .hbm, ⟨48, _⟩ => ⟨S_, .f32⟩
  | .hbm, ⟨49, _⟩ => ⟨S2x6x2x256, .f32⟩
  | .hbm, ⟨50, _⟩ => ⟨S2x6x2x256x1, .f32⟩
  | .hbm, ⟨51, _⟩ => ⟨S2x6x2x256x256, .f32⟩
  | .hbm, ⟨52, _⟩ => ⟨S2x6x2x256x256, .f32⟩
  | .hbm, ⟨53, _⟩ => ⟨S2x6x1x256x256, .f32⟩
  | .hbm, ⟨54, _⟩ => ⟨S2x6x256x256, .f32⟩
  | .hbm, ⟨55, _⟩ => ⟨S2x6x1x256x256, .f32⟩
  | .hbm, ⟨56, _⟩ => ⟨S2x6x256x256, .f32⟩
  | .hbm, ⟨57, _⟩ => ⟨S2x6x256x256, .f32⟩
  | .hbm, ⟨58, _⟩ => ⟨S2x6x256x256, .f32⟩
  | .hbm, ⟨59, _⟩ => ⟨S2x6x256x256, .f32⟩
  | .hbm, ⟨60, _⟩ => ⟨S2x6x256x64, .f32⟩
  | .hbm, ⟨61, _⟩ => ⟨S2x6x8192x2x32, .f32⟩
  | .hbm, ⟨62, _⟩ => ⟨S2x6x2x8192x8448, .f32⟩
  | .hbm, ⟨63, _⟩ => ⟨S_, .f32⟩
  | .hbm, ⟨64, _⟩ => ⟨S2x6x2x8192, .f32⟩
  | .hbm, ⟨65, _⟩ => ⟨S_, .f32⟩
  | .hbm, ⟨66, _⟩ => ⟨S2x6x2x8192, .f32⟩
  | .hbm, ⟨67, _⟩ => ⟨S2x6x2x8192, .f32⟩
  | .hbm, ⟨68, _⟩ => ⟨S2x6x2x8192x1, .f32⟩
  | .hbm, ⟨69, _⟩ => ⟨S2x6x2x8192x8448, .f32⟩
  | .hbm, ⟨70, _⟩ => ⟨S2x6x2x8192x8448, .f32⟩
  | .hbm, ⟨71, _⟩ => ⟨S2x6x2x8192x8448, .f32⟩
  | .hbm, ⟨72, _⟩ => ⟨S_, .f32⟩
  | .hbm, ⟨73, _⟩ => ⟨S2x6x2x8192, .f32⟩
  | .hbm, ⟨74, _⟩ => ⟨S2x6x2x8192x1, .f32⟩
  | .hbm, ⟨75, _⟩ => ⟨S2x6x2x8192x8448, .f32⟩
  | .hbm, ⟨76, _⟩ => ⟨S2x6x2x8192x8448, .f32⟩
  | .hbm, ⟨77, _⟩ => ⟨S2x6x1x8192x8448, .f32⟩
  | .hbm, ⟨78, _⟩ => ⟨S2x6x8192x8448, .f32⟩
  | .hbm, ⟨79, _⟩ => ⟨S2x6x1x8192x8448, .f32⟩
  | .hbm, ⟨80, _⟩ => ⟨S2x6x8192x8448, .f32⟩
  | .hbm, ⟨81, _⟩ => ⟨S2x6x8192x8448, .f32⟩
  | .hbm, ⟨82, _⟩ => ⟨S2x6x8192x8448, .f32⟩
  | .hbm, ⟨83, _⟩ => ⟨S2x6x8192x8448, .f32⟩
  | .hbm, ⟨84, _⟩ => ⟨S2x6x8192x64, .f32⟩
  | .hbm, ⟨85, _⟩ => ⟨S2x6x8448x64, .f32⟩
  | .hbm, ⟨86, _⟩ => ⟨S2x6x8448x64, .f32⟩
  | .hbm, ⟨87, _⟩ => ⟨S_, .f32⟩
  | .hbm, ⟨88, _⟩ => ⟨S2x6x8448, .f32⟩
  | .hbm, ⟨89, _⟩ => ⟨S2x6x8448x1, .f32⟩
  | .hbm, ⟨90, _⟩ => ⟨S_, .f32⟩
  | .hbm, ⟨91, _⟩ => ⟨S2x6x8448x1, .f32⟩
  | .hbm, ⟨92, _⟩ => ⟨S2x6x8448x1, .f32⟩
  | .hbm, ⟨93, _⟩ => ⟨S_, .f32⟩
  | .hbm, ⟨94, _⟩ => ⟨S2x6x8448x1, .f32⟩
  | .hbm, ⟨95, _⟩ => ⟨S2x6x8448x1, .f32⟩
  | .hbm, ⟨96, _⟩ => ⟨S2x6x8448x1, .f32⟩
  | .hbm, ⟨97, _⟩ => ⟨S2x6x8448x64, .f32⟩
  | .hbm, ⟨98, _⟩ => ⟨S2x6x8448x64, .f32⟩
  | .hbm, ⟨99, _⟩ => ⟨S1x1x1x64, .f32⟩
  | .hbm, ⟨100, _⟩ => ⟨S2x6x8448x64, .f32⟩
  | .hbm, ⟨101, _⟩ => ⟨S2x6x8448x64, .f32⟩
  | .hbm, ⟨102, _⟩ => ⟨S_, .f32⟩
  | .hbm, ⟨103, _⟩ => ⟨S_, .f32⟩
  | .hbm, ⟨104, _⟩ => ⟨S2x6x8448x64, .f32⟩
  | .hbm, ⟨105, _⟩ => ⟨S2x6x8448x64, .f32⟩
  | .hbm, ⟨106, _⟩ => ⟨S2x8448x6x64, .f32⟩
  | .hbm, ⟨107, _⟩ => ⟨S2x8448x384, .f32⟩
  | .hbm, ⟨108, _⟩ => ⟨S2x8448x384, .bf16⟩
  | _, _ => ⟨S2x8448x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_7 : Ref sig .tc := ⟨.hbm, 87, rfl⟩
abbrev main_v74 : Ref sig .tc := ⟨.hbm, 88, rfl⟩
abbrev main_v75 : Ref sig .tc := ⟨.hbm, 89, rfl⟩
abbrev main_cst_8 : Ref sig .tc := ⟨.hbm, 90, rfl⟩
abbrev main_v76 : Ref sig .tc := ⟨.hbm, 91, rfl⟩
abbrev main_v77 : Ref sig .tc := ⟨.hbm, 92, rfl⟩
abbrev main_cst_9 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_10 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩

abbrev nD : Nat := 1
abbrev τ : Topo := Topo.v7x

variable {F : FTy → Type} [FloatOps F]
-- ==== Ffn.lean ====
abbrev S2x8448x1024 : Shape := ⟨3, ![2, 8448, 1024]⟩
abbrev S2x2x1x6144 : Shape := ⟨4, ![2, 2, 1, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1024x2816 : Shape := ⟨2, ![1024, 2816]⟩
abbrev S1024x11x256 : Shape := ⟨3, ![1024, 11, 256]⟩
abbrev S11x1024x256 : Shape := ⟨3, ![11, 1024, 256]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S8x2816 : Shape := ⟨2, ![8, 2816]⟩
abbrev S8x11x256 : Shape := ⟨3, ![8, 11, 256]⟩
abbrev S11x8x256 : Shape := ⟨3, ![11, 8, 256]⟩
abbrev S11x256x1024 : Shape := ⟨3, ![11, 256, 1024]⟩
abbrev S1x1024 : Shape := ⟨2, ![1, 1024]⟩
abbrev S1x256x1024 : Shape := ⟨3, ![1, 256, 1024]⟩
abbrev S1x8x1024 : Shape := ⟨3, ![1, 8, 1024]⟩
abbrev S1x1x1x6144 : Shape := ⟨4, ![1, 1, 1, 6144]⟩
abbrev S256x1024 : Shape := ⟨2, ![256, 1024]⟩
abbrev S1x6144 : Shape := ⟨2, ![1, 6144]⟩
abbrev S8x1024 : Shape := ⟨2, ![8, 1024]⟩
abbrev S8 : Shape := ⟨1, ![8]⟩
abbrev S8x1 : Shape := ⟨2, ![8, 1]⟩
abbrev S256 : Shape := ⟨1, ![256]⟩
abbrev S256x1 : Shape := ⟨2, ![256, 1]⟩
abbrev S272x1024 : Shape := ⟨2, ![272, 1024]⟩
abbrev S1x1024x256 : Shape := ⟨3, ![1, 1024, 256]⟩
abbrev S1024x256 : Shape := ⟨2, ![1024, 256]⟩
abbrev S272x256 : Shape := ⟨2, ![272, 256]⟩
abbrev S1x8x256 : Shape := ⟨3, ![1, 8, 256]⟩
abbrev S8x256 : Shape := ⟨2, ![8, 256]⟩
abbrev S256x256 : Shape := ⟨2, ![256, 256]⟩
abbrev S1x256 : Shape := ⟨2, ![1, 256]⟩

abbrev nBuf : Space → Nat
  | .hbm => 30
  | .vmem => 18
  | .smem => 0
  | _ => 0

abbrev bufTy : (tb : Table) → Fin (tcTables nBuf tb) → BufTy
  | .hbm, ⟨0, _⟩ => ⟨S2x8448x1024, .f32⟩
  | .hbm, ⟨1, _⟩ => ⟨S2x2x1x6144, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x5632, .bf16⟩
  | .hbm, ⟨9, _⟩ => ⟨S1024x2816, .bf16⟩
  | .hbm, ⟨10, _⟩ => ⟨S1024x11x256, .bf16⟩
  | .hbm, ⟨11, _⟩ => ⟨S11x1024x256, .bf16⟩
  | .hbm, ⟨12, _⟩ => ⟨S1024x2816, .bf16⟩
  | .hbm, ⟨13, _⟩ => ⟨S1024x11x256, .bf16⟩
  | .hbm, ⟨14, _⟩ => ⟨S11x1024x256, .bf16⟩
  | .hbm, ⟨15, _⟩ => ⟨S1x5632, .f32⟩
  | .hbm, ⟨16, _⟩ => ⟨S_, .f32⟩
  | .hbm, ⟨17, _⟩ => ⟨S4x5632, .f32⟩
  | .hbm, ⟨18, _⟩ => ⟨S8x5632, .f32⟩
  | .hbm, ⟨19, _⟩ => ⟨S8x2816, .f32⟩
  | .hbm, ⟨20, _⟩ => ⟨S8x11x256, .f32⟩
  | .hbm, ⟨21, _⟩ => ⟨S11x8x256, .f32⟩
  | .hbm, ⟨22, _⟩ => ⟨S8x2816, .f32⟩
  | .hbm, ⟨23, _⟩ => ⟨S8x11x256, .f32⟩
  | .hbm, ⟨24, _⟩ => ⟨S11x8x256, .f32⟩
  | .hbm, ⟨25, _⟩ => ⟨S2816x1024, .bf16⟩
  | .hbm, ⟨26, _⟩ => ⟨S11x256x1024, .bf16⟩
  | .hbm, ⟨27, _⟩ => ⟨S1x1024, .f32⟩
  | .hbm, ⟨28, _⟩ => ⟨S1x1024, .f32⟩
  | .hbm, ⟨29, _⟩ => ⟨S2x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1x6144, .f32⟩
  | .local _ .vmem, ⟨7, _⟩ => ⟨S1x1x1x6144, .f32⟩
  | .local _ .vmem, ⟨8, _⟩ => ⟨S11x1024x256, .bf16⟩
  | .local _ .vmem, ⟨9, _⟩ => ⟨S11x1024x256, .bf16⟩
  | .local _ .vmem, ⟨10, _⟩ => ⟨S11x8x256, .f32⟩
  | .local _ .vmem, ⟨11, _⟩ => ⟨S11x8x256, .f32⟩
  | .local _ .vmem, ⟨12, _⟩ => ⟨S11x256x1024, .bf16⟩
  | .local _ .vmem, ⟨13, _⟩ => ⟨S1x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 33], ![false, false]⟩

@[reducible] def k0_t1_loop : Scf.Loop 32 :=
  let c0_i32_37 : BitVec 32 := 0#32
  let c11_i32 : BitVec 32 := 11#32
  let v95 : BitVec 32 := Scalar.addi c0_i32_37 c11_i32
  let c1_i32_38 : BitVec 32 := 1#32
  ⟨c0_i32_37, v95, c1_i32_38⟩
def k0_off1 (k0_t1 : Fin k0_t1_loop.trips) : Fin 3 → Nat :=
  let c0_i32_37 : BitVec 32 := 0#32
  let c1_i32_38 : BitVec 32 := 1#32
  let arg15 : BitVec 32 := Scf.iv c0_i32_37 c1_i32_38 k0_t1
  let v129 : Index := Scalar.indexCast arg15
  let c0_55 : Index := 0#32
  let c0_56 : Index := 0#32
  ![v129.toNat, 0, 0]
def k0_off2 (k0_t1 : Fin k0_t1_loop.trips) : Fin 3 → Nat :=
  let c0_i32_37 : BitVec 32 := 0#32
  let c1_i32_38 : BitVec 32 := 1#32
  let arg15 : BitVec 32 := Scf.iv c0_i32_37 c1_i32_38 k0_t1
  let v133 : Index := Scalar.indexCast arg15
  let c0_58 : Index := 0#32
  let c0_59 : Index := 0#32
  ![v133.toNat, 0, 0]
def k0_off3 (k0_t1 : Fin k0_t1_loop.trips) : Fin 3 → Nat :=
  let c0_i32_37 : BitVec 32 := 0#32
  let c1_i32_38 : BitVec 32 := 1#32
  let arg15 : BitVec 32 := Scf.iv c0_i32_37 c1_i32_38 k0_t1
  let v182 : Index := Scalar.indexCast arg15
  let c0_67 : Index := 0#32
  let c0_68 : Index := 0#32
  ![v182.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S11x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnRefIdeal.lean ====
abbrev S2x8448x1024 : Shape := ⟨3, ![2, 8448, 1024]⟩
abbrev S2x2x1x6144 : Shape := ⟨4, ![2, 2, 1, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x1x1x6144 : Shape := ⟨4, ![2, 1, 1, 6144]⟩
abbrev S2x1x6144 : Shape := ⟨3, ![2, 1, 6144]⟩
abbrev S2x256x6144 : Shape := ⟨3, ![2, 256, 6144]⟩
abbrev S2x8192x6144 : Shape := ⟨3, ![2, 8192, 6144]⟩
abbrev S2x8448x6144 : Shape := ⟨3, ![2, 8448, 6144]⟩
abbrev S_ : Shape := ⟨0, ![]⟩
abbrev S2x8448 : Shape := ⟨2, ![2, 8448]⟩
abbrev S2x8448x1 : Shape := ⟨3, ![2, 8448, 1]⟩
abbrev S2x8448x5632 : Shape := ⟨3, ![2, 8448, 5632]⟩
abbrev S2x256x5632 : Shape := ⟨3, ![2, 256, 5632]⟩
abbrev S2x1x5632 : Shape := ⟨3, ![2, 1, 5632]⟩
abbrev S2x255x5632 : Shape := ⟨3, ![2, 255, 5632]⟩
abbrev S1x5632 : Shape := ⟨2, ![1, 5632]⟩
abbrev S1x1x5632 : Shape := ⟨3, ![1, 1, 5632]⟩
abbrev S2x8192x5632 : Shape := ⟨3, ![2, 8192, 5632]⟩
abbrev S2x8191x5632 : Shape := ⟨3, ![2, 8191, 5632]⟩
abbrev S2x8448x2816 : Shape := ⟨3, ![2, 8448, 2816]⟩
abbrev S1x1x1024 : Shape := ⟨3, ![1, 1, 1024]⟩

abbrev nBuf : Space → Nat
  | .hbm => 149
  | .vmem => 0
  | .smem => 0
  | _ => 0

abbrev hbmTy0_0 (i : Nat) : BufTy := match i % 128 with
  | 0 => ⟨S2x8448x1024, .f32⟩
  | 1 => ⟨S2x2x1x6144, .f32⟩
  | 2 => ⟨S1024x5632, .f32⟩
  | 3 => ⟨S3x5632, .f32⟩
  | 4 => ⟨S5632, .f32⟩
  | 5 => ⟨S2816x1024, .f32⟩
  | 6 => ⟨S1024, .f32⟩
  | 7 => ⟨S1024, .f32⟩
  | 8 => ⟨S2x1x1x6144, .f32⟩
  | 9 => ⟨S2x1x6144, .f32⟩
  | 10 => ⟨S2x256x6144, .f32⟩
  | 11 => ⟨S2x1x1x6144, .f32⟩
  | 12 => ⟨S2x1x6144, .f32⟩
  | 13 => ⟨S2x8192x6144, .f32⟩
  | 14 => ⟨S2x8448x6144, .f32⟩
  | 15 => ⟨S2x8448x1024, .f32⟩
  | 16 => ⟨S2x8448x1024, .f32⟩
  | 17 => ⟨S2x8448x1024, .f32⟩
  | 18 => ⟨S_, .f32⟩
  | 19 => ⟨S2x8448, .f32⟩
  | 20 => ⟨S2x8448x1, .f32⟩
  | 21 => ⟨S_, .f32⟩
  | 22 => ⟨S2x8448x1, .f32⟩
  | 23 => ⟨S2x8448x1, .f32⟩
  | 24 => ⟨S2x8448x1024, .f32⟩
  | 25 => ⟨S2x8448x1024, .f32⟩
  | 26 => ⟨S2x8448x1024, .f32⟩
  | 27 => ⟨S_, .f32⟩
  | 28 => ⟨S2x8448, .f32⟩
  | 29 => ⟨S2x8448x1, .f32⟩
  | 30 => ⟨S_, .f32⟩
  | 31 => ⟨S2x8448x1, .f32⟩
  | 32 => ⟨S2x8448x1, .f32⟩
  | 33 => ⟨S2x8448x1024, .f32⟩
  | 34 => ⟨S2x8448x1024, .f32⟩
  | 35 => ⟨S_, .f32⟩
  | 36 => ⟨S2x8448x1, .f32⟩
  | 37 => ⟨S2x8448x1, .f32⟩
  | 38 => ⟨S2x8448x1, .f32⟩
  | 39 => ⟨S2x8448x1024, .f32⟩
  | 40 => ⟨S2x8448x1024, .f32⟩
  | 41 => ⟨S_, .f32⟩
  | 42 => ⟨S2x8448x1024, .f32⟩
  | 43 => ⟨S2x8448x1024, .f32⟩
  | 44 => ⟨S2x8448x1024, .f32⟩
  | 45 => ⟨S2x8448x1024, .f32⟩
  | 46 => ⟨S2x8448x5632, .f32⟩
  | 47 => ⟨S2x256x5632, .f32⟩
  | 48 => ⟨S_, .f32⟩
  | 49 => ⟨S2x1x5632, .f32⟩
  | 50 => ⟨S2x255x5632, .f32⟩
  | 51 => ⟨S2x256x5632, .f32⟩
  | 52 => ⟨S2x255x5632, .f32⟩
  | 53 => ⟨S2x256x5632, .f32⟩
  | 54 => ⟨S1x5632, .f32⟩
  | 55 => ⟨S5632, .f32⟩
  | 56 => ⟨S1x1x5632, .f32⟩
  | 57 => ⟨S2x256x5632, .f32⟩
  | 58 => ⟨S2x256x5632, .f32⟩
  | 59 => ⟨S1x5632, .f32⟩
  | 60 => ⟨S5632, .f32⟩
  | 61 => ⟨S1x1x5632, .f32⟩
  | 62 => ⟨S2x256x5632, .f32⟩
  | 63 => ⟨S2x256x5632, .f32⟩
  | 64 => ⟨S2x256x5632, .f32⟩
  | 65 => ⟨S1x5632, .f32⟩
  | 66 => ⟨S5632, .f32⟩
  | 67 => ⟨S1x1x5632, .f32⟩
  | 68 => ⟨S2x256x5632, .f32⟩
  | 69 => ⟨S2x256x5632, .f32⟩
  | 70 => ⟨S2x256x5632, .f32⟩
  | 71 => ⟨S1x1x5632, .f32⟩
  | 72 => ⟨S2x256x5632, .f32⟩
  | 73 => ⟨S2x256x5632, .f32⟩
  | 74 => ⟨S2x8192x5632, .f32⟩
  | 75 => ⟨S_, .f32⟩
  | 76 => ⟨S2x1x5632, .f32⟩
  | 77 => ⟨S2x8191x5632, .f32⟩
  | 78 => ⟨S2x8192x5632, .f32⟩
  | 79 => ⟨S2x8191x5632, .f32⟩
  | 80 => ⟨S2x8192x5632, .f32⟩
  | 81 => ⟨S1x5632, .f32⟩
  | 82 => ⟨S5632, .f32⟩
  | 83 => ⟨S1x1x5632, .f32⟩
  | 84 => ⟨S2x8192x5632, .f32⟩
  | 85 => ⟨S2x8192x5632, .f32⟩
  | 86 => ⟨S1x5632, .f32⟩
  | 87 => ⟨S5632, .f32⟩
  | 88 => ⟨S1x1x5632, .f32⟩
  | 89 => ⟨S2x8192x5632, .f32⟩
  | 90 => ⟨S2x8192x5632, .f32⟩
  | 91 => ⟨S2x8192x5632, .f32⟩
  | 92 => ⟨S1x5632, .f32⟩
  | 93 => ⟨S5632, .f32⟩
  | 94 => ⟨S1x1x5632, .f32⟩
  | 95 => ⟨S2x8192x5632, .f32⟩
  | 96 => ⟨S2x8192x5632, .f32⟩
  | 97 => ⟨S2x8192x5632, .f32⟩
  | 98 => ⟨S1x1x5632, .f32⟩
  | 99 => ⟨S2x8192x5632, .f32⟩
  | 100 => ⟨S2x8192x5632, .f32⟩
  | 101 => ⟨S2x8448x5632, .f32⟩
  | 102 => ⟨S2x8448x2816, .f32⟩
  | 103 => ⟨S2x8448x2816, .f32⟩
  | 104 => ⟨S2x8448x2816, .f32⟩
  | 105 => ⟨S2x8448x2816, .f32⟩
  | 106 => ⟨S_, .f32⟩
  | 107 => ⟨S2x8448x2816, .f32⟩
  | 108 => ⟨S2x8448x2816, .f32⟩
  | 109 => ⟨S_, .f32⟩
  | 110 => ⟨S2x8448x2816, .f32⟩
  | 111 => ⟨S2x8448x2816, .f32⟩
  | 112 => ⟨S2x8448x2816, .f32⟩
  | 113 => ⟨S2x8448x2816, .f32⟩
  | 114 => ⟨S2x8448x1024, .f32⟩
  | 115 => ⟨S_, .f32⟩
  | 116 => ⟨S2x8448x1024, .f32⟩
  | 117 => ⟨S2x8448x1024, .f32⟩
  | 118 => ⟨S2x8448x1024, .f32⟩
  | 119 => ⟨S2x8448x1024, .f32⟩
  | 120 => ⟨S_, .f32⟩
  | 121 => ⟨S2x8448, .f32⟩
  | 122 => ⟨S2x8448x1, .f32⟩
  | 123 => ⟨S_, .f32⟩
  | 124 => ⟨S2x8448x1, .f32⟩
  | 125 => ⟨S2x8448x1, .f32⟩
  | 126 => ⟨S2x8448x1024, .f32⟩
  | 127 => ⟨S2x8448x1024, .f32⟩
  | _ => ⟨S2x8448x1024, .f32⟩

abbrev hbmTy0_1 (i : Nat) : BufTy := match i % 128 with
  | 0 => ⟨S2x8448x1024, .f32⟩
  | 1 => ⟨S_, .f32⟩
  | 2 => ⟨S2x8448, .f32⟩
  | 3 => ⟨S2x8448x1, .f32⟩
  | 4 => ⟨S_, .f32⟩
  | 5 => ⟨S2x8448x1, .f32⟩
  | 6 => ⟨S2x8448x1, .f32⟩
  | 7 => ⟨S2x8448x1024, .f32⟩
  | 8 => ⟨S2x8448x1024, .f32⟩
  | 9 => ⟨S_, .f32⟩
  | 10 => ⟨S2x8448x1, .f32⟩
  | 11 => ⟨S2x8448x1, .f32⟩
  | 12 => ⟨S2x8448x1, .f32⟩
  | 13 => ⟨S2x8448x1024, .f32⟩
  | 14 => ⟨S2x8448x1024, .f32⟩
  | 15 => ⟨S1x1x1024, .f32⟩
  | 16 => ⟨S2x8448x1024, .f32⟩
  | 17 => ⟨S2x8448x1024, .f32⟩
  | 18 => ⟨S1x1x1024, .f32⟩
  | 19 => ⟨S2x8448x1024, .f32⟩
  | 20 => ⟨S2x8448x1024, .f32⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_7 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_8 : Ref sig .tc := ⟨.hbm, 120, rfl⟩
abbrev main_v95 : Ref sig .tc := ⟨.hbm, 121, rfl⟩
abbrev main_v96 : Ref sig .tc := ⟨.hbm, 122, rfl⟩
abbrev main_cst_9 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_10 : Ref sig .tc := ⟨.hbm, 129, rfl⟩
abbrev main_v102 : Ref sig .tc := ⟨.hbm, 130, rfl⟩
abbrev main_v103 : Ref sig .tc := ⟨.hbm, 131, rfl⟩
abbrev main_cst_11 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_12 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩

abbrev nD : Nat := 1
abbrev τ : Topo := Topo.v7x

variable {F : FTy → Type} [FloatOps F]
-- ==== Out.lean ====
abbrev S2x8448x1024 : Shape := ⟨3, ![2, 8448, 1024]⟩
abbrev S2x8448x384 : Shape := ⟨3, ![2, 8448, 384]⟩
abbrev S2x8448x256 : Shape := ⟨3, ![2, 8448, 256]⟩
abbrev S2x2x1x6144 : Shape := ⟨4, ![2, 2, 1, 6144]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S1x256x384 : Shape := ⟨3, ![1, 256, 384]⟩
abbrev S1x256x256 : Shape := ⟨3, ![1, 256, 256]⟩
abbrev S1x1x1x6144 : Shape := ⟨4, ![1, 1, 1, 6144]⟩
abbrev S256x384 : Shape := ⟨2, ![256, 384]⟩
abbrev S256x256 : Shape := ⟨2, ![256, 256]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S2x8448x1024, .f32⟩
  | .hbm, ⟨1, _⟩ => ⟨S2x8448x384, .bf16⟩
  | .hbm, ⟨2, _⟩ => ⟨S2x8448x384, .bf16⟩
  | .hbm, ⟨3, _⟩ => ⟨S2x8448x256, .bf16⟩
  | .hbm, ⟨4, _⟩ => ⟨S2x2x1x6144, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S2x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x384, .bf16⟩
  | .local _ .vmem, ⟨3, _⟩ => ⟨S1x256x384, .bf16⟩
  | .local _ .vmem, ⟨4, _⟩ => ⟨S1x256x384, .bf16⟩
  | .local _ .vmem, ⟨5, _⟩ => ⟨S1x256x384, .bf16⟩
  | .local _ .vmem, ⟨6, _⟩ => ⟨S1x256x256, .bf16⟩
  | .local _ .vmem, ⟨7, _⟩ => ⟨S1x256x256, .bf16⟩
  | .local _ .vmem, ⟨8, _⟩ => ⟨S1x1x1x6144, .f32⟩
  | .local _ .vmem, ⟨9, _⟩ => ⟨S1x1x1x6144, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x256x1024, .f32⟩
  | .local _ .vmem, ⟨14, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutRefIdeal.lean ====
abbrev S2x8448x1024 : Shape := ⟨3, ![2, 8448, 1024]⟩
abbrev S2x8448x384 : Shape := ⟨3, ![2, 8448, 384]⟩
abbrev S2x8448x256 : Shape := ⟨3, ![2, 8448, 256]⟩
abbrev S2x2x1x6144 : Shape := ⟨4, ![2, 2, 1, 6144]⟩
abbrev S1024x1024 : Shape := ⟨2, ![1024, 1024]⟩
abbrev S1024 : Shape := ⟨1, ![1024]⟩
abbrev S2x1x1x1024 : Shape := ⟨4, ![2, 1, 1, 1024]⟩
abbrev S2x1x1024 : Shape := ⟨3, ![2, 1, 1024]⟩
abbrev S2x256x1024 : Shape := ⟨3, ![2, 256, 1024]⟩
abbrev S2x8192x1024 : Shape := ⟨3, ![2, 8192, 1024]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x384, .bf16⟩
  | .hbm, ⟨2, _⟩ => ⟨S2x8448x384, .bf16⟩
  | .hbm, ⟨3, _⟩ => ⟨S2x8448x256, .bf16⟩
  | .hbm, ⟨4, _⟩ => ⟨S2x2x1x6144, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S2x1x1x1024, .f32⟩
  | .hbm, ⟨9, _⟩ => ⟨S2x1x1024, .f32⟩
  | .hbm, ⟨10, _⟩ => ⟨S2x256x1024, .f32⟩
  | .hbm, ⟨11, _⟩ => ⟨S2x1x1x1024, .f32⟩
  | .hbm, ⟨12, _⟩ => ⟨S2x1x1024, .f32⟩
  | .hbm, ⟨13, _⟩ => ⟨S2x8192x1024, .f32⟩
  | .hbm, ⟨14, _⟩ => ⟨S2x8448x1024, .f32⟩
  | .hbm, ⟨15, _⟩ => ⟨S2x8448x384, .f32⟩
  | .hbm, ⟨16, _⟩ => ⟨S2x8448x384, .f32⟩
  | .hbm, ⟨17, _⟩ => ⟨S2x8448x256, .f32⟩
  | .hbm, ⟨18, _⟩ => ⟨S2x8448x1024, .f32⟩
  | .hbm, ⟨19, _⟩ => ⟨S2x8448x1024, .f32⟩
  | .hbm, ⟨20, _⟩ => ⟨S_, .f32⟩
  | .hbm, ⟨21, _⟩ => ⟨S2x8448x1024, .f32⟩
  | .hbm, ⟨22, _⟩ => ⟨S2x8448x1024, .f32⟩
  | .hbm, ⟨23, _⟩ => ⟨S2x8448x1024, .f32⟩
  | .hbm, ⟨24, _⟩ => ⟨S2x8448x1024, .f32⟩
  | .hbm, ⟨25, _⟩ => ⟨S_, .f32⟩
  | .hbm, ⟨26, _⟩ => ⟨S2x8448, .f32⟩
  | .hbm, ⟨27, _⟩ => ⟨S2x8448x1, .f32⟩
  | .hbm, ⟨28, _⟩ => ⟨S_, .f32⟩
  | .hbm, ⟨29, _⟩ => ⟨S2x8448x1, .f32⟩
  | .hbm, ⟨30, _⟩ => ⟨S2x8448x1, .f32⟩
  | .hbm, ⟨31, _⟩ => ⟨S2x8448x1024, .f32⟩
  | .hbm, ⟨32, _⟩ => ⟨S2x8448x1024, .f32⟩
  | .hbm, ⟨33, _⟩ => ⟨S2x8448x1024, .f32⟩
  | .hbm, ⟨34, _⟩ => ⟨S_, .f32⟩
  | .hbm, ⟨35, _⟩ => ⟨S2x8448, .f32⟩
  | .hbm, ⟨36, _⟩ => ⟨S2x8448x1, .f32⟩
  | .hbm, ⟨37, _⟩ => ⟨S_, .f32⟩
  | .hbm, ⟨38, _⟩ => ⟨S2x8448x1, .f32⟩
  | .hbm, ⟨39, _⟩ => ⟨S2x8448x1, .f32⟩
  | .hbm, ⟨40, _⟩ => ⟨S2x8448x1024, .f32⟩
  | .hbm, ⟨41, _⟩ => ⟨S2x8448x1024, .f32⟩
  | .hbm, ⟨42, _⟩ => ⟨S_, .f32⟩
  | .hbm, ⟨43, _⟩ => ⟨S2x8448x1, .f32⟩
  | .hbm, ⟨44, _⟩ => ⟨S2x8448x1, .f32⟩
  | .hbm, ⟨45, _⟩ => ⟨S2x8448x1, .f32⟩
  | .hbm, ⟨46, _⟩ => ⟨S2x8448x1024, .f32⟩
  | .hbm, ⟨47, _⟩ => ⟨S2x8448x1024, .f32⟩
  | .hbm, ⟨48, _⟩ => ⟨S1x1x1024, .f32⟩
  | .hbm, ⟨49, _⟩ => ⟨S2x8448x1024, .f32⟩
  | .hbm, ⟨50, _⟩ => ⟨S2x8448x1024, .f32⟩
  | .hbm, ⟨51, _⟩ => ⟨S1x1x1024, .f32⟩
  | .hbm, ⟨52, _⟩ => ⟨S2x8448x1024, .f32⟩
  | .hbm, ⟨53, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== In.lean ====
abbrev S2x8448x1024 : Shape := ⟨3, ![2, 8448, 1024]⟩
abbrev S2x2x1x6144 : Shape := ⟨4, ![2, 2, 1, 6144]⟩
abbrev S1024x2720 : Shape := ⟨2, ![1024, 2720]⟩
abbrev S256 : Shape := ⟨1, ![256]⟩
abbrev S128 : Shape := ⟨1, ![128]⟩
abbrev S256x384 : Shape := ⟨2, ![256, 384]⟩
abbrev S128x512 : Shape := ⟨2, ![128, 512]⟩
abbrev S32 : Shape := ⟨1, ![32]⟩
abbrev S384 : Shape := ⟨1, ![384]⟩
abbrev S8192 : Shape := ⟨1, ![8192]⟩
abbrev S_ : Shape := ⟨0, ![]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S8192x32 : Shape := ⟨2, ![8192, 32]⟩
abbrev S256x32 : Shape := ⟨2, ![256, 32]⟩
abbrev S8448x32 : Shape := ⟨2, ![8448, 32]⟩
abbrev S1x8448x1x32 : Shape := ⟨4, ![1, 8448, 1, 32]⟩
abbrev S1x8448x4x32 : Shape := ⟨4, ![1, 8448, 4, 32]⟩
abbrev S8448x128 : Shape := ⟨2, ![8448, 128]⟩
abbrev S8448x64 : Shape := ⟨2, ![8448, 64]⟩
abbrev S1024x384 : Shape := ⟨2, ![1024, 384]⟩
abbrev S1024x256 : Shape := ⟨2, ![1024, 256]⟩
abbrev S1024x128 : Shape := ⟨2, ![1024, 128]⟩
abbrev S1024x32 : Shape := ⟨2, ![1024, 32]⟩
abbrev S1024x64 : Shape := ⟨2, ![1024, 64]⟩
abbrev S32x1 : Shape := ⟨2, ![32, 1]⟩
abbrev S1x32 : Shape := ⟨2, ![1, 32]⟩
abbrev S384x1 : Shape := ⟨2, ![384, 1]⟩
abbrev S1x384 : Shape := ⟨2, ![1, 384]⟩
abbrev S1024x3328 : Shape := ⟨2, ![1024, 3328]⟩
abbrev S384x1024 : Shape := ⟨2, ![384, 1024]⟩
abbrev S256x4x96 : Shape := ⟨3, ![256, 4, 96]⟩
abbrev S256x4x32 : Shape := ⟨3, ![256, 4, 32]⟩
abbrev S256x4x128 : Shape := ⟨3, ![256, 4, 128]⟩
abbrev S256x512 : Shape := ⟨2, ![256, 512]⟩
abbrev S256x4x64 : Shape := ⟨3, ![256, 4, 64]⟩
abbrev S1x1x32 : Shape := ⟨3, ![1, 1, 32]⟩
abbrev S256x1024 : Shape := ⟨2, ![256, 1024]⟩
abbrev S128x4x128 : Shape := ⟨3, ![128, 4, 128]⟩
abbrev S128x4x64 : Shape := ⟨3, ![128, 4, 64]⟩
abbrev S128x256 : Shape := ⟨2, ![128, 256]⟩
abbrev S256x128 : Shape := ⟨2, ![256, 128]⟩
abbrev S1x256 : Shape := ⟨2, ![1, 256]⟩
abbrev S1x128 : Shape := ⟨2, ![1, 128]⟩
abbrev S2x8448x384 : Shape := ⟨3, ![2, 8448, 384]⟩
abbrev S2x8448x512 : Shape := ⟨3, ![2, 8448, 512]⟩
abbrev S2x10x33x80x256 : Shape := ⟨5, ![2, 10, 33, 80, 256]⟩
abbrev S1x256x1024 : Shape := ⟨3, ![1, 256, 1024]⟩
abbrev S1x1x1x6144 : Shape := ⟨4, ![1, 1, 1, 6144]⟩
abbrev S1x256x384 : Shape := ⟨3, ![1, 256, 384]⟩
abbrev S1x256x512 : Shape := ⟨3, ![1, 256, 512]⟩
abbrev S1x10x1x80x256 : Shape := ⟨5, ![1, 10, 1, 80, 256]⟩
abbrev S1x6144 : Shape := ⟨2, ![1, 6144]⟩
abbrev S256x1 : Shape := ⟨2, ![256, 1]⟩
abbrev S1x1024 : Shape := ⟨2, ![1, 1024]⟩
abbrev S256x3328 : Shape := ⟨2, ![256, 3328]⟩
abbrev S256x256 : Shape := ⟨2, ![256, 256]⟩
abbrev S384x256 : Shape := ⟨2, ![384, 256]⟩
abbrev S16x256 : Shape := ⟨2, ![16, 256]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩

abbrev nBuf : Space → Nat
  | .hbm => 205
  | .vmem => 35
  | .smem => 0
  | _ => 0

abbrev hbmTy0_0 (i : Nat) : BufTy := match i % 128 with
  | 0 => ⟨S2x8448x1024, .f32⟩
  | 1 => ⟨S2x2x1x6144, .f32⟩
  | 2 => ⟨S1024x2720, .f32⟩
  | 3 => ⟨S256, .f32⟩
  | 4 => ⟨S128, .f32⟩
  | 5 => ⟨S256x384, .f32⟩
  | 6 => ⟨S128x512, .f32⟩
  | 7 => ⟨S32, .i32⟩
  | 8 => ⟨S32, .i1⟩
  | 9 => ⟨S32, .f32⟩
  | 10 => ⟨S384, .i32⟩
  | 11 => ⟨S384, .i1⟩
  | 12 => ⟨S384, .f32⟩
  | 13 => ⟨S384, .i1⟩
  | 14 => ⟨S32, .i1⟩
  | 15 => ⟨S8192, .i32⟩
  | 16 => ⟨S_, .i32⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i1⟩
  | 24 => ⟨S8192, .i32⟩
  | 25 => ⟨S8192, .i32⟩
  | 26 => ⟨S_, .i32⟩
  | 27 => ⟨S8192, .i32⟩
  | 28 => ⟨S8192, .i1⟩
  | 29 => ⟨S8192, .i1⟩
  | 30 => ⟨S_, .i32⟩
  | 31 => ⟨S8192, .i32⟩
  | 32 => ⟨S8192, .i32⟩
  | 33 => ⟨S8192, .i32⟩
  | 34 => ⟨S8192, .f32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i1⟩
  | 49 => ⟨S_, .i32⟩
  | 50 => ⟨S_, .i1⟩
  | 51 => ⟨S8192, .i1⟩
  | 52 => ⟨S8192, .i1⟩
  | 53 => ⟨S8192, .i1⟩
  | 54 => ⟨S8192, .i32⟩
  | 55 => ⟨S8192, .i32⟩
  | 56 => ⟨S8192, .i32⟩
  | 57 => ⟨S8192, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S8192x1, .f32⟩
  | 73 => ⟨S1x8, .f32⟩
  | 74 => ⟨S8192x8, .f32⟩
  | 75 => ⟨S8192x8, .f32⟩
  | 76 => ⟨S8192x8, .f32⟩
  | 77 => ⟨S8192x16, .f32⟩
  | 78 => ⟨S8192x16, .f32⟩
  | 79 => ⟨S8192x16, .f32⟩
  | 80 => ⟨S8192x1, .f32⟩
  | 81 => ⟨S1x8, .f32⟩
  | 82 => ⟨S8192x8, .f32⟩
  | 83 => ⟨S8192x8, .f32⟩
  | 84 => ⟨S8192x8, .f32⟩
  | 85 => ⟨S8192x16, .f32⟩
  | 86 => ⟨S8192x16, .f32⟩
  | 87 => ⟨S8192x16, .f32⟩
  | 88 => ⟨S8192x32, .f32⟩
  | 89 => ⟨S8192x32, .f32⟩
  | 90 => ⟨S_, .f32⟩
  | 91 => ⟨S256x32, .f32⟩
  | 92 => ⟨S8448x32, .f32⟩
  | 93 => ⟨S_, .f32⟩
  | 94 => ⟨S256x32, .f32⟩
  | 95 => ⟨S8448x32, .f32⟩
  | 96 => ⟨S1x8448x1x32, .f32⟩
  | 97 => ⟨S1x8448x4x32, .f32⟩
  | 98 => ⟨S8448x128, .f32⟩
  | 99 => ⟨S1x8448x1x32, .f32⟩
  | 100 => ⟨S1x8448x4x32, .f32⟩
  | 101 => ⟨S8448x128, .f32⟩
  | 102 => ⟨S_, .f32⟩
  | 103 => ⟨S8448x64, .f32⟩
  | 104 => ⟨S_, .f32⟩
  | 105 => ⟨S8448x32, .f32⟩
  | 106 => ⟨S8448x128, .f32⟩
  | 107 => ⟨S_, .f32⟩
  | 108 => ⟨S8448x64, .f32⟩
  | 109 => ⟨S_, .f32⟩
  | 110 => ⟨S8448x32, .f32⟩
  | 111 => ⟨S8448x128, .f32⟩
  | 112 => ⟨S1024x384, .f32⟩
  | 113 => ⟨S1024x384, .f32⟩
  | 114 => ⟨S1024x384, .f32⟩
  | 115 => ⟨S1024x384, .f32⟩
  | 116 => ⟨S1024x384, .f32⟩
  | 117 => ⟨S1024x384, .f32⟩
  | 118 => ⟨S1024x256, .f32⟩
  | 119 => ⟨S1024x128, .f32⟩
  | 120 => ⟨S1024x32, .f32⟩
  | 121 => ⟨S_, .f32⟩
  | 122 => ⟨S1024x64, .f32⟩
  | 123 => ⟨S_, .f32⟩
  | 124 => ⟨S1024x32, .f32⟩
  | 125 => ⟨S1024x128, .f32⟩
  | 126 => ⟨S_, .f32⟩
  | 127 => ⟨S1024x64, .f32⟩
  | _ => ⟨S2x8448x1024, .f32⟩

abbrev hbmTy0_1 (i : Nat) : BufTy := match i % 128 with
  | 0 => ⟨S_, .i32⟩
  | 1 => ⟨S32, .i32⟩
  | 2 => ⟨S32, .i32⟩
  | 3 => ⟨S32, .i32⟩
  | 4 => ⟨S32x1, .i32⟩
  | 5 => ⟨S1024x32, .f32⟩
  | 6 => ⟨S1x32, .f32⟩
  | 7 => ⟨S1024x32, .f32⟩
  | 8 => ⟨S1024x32, .f32⟩
  | 9 => ⟨S_, .f32⟩
  | 10 => ⟨S1024x32, .f32⟩
  | 11 => ⟨S1024x128, .f32⟩
  | 12 => ⟨S_, .i32⟩
  | 13 => ⟨S384, .i32⟩
  | 14 => ⟨S384, .i32⟩
  | 15 => ⟨S384, .i32⟩
  | 16 => ⟨S384x1, .i32⟩
  | 17 => ⟨S1024x384, .f32⟩
  | 18 => ⟨S1x384, .f32⟩
  | 19 => ⟨S1024x384, .f32⟩
  | 20 => ⟨S1024x384, .f32⟩
  | 21 => ⟨S_, .i32⟩
  | 22 => ⟨S384, .i32⟩
  | 23 => ⟨S384, .i32⟩
  | 24 => ⟨S384, .i32⟩
  | 25 => ⟨S384x1, .i32⟩
  | 26 => ⟨S1024x384, .f32⟩
  | 27 => ⟨S1x384, .f32⟩
  | 28 => ⟨S1024x384, .f32⟩
  | 29 => ⟨S1024x384, .f32⟩
  | 30 => ⟨S1024x3328, .f32⟩
  | 31 => ⟨S1024x3328, .bf16⟩
  | 32 => ⟨S384x1024, .f32⟩
  | 33 => ⟨S384x1024, .bf16⟩
  | 34 => ⟨S256x4x96, .f32⟩
  | 35 => ⟨S256x4x32, .f32⟩
  | 36 => ⟨S_, .f32⟩
  | 37 => ⟨S256x4x32, .f32⟩
  | 38 => ⟨S256x4x128, .f32⟩
  | 39 => ⟨S256x512, .f32⟩
  | 40 => ⟨S256x4x64, .f32⟩
  | 41 => ⟨S_, .f32⟩
  | 42 => ⟨S256x4x64, .f32⟩
  | 43 => ⟨S_, .i32⟩
  | 44 => ⟨S32, .i32⟩
  | 45 => ⟨S32, .i32⟩
  | 46 => ⟨S32, .i32⟩
  | 47 => ⟨S32x1, .i32⟩
  | 48 => ⟨S256x4x32, .f32⟩
  | 49 => ⟨S1x1x32, .f32⟩
  | 50 => ⟨S256x4x32, .f32⟩
  | 51 => ⟨S256x4x32, .f32⟩
  | 52 => ⟨S256x4x128, .f32⟩
  | 53 => ⟨S256x512, .f32⟩
  | 54 => ⟨S256x1024, .f32⟩
  | 55 => ⟨S256x1024, .bf16⟩
  | 56 => ⟨S128x4x128, .f32⟩
  | 57 => ⟨S128x4x64, .f32⟩
  | 58 => ⟨S_, .f32⟩
  | 59 => ⟨S128x4x64, .f32⟩
  | 60 => ⟨S128x4x128, .f32⟩
  | 61 => ⟨S128x512, .f32⟩
  | 62 => ⟨S128x512, .bf16⟩
  | 63 => ⟨S128x4x64, .f32⟩
  | 64 => ⟨S128x256, .f32⟩
  | 65 => ⟨S256x128, .f32⟩
  | 66 => ⟨S256x128, .bf16⟩
  | 67 => ⟨S1x256, .f32⟩
  | 68 => ⟨S1x128, .f32⟩
  | 69 => ⟨S2x8448x384, .bf16⟩
  | 70 => ⟨S2x8448x384, .bf16⟩
  | 71 => ⟨S2x8448x384, .bf16⟩
  | 72 => ⟨S2x8448x384, .bf16⟩
  | 73 => ⟨S2x8448x384, .bf16⟩
  | 74 => ⟨S2x8448x512, .bf16⟩
  | 75 => ⟨S2x8448x512, .bf16⟩
  | 76 => ⟨S2x10x33x80x256, .bf16⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1024x3328, .bf16⟩
  | .local _ .vmem, ⟨13, _⟩ => ⟨S384x1024, .bf16⟩
  | .local _ .vmem, ⟨14, _⟩ => ⟨S1x256, .f32⟩
  | .local _ .vmem, ⟨15, _⟩ => ⟨S1x128, .f32⟩
  | .local _ .vmem, ⟨16, _⟩ => ⟨S256x1024, .bf16⟩
  | .local _ .vmem, ⟨17, _⟩ => ⟨S128x512, .bf16⟩
  | .local _ .vmem, ⟨18, _⟩ => ⟨S256x128, .bf16⟩
  | .local _ .vmem, ⟨19, _⟩ => ⟨S1x256x384, .bf16⟩
  | .local _ .vmem, ⟨20, _⟩ => ⟨S1x256x384, .bf16⟩
  | .local _ .vmem, ⟨21, _⟩ => ⟨S1x256x384, .bf16⟩
  | .local _ .vmem, ⟨22, _⟩ => ⟨S1x256x384, .bf16⟩
  | .local _ .vmem, ⟨23, _⟩ => ⟨S1x256x384, .bf16⟩
  | .local _ .vmem, ⟨24, _⟩ => ⟨S1x256x384, .bf16⟩
  | .local _ .vmem, ⟨25, _⟩ => ⟨S1x256x384, .bf16⟩
  | .local _ .vmem, ⟨26, _⟩ => ⟨S1x256x384, .bf16⟩
  | .local _ .vmem, ⟨27, _⟩ => ⟨S1x256x384, .bf16⟩
  | .local _ .vmem, ⟨28, _⟩ => ⟨S1x256x384, .bf16⟩
  | .local _ .vmem, ⟨29, _⟩ => ⟨S1x256x512, .bf16⟩
  | .local _ .vmem, ⟨30, _⟩ => ⟨S1x256x512, .bf16⟩
  | .local _ .vmem, ⟨31, _⟩ => ⟨S1x256x512, .bf16⟩
  | .local _ .vmem, ⟨32, _⟩ => ⟨S1x256x512, .bf16⟩
  | .local _ .vmem, ⟨33, _⟩ => ⟨S1x10x1x80x256, .bf16⟩
  | .local _ .vmem, ⟨34, _⟩ => ⟨S1x10x1x80x256, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_cst : Ref sig .tc := ⟨.hbm, 9, rfl⟩
abbrev main_c_1 : Ref sig .tc := ⟨.hbm, 10, rfl⟩
abbrev main_c_2 : Ref sig .tc := ⟨.hbm, 11, rfl⟩
abbrev main_cst_3 : Ref sig .tc := ⟨.hbm, 12, rfl⟩
abbrev main_c_4 : Ref sig .tc := ⟨.hbm, 13, rfl⟩
abbrev main_c_5 : Ref sig .tc := ⟨.hbm, 14, rfl⟩
abbrev main_v0 : Ref sig .tc := ⟨.hbm, 15, rfl⟩
abbrev main_c_6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v1 : Ref sig .tc := ⟨.hbm, 33, rfl⟩
abbrev main_v2 : Ref sig .tc := ⟨.hbm, 34, rfl⟩
abbrev main_c_7 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_cst_8 : Ref sig .tc := ⟨.hbm, 59, rfl⟩
abbrev main_v6 : Ref sig .tc := ⟨.hbm, 60, rfl⟩
abbrev main_v7 : Ref sig .tc := ⟨.hbm, 61, rfl⟩
abbrev main_cst_9 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_cst_10 : Ref sig .tc := ⟨.hbm, 66, rfl⟩
abbrev main_v11 : Ref sig .tc := ⟨.hbm, 67, rfl⟩
abbrev main_v12 : Ref sig .tc := ⟨.hbm, 68, rfl⟩
abbrev main_cst_11 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_12 : Ref sig .tc := ⟨.hbm, 90, rfl⟩
abbrev main_v33 : Ref sig .tc := ⟨.hbm, 91, rfl⟩
abbrev main_v34 : Ref sig .tc := ⟨.hbm, 92, rfl⟩
abbrev main_cst_13 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_cst_14 : Ref sig .tc := ⟨.hbm, 102, rfl⟩
abbrev main_v43 : Ref sig .tc := ⟨.hbm, 103, rfl⟩
abbrev main_cst_15 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_cst_17 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_cst_18 : Ref sig .tc := ⟨.hbm, 121, rfl⟩
abbrev main_v58 : Ref sig .tc := ⟨.hbm, 122, rfl⟩
abbrev main_cst_19 : Ref sig .tc := ⟨.hbm, 123, rfl⟩
abbrev main_v59 : Ref sig .tc := ⟨.hbm, 124, rfl⟩
abbrev main_v60 : Ref sig .tc := ⟨.hbm, 125, rfl⟩
abbrev main_cst_20 : Ref sig .tc := ⟨.hbm, 126, rfl⟩
abbrev main_v61 : Ref sig .tc := ⟨.hbm, 127, rfl⟩
abbrev main_c_21 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_cst_22 : Ref sig .tc := ⟨.hbm, 137, rfl⟩
abbrev main_v70 : Ref sig .tc := ⟨.hbm, 138, rfl⟩
abbrev main_v71 : Ref sig .tc := ⟨.hbm, 139, rfl⟩
abbrev main_c_23 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_c_24 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_25 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_26 : Ref sig .tc := ⟨.hbm, 169, rfl⟩
abbrev main_v98 : Ref sig .tc := ⟨.hbm, 170, rfl⟩
abbrev main_c_27 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_cst_28 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123_0 : Ref sig .tc := ⟨.hbm, 197, rfl⟩
abbrev main_v123_1 : Ref sig .tc := ⟨.hbm, 198, rfl⟩
abbrev main_v123_2 : Ref sig .tc := ⟨.hbm, 199, rfl⟩
abbrev main_v123_3 : Ref sig .tc := ⟨.hbm, 200, rfl⟩
abbrev main_v123_4 : Ref sig .tc := ⟨.hbm, 201, rfl⟩
abbrev main_v123_5 : Ref sig .tc := ⟨.hbm, 202, rfl⟩
abbrev main_v123_6 : Ref sig .tc := ⟨.hbm, 203, rfl⟩
abbrev main_v123_7 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x3328 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x10x1x80x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== InRefIdeal.lean ====
abbrev S2x8448x1024 : Shape := ⟨3, ![2, 8448, 1024]⟩
abbrev S2x2x1x6144 : Shape := ⟨4, ![2, 2, 1, 6144]⟩
abbrev S1024x2720 : Shape := ⟨2, ![1024, 2720]⟩
abbrev S256 : Shape := ⟨1, ![256]⟩
abbrev S128 : Shape := ⟨1, ![128]⟩
abbrev S256x384 : Shape := ⟨2, ![256, 384]⟩
abbrev S128x512 : Shape := ⟨2, ![128, 512]⟩
abbrev S2x1x1x6144 : Shape := ⟨4, ![2, 1, 1, 6144]⟩
abbrev S2x1x6144 : Shape := ⟨3, ![2, 1, 6144]⟩
abbrev S2x256x6144 : Shape := ⟨3, ![2, 256, 6144]⟩
abbrev S2x8192x6144 : Shape := ⟨3, ![2, 8192, 6144]⟩
abbrev S2x8448x6144 : Shape := ⟨3, ![2, 8448, 6144]⟩
abbrev S_ : Shape := ⟨0, ![]⟩
abbrev S2x8448 : Shape := ⟨2, ![2, 8448]⟩
abbrev S2x8448x1 : Shape := ⟨3, ![2, 8448, 1]⟩
abbrev S2x8448x2720 : Shape := ⟨3, ![2, 8448, 2720]⟩
abbrev S2x8448x384 : Shape := ⟨3, ![2, 8448, 384]⟩
abbrev S2x8448x256 : Shape := ⟨3, ![2, 8448, 256]⟩
abbrev S2x8448x128 : Shape := ⟨3, ![2, 8448, 128]⟩
abbrev S2x8448x32 : Shape := ⟨3, ![2, 8448, 32]⟩
abbrev S1x1x128 : Shape := ⟨3, ![1, 1, 128]⟩
abbrev S2x8448x512 : Shape := ⟨3, ![2, 8448, 512]⟩
abbrev S2x8448x4x128 : Shape := ⟨4, ![2, 8448, 4, 128]⟩
abbrev S2x8448x4x64 : Shape := ⟨4, ![2, 8448, 4, 64]⟩
abbrev S2x8448x6x64 : Shape := ⟨4, ![2, 8448, 6, 64]⟩
abbrev S2x8448x10x64 : Shape := ⟨4, ![2, 8448, 10, 64]⟩
abbrev S2x33x256x10x64 : Shape := ⟨5, ![2, 33, 256, 10, 64]⟩
abbrev S2x10x33x64x256 : Shape := ⟨5, ![2, 10, 33, 64, 256]⟩
abbrev S2x10x33x16x256 : Shape := ⟨5, ![2, 10, 33, 16, 256]⟩
abbrev S2x10x33x80x256 : Shape := ⟨5, ![2, 10, 33, 80, 256]⟩

abbrev nBuf : Space → Nat
  | .hbm => 87
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x2x1x6144, .f32⟩
  | .hbm, ⟨2, _⟩ => ⟨S1024x2720, .f32⟩
  | .hbm, ⟨3, _⟩ => ⟨S256, .f32⟩
  | .hbm, ⟨4, _⟩ => ⟨S128, .f32⟩
  | .hbm, ⟨5, _⟩ => ⟨S256x384, .f32⟩
  | .hbm, ⟨6, _⟩ => ⟨S128x512, .f32⟩
  | .hbm, ⟨7, _⟩ => ⟨S2x1x1x6144, .f32⟩
  | .hbm, ⟨8, _⟩ => ⟨S2x1x6144, .f32⟩
  | .hbm, ⟨9, _⟩ => ⟨S2x256x6144, .f32⟩
  | .hbm, ⟨10, _⟩ => ⟨S2x1x1x6144, .f32⟩
  | .hbm, ⟨11, _⟩ => ⟨S2x1x6144, .f32⟩
  | .hbm, ⟨12, _⟩ => ⟨S2x8192x6144, .f32⟩
  | .hbm, ⟨13, _⟩ => ⟨S2x8448x6144, .f32⟩
  | .hbm, ⟨14, _⟩ => ⟨S_, .f32⟩
  | .hbm, ⟨15, _⟩ => ⟨S2x8448, .f32⟩
  | .hbm, ⟨16, _⟩ => ⟨S2x8448x1, .f32⟩
  | .hbm, ⟨17, _⟩ => ⟨S_, .f32⟩
  | .hbm, ⟨18, _⟩ => ⟨S2x8448x1, .f32⟩
  | .hbm, ⟨19, _⟩ => ⟨S2x8448x1, .f32⟩
  | .hbm, ⟨20, _⟩ => ⟨S2x8448x1024, .f32⟩
  | .hbm, ⟨21, _⟩ => ⟨S2x8448x1024, .f32⟩
  | .hbm, ⟨22, _⟩ => ⟨S2x8448x1024, .f32⟩
  | .hbm, ⟨23, _⟩ => ⟨S_, .f32⟩
  | .hbm, ⟨24, _⟩ => ⟨S2x8448, .f32⟩
  | .hbm, ⟨25, _⟩ => ⟨S2x8448x1, .f32⟩
  | .hbm, ⟨26, _⟩ => ⟨S_, .f32⟩
  | .hbm, ⟨27, _⟩ => ⟨S2x8448x1, .f32⟩
  | .hbm, ⟨28, _⟩ => ⟨S2x8448x1, .f32⟩
  | .hbm, ⟨29, _⟩ => ⟨S2x8448x1024, .f32⟩
  | .hbm, ⟨30, _⟩ => ⟨S2x8448x1024, .f32⟩
  | .hbm, ⟨31, _⟩ => ⟨S_, .f32⟩
  | .hbm, ⟨32, _⟩ => ⟨S2x8448x1, .f32⟩
  | .hbm, ⟨33, _⟩ => ⟨S2x8448x1, .f32⟩
  | .hbm, ⟨34, _⟩ => ⟨S2x8448x1, .f32⟩
  | .hbm, ⟨35, _⟩ => ⟨S2x8448x1024, .f32⟩
  | .hbm, ⟨36, _⟩ => ⟨S2x8448x1024, .f32⟩
  | .hbm, ⟨37, _⟩ => ⟨S2x8448x1024, .f32⟩
  | .hbm, ⟨38, _⟩ => ⟨S_, .f32⟩
  | .hbm, ⟨39, _⟩ => ⟨S2x8448x1024, .f32⟩
  | .hbm, ⟨40, _⟩ => ⟨S2x8448x1024, .f32⟩
  | .hbm, ⟨41, _⟩ => ⟨S2x8448x1024, .f32⟩
  | .hbm, ⟨42, _⟩ => ⟨S2x8448x1024, .f32⟩
  | .hbm, ⟨43, _⟩ => ⟨S2x8448x1024, .f32⟩
  | .hbm, ⟨44, _⟩ => ⟨S2x8448x2720, .f32⟩
  | .hbm, ⟨45, _⟩ => ⟨S2x8448x384, .f32⟩
  | .hbm, ⟨46, _⟩ => ⟨S2x8448x384, .f32⟩
  | .hbm, ⟨47, _⟩ => ⟨S2x8448x384, .f32⟩
  | .hbm, ⟨48, _⟩ => ⟨S2x8448x384, .f32⟩
  | .hbm, ⟨49, _⟩ => ⟨S2x8448x384, .f32⟩
  | .hbm, ⟨50, _⟩ => ⟨S2x8448x384, .f32⟩
  | .hbm, ⟨51, _⟩ => ⟨S2x8448x256, .f32⟩
  | .hbm, ⟨52, _⟩ => ⟨S2x8448x128, .f32⟩
  | .hbm, ⟨53, _⟩ => ⟨S2x8448x32, .f32⟩
  | .hbm, ⟨54, _⟩ => ⟨S2x8448x128, .f32⟩
  | .hbm, ⟨55, _⟩ => ⟨S_, .f32⟩
  | .hbm, ⟨56, _⟩ => ⟨S2x8448, .f32⟩
  | .hbm, ⟨57, _⟩ => ⟨S2x8448x1, .f32⟩
  | .hbm, ⟨58, _⟩ => ⟨S_, .f32⟩
  | .hbm, ⟨59, _⟩ => ⟨S2x8448x1, .f32⟩
  | .hbm, ⟨60, _⟩ => ⟨S2x8448x1, .f32⟩
  | .hbm, ⟨61, _⟩ => ⟨S_, .f32⟩
  | .hbm, ⟨62, _⟩ => ⟨S2x8448x1, .f32⟩
  | .hbm, ⟨63, _⟩ => ⟨S2x8448x1, .f32⟩
  | .hbm, ⟨64, _⟩ => ⟨S2x8448x1, .f32⟩
  | .hbm, ⟨65, _⟩ => ⟨S2x8448x128, .f32⟩
  | .hbm, ⟨66, _⟩ => ⟨S2x8448x128, .f32⟩
  | .hbm, ⟨67, _⟩ => ⟨S1x1x128, .f32⟩
  | .hbm, ⟨68, _⟩ => ⟨S2x8448x128, .f32⟩
  | .hbm, ⟨69, _⟩ => ⟨S2x8448x128, .f32⟩
  | .hbm, ⟨70, _⟩ => ⟨S2x8448x512, .f32⟩
  | .hbm, ⟨71, _⟩ => ⟨S2x8448x4x128, .f32⟩
  | .hbm, ⟨72, _⟩ => ⟨S2x8448x4x64, .f32⟩
  | .hbm, ⟨73, _⟩ => ⟨S2x8448x6x64, .f32⟩
  | .hbm, ⟨74, _⟩ => ⟨S2x8448x10x64, .f32⟩
  | .hbm, ⟨75, _⟩ => ⟨S2x33x256x10x64, .f32⟩
  | .hbm, ⟨76, _⟩ => ⟨S2x10x33x64x256, .f32⟩
  | .hbm, ⟨77, _⟩ => ⟨S_, .f32⟩
  | .hbm, ⟨78, _⟩ => ⟨S2x10x33x16x256, .f32⟩
  | .hbm, ⟨79, _⟩ => ⟨S2x10x33x80x256, .f32⟩
  | .hbm, ⟨80, _⟩ => ⟨S_, .f32⟩
  | .hbm, ⟨81, _⟩ => ⟨S2x8448x384, .f32⟩
  | .hbm, ⟨82, _⟩ => ⟨S2x8448x384, .f32⟩
  | .hbm, ⟨83, _⟩ => ⟨S2x8448x384, .bf16⟩
  | .hbm, ⟨84, _⟩ => ⟨S2x8448x384, .bf16⟩
  | .hbm, ⟨85, _⟩ => ⟨S2x8448x384, .bf16⟩
  | .hbm, ⟨86, _⟩ => ⟨S2x10x33x80x256, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Flash.lean ====
/- The mathematics of softmax taken tile by tile, over the extended reals: nothing here is about a program. -/
module

public import Idealize.ShloMosaic.Lib.Pointwise

@[expose] public section

noncomputable section

namespace Cert.Flash

open Idealize.ShloMosaic

/-- An extended real that is a real number. -/
def IsReal (x : EReal) : Prop := ∃ r : ℝ, x = (r : EReal)

theorem IsReal.coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.max {x y : EReal} (hx : IsReal x) (hy : IsReal y) : IsReal (max x y) := by
  rcases max_choice x y with h | h <;> rw [h] <;> assumption

theorem IsReal.zero : IsReal 0 := ⟨0, rfl⟩

theorem IsReal.one : IsReal 1 := ⟨1, rfl⟩

theorem IsReal.exp {x : EReal} (hx : IsReal x) : IsReal (Ideal.exp x) := by
  obtain ⟨a, rfl⟩ := hx; exact ⟨_, rfl⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem IsReal.eq {x : EReal} (h : IsReal x) : x = (x.toReal : EReal) := by
  obtain ⟨a, rfl⟩ := h; simp

/-- A real divided by a nonzero real is real. -/
theorem IsReal.div {x : EReal} (hx : IsReal x) {y : ℝ} (hy : y ≠ 0) : IsReal (Ideal.div x y) := by
  rw [Ideal.div_coe hy]; exact hx.mul ⟨_, rfl⟩

/-- Below the top and absolute value below the top: real. -/
theorem IsReal.of_abs_lt {x : EReal} (h : Max.max x (-x) < ⊤) : IsReal x := by
  induction x using EReal.rec with
  | bot => simp at h
  | coe a => exact ⟨a, rfl⟩
  | top => simp at h

/-- A pattern of negative infinity denotes the bottom. -/
theorem ofBits_neg_inf : Ideal.ofBits .f32 0xFF800000#32 = ⊥ := by
  simp [Ideal.ofBits, Ideal.ieee]

/-- The literal the running maxima begin with is a real number. -/
theorem isReal_init : IsReal (Ideal.ofBits .f32 0xF149F2CA#32) := by
  simp only [Ideal.ofBits, Ideal.ieee]
  rw [if_neg (by decide), if_neg (by decide)]
  exact ⟨_, rfl⟩

/-- The maximum of finitely many reals and of the bottom is real, where there is at least one real. -/
theorem isReal_fold_max {ι : Type} [DecidableEq ι] (s : Finset ι) (hs : s.Nonempty) (f : ι → EReal) (h : ∀ i, IsReal (f i)) :
    IsReal (s.fold max ⊥ f) := by
  induction hs using Finset.Nonempty.cons_induction with
  | singleton a => simpa using h a
  | cons a s ha _ ih => rw [Finset.fold_cons]; exact (h a).max ih

/-- A nonnegative real distributes over a sum, whatever infinities the sum holds. -/
theorem coe_mul_sum {ι : Type} {p : ℝ} (hp : 0 ≤ p) (s : Finset ι) (f : ι → EReal) :
    (p : EReal) * ∑ i ∈ s, f i = ∑ i ∈ s, (p : EReal) * f i := by
  classical
  induction s using Finset.induction_on with
  | empty => simp
  | insert a s ha ih =>
    rw [Finset.sum_insert ha, Finset.sum_insert ha, ← ih]
    exact EReal.left_distrib_of_nonneg_of_ne_top (by exact_mod_cast hp) (EReal.coe_ne_top p) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih]; push_cast; rfl

/-- The sum of the first `n` values, each weighted by the exponential of its score less `m`. -/
def part (m : ℝ) (n : ℕ) (s : ℕ → ℝ) (v : ℕ → EReal) : EReal :=
  ∑ k ∈ Finset.range n, ((Real.exp (s k - m) : ℝ) : EReal) * v k

theorem part_zero (m : ℝ) (s : ℕ → ℝ) (v : ℕ → EReal) : part m 0 s v = 0 := by simp [part]

/-- Moving the reference point of the exponentials. -/
theorem part_rescale (m m' : ℝ) (n : ℕ) (s : ℕ → ℝ) (v : ℕ → EReal) :
    ((Real.exp (m - m') : ℝ) : EReal) * part m n s v = part m' n s v := by
  unfold part
  rw [coe_mul_sum (Real.exp_pos _).le]
  refine Finset.sum_congr rfl fun k _ => ?_
  rw [← mul_assoc, ← EReal.coe_mul, ← Real.exp_add]
  congr 3
  ring

/-- One tile more. -/
theorem part_add (m : ℝ) (n t : ℕ) (s : ℕ → ℝ) (v : ℕ → EReal) :
    part m (n + t) s v = part m n s v + ∑ r : Fin t, ((Real.exp (s (n + r) - m) : ℝ) : EReal) * v (n + r) := by
  unfold part
  rw [Finset.sum_range_add, Finset.sum_range (n := t)]

/-- The step of the tile loop: the new maximum is real, and the accumulated sum is rescaled and extended. -/
theorem step {T : ℕ} (hT : 0 < T) (m : ℝ) (n : ℕ) (s : ℕ → ℝ) (v : ℕ → EReal) (S V : Fin T → EReal)
    (hS : ∀ r, S r = (s (n + r) : EReal)) (hV : ∀ r, V r = v (n + r)) :
    ∃ m' : ℝ, max (m : EReal) (Finset.univ.fold max ⊥ S) = (m' : EReal) ∧
      Ideal.exp ((m : EReal) - (m' : EReal)) * part m n s v + ∑ r : Fin T, V r * Ideal.exp (S r - (m' : EReal))
        = part m' (n + T) s v := by
  obtain ⟨m', hm'⟩ : IsReal (max (m : EReal) (Finset.univ.fold max ⊥ S)) :=
    (IsReal.coe m).max (isReal_fold_max _ ⟨⟨0, hT⟩, Finset.mem_univ _⟩ _ fun r => ⟨_, hS r⟩)
  refine ⟨m', hm', ?_⟩
  rw [← EReal.coe_sub, Ideal.exp_coe, part_rescale, part_add]
  refine congrArg _ (Finset.sum_congr rfl fun r _ => ?_)
  rw [hS, hV, ← EReal.coe_sub, Ideal.exp_coe, mul_comm]

/-- Softmax of the first `n` scores, applied to the values. -/
def soft (n : ℕ) (s : ℕ → ℝ) (v : ℕ → EReal) : EReal :=
  ∑ k ∈ Finset.range n, ((Real.exp (s k) / ∑ j ∈ Finset.range n, Real.exp (s j) : ℝ) : EReal) * v k

theorem sum_exp_pos (m : ℝ) {n : ℕ} (hn : 0 < n) (s : ℕ → ℝ) : 0 < ∑ j ∈ Finset.range n, Real.exp (s j - m) :=
  Finset.sum_pos (fun _ _ => Real.exp_pos _) ⟨0, Finset.mem_range.2 hn⟩

theorem weight_eq (m : ℝ) {n : ℕ} (hn : 0 < n) (s : ℕ → ℝ) (k : ℕ) :
    Real.exp (s k - m) / ∑ j ∈ Finset.range n, Real.exp (s j - m) = Real.exp (s k) / ∑ j ∈ Finset.range n, Real.exp (s j) := by
  have h : ∑ j ∈ Finset.range n, Real.exp (s j - m) = (∑ j ∈ Finset.range n, Real.exp (s j)) * Real.exp (-m) := by
    rw [Finset.sum_mul]
    exact Finset.sum_congr rfl fun j _ => by rw [sub_eq_add_neg, Real.exp_add]
  rw [h, sub_eq_add_neg, Real.exp_add, mul_div_mul_right _ _ (Real.exp_pos _).ne']

/-- The accumulated sum over the accumulated weights is the softmax. -/
theorem part_div (m : ℝ) {n : ℕ} (hn : 0 < n) (s : ℕ → ℝ) (v o : ℕ → EReal) (ho : ∀ k, k < n → o k = 1) :
    Ideal.div (part m n s v) (part m n s o) = soft n s v := by
  have h1 : part m n s o = ((∑ j ∈ Finset.range n, Real.exp (s j - m) : ℝ) : EReal) := by
    rw [coe_sum]
    exact Finset.sum_congr rfl fun k hk => by rw [ho k (Finset.mem_range.1 hk), mul_one]
  have hp := sum_exp_pos m hn s
  rw [h1, Ideal.div_coe hp.ne', mul_comm]
  unfold part soft
  rw [coe_mul_sum (by positivity)]
  refine Finset.sum_congr rfl fun k _ => ?_
  rw [← mul_assoc, ← EReal.coe_mul, ← weight_eq m hn s k]
  congr 2
  ring

/-- One weight of the softmax as it is written plainly: each exponential divided by their sum. -/
theorem weight_plain {n : ℕ} (hn : 0 < n) (M : ℝ) (s : ℕ → ℝ) (S : Fin n → EReal) (hS : ∀ k, S k = (s k : EReal)) (k : Fin n) :
    Ideal.div (Ideal.exp (S k - (M : EReal))) (∑ j : Fin n, Ideal.exp (S j - (M : EReal)))
      = ((Real.exp (s k) / ∑ j ∈ Finset.range n, Real.exp (s j) : ℝ) : EReal) := by
  have h1 : ∑ j : Fin n, Ideal.exp (S j - (M : EReal)) = ((∑ j ∈ Finset.range n, Real.exp (s j - M) : ℝ) : EReal) := by
    rw [coe_sum, Finset.sum_range]
    exact Finset.sum_congr rfl fun k hk => by rw [hS, ← EReal.coe_sub, Ideal.exp_coe]
  have hp := sum_exp_pos M hn s
  rw [h1, Ideal.div_coe hp.ne', hS, ← EReal.coe_sub, Ideal.exp_coe, ← weight_eq M hn s k, ← EReal.coe_mul]
  congr 1
  ring

/-- The softmax as it is written plainly: the scores less their maximum, exponentials, their sum, quotients, values. -/
theorem plain {n : ℕ} (hn : 0 < n) (M : EReal) (hM : IsReal M) (s : ℕ → ℝ) (v : ℕ → EReal) (S V : Fin n → EReal)
    (hS : ∀ k, S k = (s k : EReal)) (hV : ∀ k, V k = v k) :
    ∑ k : Fin n, Ideal.div (Ideal.exp (S k - M)) (∑ j : Fin n, Ideal.exp (S j - M)) * V k = soft n s v := by
  obtain ⟨M, rfl⟩ := hM
  unfold soft
  rw [Finset.sum_range]
  exact Finset.sum_congr rfl fun k _ => by rw [weight_plain hn M s S hS k, hV]

/-- The softmax of equal scores and equal values. -/
theorem soft_congr {n : ℕ} {s s' : ℕ → ℝ} {v v' : ℕ → EReal} (hs : ∀ k, k < n → s k = s' k) (hv : ∀ k, k < n → v k = v' k) :
    soft n s v = soft n s' v' := by
  unfold soft
  have h : ∑ j ∈ Finset.range n, Real.exp (s j) = ∑ j ∈ Finset.range n, Real.exp (s' j) :=
    Finset.sum_congr rfl fun k hk => by rw [hs k (Finset.mem_range.1 hk)]
  exact Finset.sum_congr rfl fun k hk => by rw [hs k (Finset.mem_range.1 hk), hv k (Finset.mem_range.1 hk), h]

end Cert.Flash

end
-- ==== Proof.Heads.lean ====
/- Scratch buffers that hold one slab per head: reading a slab, and reading past the write of a slab. -/
module

public import Idealize.ShloMosaic.Lib.Pointwise
public import Idealize.ShloMosaic.Lib.WritesUnit
public import Idealize.ShloMosaic.Lib.VecWindow
public import Idealize.ShloMosaic.Lib.Pipeline.FrameBody

@[expose] public section

noncomputable section

namespace Cert.Heads

open Idealize.ShloMosaic

variable {sig : RefSig} {κ : Kind} {sp : Space} {e : EltTy} {Val : EltTy → Type} {H M N : ℕ}

/-- The slab of the head just written is what was written. -/
theorem read_same (v : View sig κ sp (⟨3, ![H, M, N]⟩ : Shape) e) (f : v.ty.Contents Val) (j : ℕ)
    (inb : ∀ a : Fin 3, (![j, 0, 0] : Fin 3 → ℕ) a + (![1, M, N] : Fin 3 → ℕ) a ≤ (⟨3, ![H, M, N]⟩ : Shape).size a)
    (w : (⟨3, ![1, M, N]⟩ : Shape).Idx → Val e) (L : List (View.Piece Val (⟨3, ![H, M, N]⟩ : Shape) e)) (h : Fin H) (hj : h.val = j)
    (x : Fin M) (y : Fin N) :
    v.read Val (v.writes Val f ((⟨Rect.unit (s := ⟨3, ![H, M, N]⟩) ![j, 0, 0] ![1, M, N] inb, w⟩ : View.Piece Val _ e) :: L)) (ix3 h x y)
      = w (ix3 0 x y) :=
  View.read_writes_cons_unit_of_mem v f inb w L (ix3 h x y) (ix3 0 x y) rfl fun a => by
    fin_cases a
    · show h.val = j + 0; omega
    · show x.val = 0 + x.val; omega
    · show y.val = 0 + y.val; omega

/-- The slab of another head is as before. -/
theorem read_other (v : View sig κ sp (⟨3, ![H, M, N]⟩ : Shape) e) (f : v.ty.Contents Val) (j : ℕ)
    (inb : ∀ a : Fin 3, (![j, 0, 0] : Fin 3 → ℕ) a + (![1, M, N] : Fin 3 → ℕ) a ≤ (⟨3, ![H, M, N]⟩ : Shape).size a)
    (w : (⟨3, ![1, M, N]⟩ : Shape).Idx → Val e) (L : List (View.Piece Val (⟨3, ![H, M, N]⟩ : Shape) e)) (h : Fin H) (hj : h.val ≠ j)
    (x : Fin M) (y : Fin N) :
    v.read Val (v.writes Val f ((⟨Rect.unit (s := ⟨3, ![H, M, N]⟩) ![j, 0, 0] ![1, M, N] inb, w⟩ : View.Piece Val _ e) :: L)) (ix3 h x y)
      = v.read Val (v.writes Val f L) (ix3 h x y) :=
  View.read_writes_cons_unit_of_not_mem v f inb w L (ix3 h x y) rfl (0 : Fin 3) (by
    show h.val < j ∨ j + 1 ≤ h.val; omega)

/-- A load of a head's slab. -/
theorem load (v : View sig κ sp (⟨3, ![H, M, N]⟩ : Shape) e) (f : v.ty.Contents Val) (j : ℕ)
    (inb : ∀ a : Fin 3, (![j, 0, 0] : Fin 3 → ℕ) a + (![1, M, N] : Fin 3 → ℕ) a ≤ (⟨3, ![H, M, N]⟩ : Shape).size a)
    (h : Fin H) (hj : h.val = j) (x : Fin M) (y : Fin N) :
    v.readAt Val (Rect.unit (s := ⟨3, ![H, M, N]⟩) ![j, 0, 0] ![1, M, N] inb).toLoadRect f (ix3 0 x y) = v.read Val f (ix3 h x y) := by
  rw [View.readAt_eq_ld]
  refine congrArg (v.read Val f) (funext fun a => Fin.ext ?_)
  fin_cases a
  · show j + 1 * 0 = h.val; omega
  · show 0 + 1 * x.val = x.val; omega
  · show 0 + 1 * y.val = y.val; omega

/-- A load of a rectangle of unit strides, at an index: the buffer at the index moved by the offsets. -/
theorem load_at {S : Shape} (v : View sig κ sp S e) (f : v.ty.Contents Val) (off size : Fin S.rank → ℕ) (inb : ∀ a, off a + size a ≤ S.size a)
    (y : (Rect.unit off size inb).shape.Idx) (z : S.Idx) (off' : Fin S.rank → ℕ) (e : off = off') (h : ∀ a, off' a + (y a).val = (z a).val) :
    v.readAt Val (Rect.unit off size inb).toLoadRect f y = v.read Val f z := by
  subst e
  rw [View.readAt_eq_ld]
  refine congrArg (v.read Val f) (funext fun a => Fin.ext ?_)
  have := h a
  show off a + 1 * (y a).val = (z a).val
  omega

end Cert.Heads

end
-- ==== Proof.MlaTile.lean ====
/- The latent attention kernel's arithmetic, tile by tile: what each payload computes, read at an index. -/
module

public import proofs.«01_k».proof.Proof.Gen.MlaIdeal.Value
public import proofs.«01_k».proof.Proof.Flash
public import proofs.«01_k».proof.Proof.Heads

@[expose] public section

set_option maxRecDepth 16384

noncomputable section

namespace Cert.MlaIdeal.Work

open Idealize.ShloMosaic Idealize.ShloMosaic.TcCoe Idealize.ShloMosaic.Tactic Cert.MlaIdeal.Gen Cert.Flash

variable (q : FVec Ideal S256x128 .bf16) (k : Vec Ideal S1x256x128 .bf16) (m : Vec Ideal S1x1x256 .f32)
  (v : Vec Ideal S1x1x1x80x256 .bf16) (acc : Vec Ideal S1x80x256 .f32)

/-- The second head runs the same arithmetic as the first. -/
theorem pay5_eq : k0_pay5 q k m = k0_pay16 q k m := rfl
theorem pay4_eq : k0_pay4 q k m v acc = k0_pay15 q k m v acc := rfl

/-- The new running maximum of a query. -/
theorem pay16_apply (a : Fin 256) :
    k0_pay16 q k m (ix3 0 0 a)
      = max (m (ix3 0 0 a)) (Finset.univ.fold max ⊥ fun r : Fin 256 => ∑ l : Fin 128, k (ix3 0 r l) * q (ix2 a l)) := by
  pointwise [k0_pay16, k0_pay14, k0_pay13, k0_pay12]
  rw [ofBits_neg_inf]

/-- The rescaled and extended sum of a query. -/
theorem pay15_apply (d : Fin 80) (a : Fin 256) :
    k0_pay15 q k m v acc (ix3 0 d a)
      = Ideal.exp (m (ix3 0 0 a) - k0_pay16 q k m (ix3 0 0 a)) * acc (ix3 0 d a)
        + ∑ r : Fin 256, v (ix5 0 0 0 d r) * Ideal.exp ((∑ l : Fin 128, k (ix3 0 r l) * q (ix2 a l)) - k0_pay16 q k m (ix3 0 0 a)) := by
  rw [pay16_apply]
  pointwise [k0_pay15, k0_pay14, k0_pay13, k0_pay12]
  rw [ofBits_neg_inf]

/-- One tile's work on one head and one query: the maximum stays real, the sums take the tile in. -/
theorem tile (a : Fin 256) (n : ℕ) (s : ℕ → ℝ) (w : Fin 80 → ℕ → EReal)
    (hm : ∃ m0 : ℝ, m (ix3 0 0 a) = (m0 : EReal) ∧ ∀ d, acc (ix3 0 d a) = part m0 n s (w d))
    (hs : ∀ r : Fin 256, ∑ l : Fin 128, k (ix3 0 r l) * q (ix2 a l) = (s (n + r) : EReal))
    (hv : ∀ d (r : Fin 256), v (ix5 0 0 0 d r) = w d (n + r)) :
    ∃ m1 : ℝ, k0_pay16 q k m (ix3 0 0 a) = (m1 : EReal) ∧ ∀ d, k0_pay15 q k m v acc (ix3 0 d a) = part m1 (n + 256) s (w d) := by
  obtain ⟨m0, h0, hacc⟩ := hm
  obtain ⟨m1, h1, -⟩ := step (T := 256) (by decide) m0 n s (w 0) _ (fun r => v (ix5 0 0 0 0 r)) hs (hv 0)
  refine ⟨m1, by rw [pay16_apply, h0, h1], fun d => ?_⟩
  obtain ⟨m2, h2, hd⟩ := step (T := 256) (by decide) m0 n s (w d) _ (fun r => v (ix5 0 0 0 d r)) hs (hv d)
  have e : m2 = m1 := by exact_mod_cast h2.symm.trans h1
  subst e
  rw [pay15_apply, pay16_apply, h0, h1, hacc, hd]

/-- A query block's two heads. -/
theorem pay23_apply (x : Vec Ideal S1x256x256 .bf16) (a : Fin 256) (l : Fin 128) :
    k0_pay23 x (ix2 a l) = x (ix3 0 a ⟨l.val, by omega⟩) := by
  pointwise [k0_pay23, k0_pay22]
theorem pay24_apply (x : Vec Ideal S1x256x256 .bf16) (a : Fin 256) (l : Fin 128) :
    k0_pay24 x (ix2 a l) = x (ix3 0 a ⟨128 + l.val, by omega⟩) := by
  pointwise [k0_pay24, k0_pay22]

/-- What the scratch begins with. -/
theorem pay25_apply (a : Fin 256) : k0_pay25 (F := Ideal) (ix3 0 0 a) = Ideal.ofBits .f32 0xF149F2CA#32 := by
  pointwise [k0_pay25]
theorem pay27_apply (a : Fin 256) : k0_pay27 (F := Ideal) (ix3 0 0 a) = Ideal.ofBits .f32 0xF149F2CA#32 := by
  pointwise [k0_pay27]
theorem pay26_apply (d : Fin 80) (a : Fin 256) : k0_pay26 (F := Ideal) (ix3 0 d a) = 0 := by
  pointwise [k0_pay26]
theorem pay28_apply (d : Fin 80) (a : Fin 256) : k0_pay28 (F := Ideal) (ix3 0 d a) = 0 := by
  pointwise [k0_pay28]

/-- The output block: the first head's lanes … -/
theorem pay11_apply_0 (x y : Vec Ideal S1x80x256 .f32) (a : Fin 256) (d : Fin 64) :
    k0_pay11 x y (ix3 0 a ⟨d.val, by omega⟩) = Ideal.div (x (ix3 0 ⟨d.val, by omega⟩ a)) (x (ix3 0 64 a)) := by
  pointwise [k0_pay11]
/-- … and the second's. -/
theorem pay11_apply_1 (x y : Vec Ideal S1x80x256 .f32) (a : Fin 256) (d : Fin 64) :
    k0_pay11 x y (ix3 0 a ⟨64 + d.val, by omega⟩) = Ideal.div (y (ix3 0 ⟨d.val, by omega⟩ a)) (y (ix3 0 64 a)) := by
  pointwise [k0_pay11]

end Cert.MlaIdeal.Work

end
-- ==== Proof.MlaLoop.lean ====
/- The latent attention kernel's tile loop: what the two scratch buffers hold after each trip. -/
module

public import proofs.«01_k».proof.Proof.MlaTile

@[expose] public section

set_option maxRecDepth 16384

noncomputable section

namespace Cert.MlaIdeal.Work

open Idealize.ShloMosaic Idealize.ShloMosaic.TcCoe Idealize.ShloMosaic.Tactic Cert.MlaIdeal.Gen Cert.Flash

/-- The score of key `k` for query `a` of a block, on head `h` of the pair. -/
def score (X3 : Vec Ideal S1x256x256 .bf16) (X4 : Vec Ideal S1x8448x256 .bf16) (h : Fin 2) (a : Fin 256) (k : ℕ) : EReal :=
  ∑ l : Fin 128, X4 (ix3 0 ⟨k % 8448, Nat.mod_lt _ (by decide)⟩ ⟨128 * h.val + l.val, by omega⟩) * X3 (ix3 0 a ⟨128 * h.val + l.val, by omega⟩)

/-- Row `d` of the value of key `k`, on head `h` of the pair. -/
def value (X5 : Vec Ideal S1x2x33x80x256 .bf16) (h : Fin 2) (d : Fin 80) (k : ℕ) : EReal :=
  X5 (ix5 0 h ⟨k / 256 % 33, Nat.mod_lt _ (by decide)⟩ d ⟨k % 256, Nat.mod_lt _ (by decide)⟩)

/-- The scratch after `n` keys: per head and query a real maximum and the sums over those keys at it. -/
def Inv (A7 : S2x1x256.Idx → EReal) (A8 : S2x80x256.Idx → EReal) (n : ℕ) (s : Fin 2 → Fin 256 → ℕ → ℝ) (w : Fin 2 → Fin 80 → ℕ → EReal) : Prop :=
  ∀ h a, ∃ m : ℝ, A7 (ix3 h 0 a) = (m : EReal) ∧ ∀ d, A8 (ix3 h d a) = part m n (s h a) (w h d)

section
variable (c : Dev nD) (i : grid0.Coords) (arg3 : Memref sig .tc .vmem S1x256x256 .bf16) (harg3 : arg3.IsWhole)
  (arg4 : Memref sig .tc .vmem S1x8448x256 .bf16) (harg4 : arg4.IsWhole) (arg5 : Memref sig .tc .vmem S1x2x33x80x256 .bf16) (harg5 : arg5.IsWhole)
  (arg6 : Memref sig .tc .vmem S1x256x128 .bf16) (harg6 : arg6.IsWhole) (arg7 : Memref sig .tc .vmem S2x1x256 .f32) (harg7 : arg7.IsWhole)
  (arg8 : Memref sig .tc .vmem S2x80x256 .f32) (harg8 : arg8.IsWhole)
  (X3 : Vec Ideal S1x256x256 .bf16) (X_arg4 : BufTy.Contents (Elt Ideal) arg4.view.ty) (X_arg5 : BufTy.Contents (Elt Ideal) arg5.view.ty)
  (s : Fin 2 → Fin 256 → ℕ → ℝ)

/-- The loads of a trip: the tile's keys and values and the scratch, per head. -/
def keys0 (k : Fin (k0_t1_loop i).trips) : Vec Ideal S1x256x128 .bf16 :=
  View.readAt (Elt Ideal) arg4.view (Rect.unit (s := S1x8448x256) (k0_off1 i k) S1x256x128.size (k0_off1_inb i k)).toLoadRect X_arg4
def keys1 (k : Fin (k0_t1_loop i).trips) : Vec Ideal S1x256x128 .bf16 :=
  View.readAt (Elt Ideal) arg4.view (Rect.unit (s := S1x8448x256) (k0_off3 i k) S1x256x128.size (k0_off3_inb i k)).toLoadRect X_arg4
def vals0 (k : Fin (k0_t1_loop i).trips) : Vec Ideal S1x1x1x80x256 .bf16 :=
  View.readAt (Elt Ideal) arg5.view (Rect.unit (s := S1x2x33x80x256) (k0_off2 i k) S1x1x1x80x256.size (k0_off2_inb i k)).toLoadRect X_arg5
def vals1 (k : Fin (k0_t1_loop i).trips) : Vec Ideal S1x1x1x80x256 .bf16 :=
  View.readAt (Elt Ideal) arg5.view (Rect.unit (s := S1x2x33x80x256) (k0_off4 i k) S1x1x1x80x256.size (k0_off4_inb i k)).toLoadRect X_arg5
def max0 (f7 : BufTy.Contents (Elt Ideal) arg7.view.ty) : Vec Ideal S1x1x256 .f32 :=
  View.readAt (Elt Ideal) arg7.view (Rect.unit (s := S2x1x256) ![0, 0, 0] S1x1x256.size inb_S2x1x256_S1x1x256_0_0_0).toLoadRect f7
def max1 (f7 : BufTy.Contents (Elt Ideal) arg7.view.ty) : Vec Ideal S1x1x256 .f32 :=
  View.readAt (Elt Ideal) arg7.view (Rect.unit (s := S2x1x256) ![1, 0, 0] S1x1x256.size inb_S2x1x256_S1x1x256_1_0_0).toLoadRect f7
def sum0 (f8 : BufTy.Contents (Elt Ideal) arg8.view.ty) : Vec Ideal S1x80x256 .f32 :=
  View.readAt (Elt Ideal) arg8.view (Rect.unit (s := S2x80x256) ![0, 0, 0] S1x80x256.size inb_S2x80x256_S1x80x256_0_0_0).toLoadRect f8
def sum1 (f8 : BufTy.Contents (Elt Ideal) arg8.view.ty) : Vec Ideal S1x80x256 .f32 :=
  View.readAt (Elt Ideal) arg8.view (Rect.unit (s := S2x80x256) ![1, 0, 0] S1x80x256.size inb_S2x80x256_S1x80x256_1_0_0).toLoadRect f8

/-- What a trip writes: per head the new maximum and the new sums. -/
theorem trip_eq (q0 q1 : FVec Ideal S256x128 .bf16) (k : Fin (k0_t1_loop i).trips)
    (f7 : BufTy.Contents (Elt Ideal) arg7.view.ty) (f8 : BufTy.Contents (Elt Ideal) arg8.view.ty) :
    tripL_k0_t1 (F := Ideal) Variants.none c none i arg3 harg3 arg4 harg4 arg5 harg5 arg6 harg6 arg7 harg7 arg8 harg8 q0 q1 0#32 1#32 X_arg4 X_arg5 k f7 f8
      = ([⟨Rect.unit (s := S2x1x256) ![1, 0, 0] S1x1x256.size inb_S2x1x256_S1x1x256_1_0_0, k0_pay16 q1 (keys1 i arg4 X_arg4 k) (max1 arg7 f7)⟩,
          ⟨Rect.unit (s := S2x1x256) ![0, 0, 0] S1x1x256.size inb_S2x1x256_S1x1x256_0_0_0, k0_pay16 q0 (keys0 i arg4 X_arg4 k) (max0 arg7 f7)⟩],
         [⟨Rect.unit (s := S2x80x256) ![1, 0, 0] S1x80x256.size inb_S2x80x256_S1x80x256_1_0_0, k0_pay15 q1 (keys1 i arg4 X_arg4 k) (max1 arg7 f7) (vals1 i arg5 X_arg5 k) (sum1 arg8 f8)⟩,
          ⟨Rect.unit (s := S2x80x256) ![0, 0, 0] S1x80x256.size inb_S2x80x256_S1x80x256_0_0_0, k0_pay15 q0 (keys0 i arg4 X_arg4 k) (max0 arg7 f7) (vals0 i arg5 X_arg5 k) (sum0 arg8 f8)⟩]) := by
  unfold tripL_k0_t1 trip_k0_t1
  dsimp only
  sl_unfold_words
  rfl

/-- A tile's keys and values are the blocks' own, at the tile's place. -/
theorem keys0_apply (k : Fin (k0_t1_loop i).trips) (hk : k.val < 33) (r : Fin 256) (l : Fin 128) :
    keys0 i arg4 X_arg4 k (ix3 0 r l) = arg4.view.read (Elt Ideal) X_arg4 (ix3 0 ⟨(256 * k.val + r.val) % 8448, Nat.mod_lt _ (by decide)⟩ ⟨l.val, by omega⟩) :=
  Heads.load_at _ _ _ _ _ _ _ _ (k0_off1_eq i k) fun a => by
    fin_cases a
    · rfl
    · show 256 * k.val + r.val = (256 * k.val + r.val) % 8448; omega
    · show 0 + l.val = l.val; omega
theorem keys1_apply (k : Fin (k0_t1_loop i).trips) (hk : k.val < 33) (r : Fin 256) (l : Fin 128) :
    keys1 i arg4 X_arg4 k (ix3 0 r l) = arg4.view.read (Elt Ideal) X_arg4 (ix3 0 ⟨(256 * k.val + r.val) % 8448, Nat.mod_lt _ (by decide)⟩ ⟨128 + l.val, by omega⟩) :=
  Heads.load_at _ _ _ _ _ _ _ _ (k0_off3_eq i k) fun a => by
    fin_cases a
    · rfl
    · show 256 * k.val + r.val = (256 * k.val + r.val) % 8448; omega
    · rfl
theorem vals0_apply (k : Fin (k0_t1_loop i).trips) (hk : k.val < 33) (d : Fin 80) (r : Fin 256) :
    vals0 i arg5 X_arg5 k (ix5 0 0 0 d r) = value (arg5.view.read (Elt Ideal) X_arg5) 0 d (256 * k.val + r.val) :=
  Heads.load_at _ _ _ _ _ _ _ _ (k0_off2_eq i k) fun a => by
    fin_cases a
    · rfl
    · rfl
    · show k.val + 0 = (256 * k.val + r.val) / 256 % 33; omega
    · show 0 + d.val = d.val; omega
    · show 0 + r.val = (256 * k.val + r.val) % 256; omega
theorem vals1_apply (k : Fin (k0_t1_loop i).trips) (hk : k.val < 33) (d : Fin 80) (r : Fin 256) :
    vals1 i arg5 X_arg5 k (ix5 0 0 0 d r) = value (arg5.view.read (Elt Ideal) X_arg5) 1 d (256 * k.val + r.val) :=
  Heads.load_at _ _ _ _ _ _ _ _ (k0_off4_eq i k) fun a => by
    fin_cases a
    · rfl
    · rfl
    · show k.val + 0 = (256 * k.val + r.val) / 256 % 33; omega
    · show 0 + d.val = d.val; omega
    · show 0 + r.val = (256 * k.val + r.val) % 256; omega

/-- One trip of the loop takes one tile in, on both heads. -/
theorem trip (hs : ∀ h a k, score X3 (arg4.view.read (Elt Ideal) X_arg4) h a k = (s h a k : EReal))
    (k : Fin (k0_t1_loop i).trips) (hk : k.val < 33)
    (f7 : BufTy.Contents (Elt Ideal) arg7.view.ty) (f8 : BufTy.Contents (Elt Ideal) arg8.view.ty)
    (hI : Inv (arg7.view.read (Elt Ideal) f7) (arg8.view.read (Elt Ideal) f8) (256 * k.val) s (value (arg5.view.read (Elt Ideal) X_arg5))) :
    Inv (arg7.view.read (Elt Ideal) (arg7.view.writes (Elt Ideal) f7 (tripL_k0_t1 (F := Ideal) Variants.none c none i arg3 harg3 arg4 harg4 arg5 harg5 arg6 harg6 arg7 harg7 arg8 harg8 (k0_pay23 X3) (k0_pay24 X3) 0#32 1#32 X_arg4 X_arg5 k f7 f8).1))
      (arg8.view.read (Elt Ideal) (arg8.view.writes (Elt Ideal) f8 (tripL_k0_t1 (F := Ideal) Variants.none c none i arg3 harg3 arg4 harg4 arg5 harg5 arg6 harg6 arg7 harg7 arg8 harg8 (k0_pay23 X3) (k0_pay24 X3) 0#32 1#32 X_arg4 X_arg5 k f7 f8).2))
      (256 * k.val + 256) s (value (arg5.view.read (Elt Ideal) X_arg5)) := by
  rw [trip_eq]
  have h0 : ∀ a, ∃ m1 : ℝ, k0_pay16 (k0_pay23 X3) (keys0 i arg4 X_arg4 k) (max0 arg7 f7) (ix3 0 0 a) = (m1 : EReal) ∧
      ∀ d, k0_pay15 (k0_pay23 X3) (keys0 i arg4 X_arg4 k) (max0 arg7 f7) (vals0 i arg5 X_arg5 k) (sum0 arg8 f8) (ix3 0 d a)
        = part m1 (256 * k.val + 256) (s 0 a) (value (arg5.view.read (Elt Ideal) X_arg5) 0 d) := fun a => by
    refine tile _ _ _ _ _ a _ (s 0 a) (value (arg5.view.read (Elt Ideal) X_arg5) 0) ?_ (fun r => ?_) fun d r => vals0_apply i arg5 X_arg5 k hk d r
    · obtain ⟨m0, hm, hd⟩ := hI 0 a
      exact ⟨m0, (Heads.load _ _ 0 _ 0 rfl 0 a).trans hm, fun d => (Heads.load _ _ 0 _ 0 rfl d a).trans (hd d)⟩
    · refine (Finset.sum_congr rfl fun l _ => ?_).trans (hs 0 a _)
      rw [keys0_apply i arg4 X_arg4 k hk, pay23_apply]
      simp
  have h1 : ∀ a, ∃ m1 : ℝ, k0_pay16 (k0_pay24 X3) (keys1 i arg4 X_arg4 k) (max1 arg7 f7) (ix3 0 0 a) = (m1 : EReal) ∧
      ∀ d, k0_pay15 (k0_pay24 X3) (keys1 i arg4 X_arg4 k) (max1 arg7 f7) (vals1 i arg5 X_arg5 k) (sum1 arg8 f8) (ix3 0 d a)
        = part m1 (256 * k.val + 256) (s 1 a) (value (arg5.view.read (Elt Ideal) X_arg5) 1 d) := fun a => by
    refine tile _ _ _ _ _ a _ (s 1 a) (value (arg5.view.read (Elt Ideal) X_arg5) 1) ?_ (fun r => ?_) fun d r => vals1_apply i arg5 X_arg5 k hk d r
    · obtain ⟨m0, hm, hd⟩ := hI 1 a
      exact ⟨m0, (Heads.load _ _ 1 _ 1 rfl 0 a).trans hm, fun d => (Heads.load _ _ 1 _ 1 rfl d a).trans (hd d)⟩
    · refine (Finset.sum_congr rfl fun l _ => ?_).trans (hs 1 a _)
      rw [keys1_apply i arg4 X_arg4 k hk, pay24_apply]
      rfl
  intro h a
  fin_cases h
  · obtain ⟨m1, hm, hd⟩ := h0 a
    exact ⟨m1, (Heads.read_other _ _ 1 _ _ _ 0 (by decide) 0 a).trans ((Heads.read_same _ _ 0 _ _ _ 0 rfl 0 a).trans hm),
      fun d => (Heads.read_other _ _ 1 _ _ _ 0 (by decide) d a).trans ((Heads.read_same _ _ 0 _ _ _ 0 rfl d a).trans (hd d))⟩
  · obtain ⟨m1, hm, hd⟩ := h1 a
    exact ⟨m1, (Heads.read_same _ _ 1 _ _ _ 1 rfl 0 a).trans hm, fun d => (Heads.read_same _ _ 1 _ _ _ 1 rfl d a).trans (hd d)⟩

end

end Cert.MlaIdeal.Work

end
-- ==== Proof.MlaOut.lean ====
/- The latent attention kernel's output block at a grid point: softmax of the scores, applied to the values. -/
module

public import proofs.«01_k».proof.Proof.MlaLoop
public import Idealize.ShloMosaic.Lib.Pipeline.ValueKit.Basic

@[expose] public section

set_option maxRecDepth 16384

noncomputable section

namespace Cert.MlaIdeal.Work

open Idealize.ShloMosaic Idealize.ShloMosaic.TcCoe Idealize.ShloMosaic.Tactic Cert.MlaIdeal.Gen Cert.Flash

/-- How many key tiles a query tile sees: the context tile its own, every other tile all of them. -/
def tiles (i : grid0.Coords) : ℕ := if (i 2).val = 0 then 1 else 33

theorem tiles_pos (i : grid0.Coords) : 0 < 256 * tiles i := by unfold tiles; split <;> omega

theorem tiles_le (i : grid0.Coords) : tiles i ≤ 33 := by unfold tiles; split <;> omega

theorem trips1 (i : grid0.Coords) : (k0_t1_loop i).trips = tiles i := by
  have h : ∀ n : Fin 33, (Scf.trips (0#32)
      (Scalar.addi 0#32 (Scalar.muli (Scalar.divsi (Scalar.subi (Scalar.select (Scalar.cmpi .eq (BitVec.ofNat 32 n.val) 0#32) 1#32 33#32) 0#32) 1#32) 1#32)) 1#32)
      = if n.val = 0 then 1 else 33 := by decide +kernel
  exact h (i 2)

theorem trips2 (i : grid0.Coords) : (k0_t2_loop i).trips = 0 := Nat.le_zero.1 (k0_t2_abs i).2.1

section
variable (c : Dev nD) (i : grid0.Coords) (arg3 : Memref sig .tc .vmem S1x256x256 .bf16) (harg3 : arg3.IsWhole)
  (arg4 : Memref sig .tc .vmem S1x8448x256 .bf16) (harg4 : arg4.IsWhole) (arg5 : Memref sig .tc .vmem S1x2x33x80x256 .bf16) (harg5 : arg5.IsWhole)
  (arg6 : Memref sig .tc .vmem S1x256x128 .bf16) (harg6 : arg6.IsWhole) (arg7 : Memref sig .tc .vmem S2x1x256 .f32) (harg7 : arg7.IsWhole)
  (arg8 : Memref sig .tc .vmem S2x80x256 .f32) (harg8 : arg8.IsWhole)
  (X3 : Vec Ideal S1x256x256 .bf16) (X_arg4 : BufTy.Contents (Elt Ideal) arg4.view.ty) (X_arg5 : BufTy.Contents (Elt Ideal) arg5.view.ty)
  (s : Fin 2 → Fin 256 → ℕ → ℝ)

/-- The scratch after the first `n` trips. -/
theorem loop (hs : ∀ h a k, score X3 (arg4.view.read (Elt Ideal) X_arg4) h a k = (s h a k : EReal))
    (G7 : BufTy.Contents (Elt Ideal) arg7.view.ty) (G8 : BufTy.Contents (Elt Ideal) arg8.view.ty)
    (hI : Inv (arg7.view.read (Elt Ideal) G7) (arg8.view.read (Elt Ideal) G8) 0 s (value (arg5.view.read (Elt Ideal) X_arg5)))
    (n : ℕ) (hn : n ≤ (k0_t1_loop i).trips) :
    Inv (arg7.view.read (Elt Ideal) (arg7.view.writes (Elt Ideal) G7 (pb_k0_t1 (F := Ideal) Variants.none c none i arg3 harg3 arg4 harg4 arg5 harg5 arg6 harg6 arg7 harg7 arg8 harg8 (k0_pay23 X3) (k0_pay24 X3) 0#32 1#32 X_arg4 X_arg5 G7 G8 n).1))
      (arg8.view.read (Elt Ideal) (arg8.view.writes (Elt Ideal) G8 (pb_k0_t1 (F := Ideal) Variants.none c none i arg3 harg3 arg4 harg4 arg5 harg5 arg6 harg6 arg7 harg7 arg8 harg8 (k0_pay23 X3) (k0_pay24 X3) 0#32 1#32 X_arg4 X_arg5 G7 G8 n).2))
      (256 * n) s (value (arg5.view.read (Elt Ideal) X_arg5)) := by
  induction n with
  | zero => exact hI
  | succ n ih =>
    have h33 := tiles_le i
    rw [← trips1] at h33
    rw [pb_k0_t1_succ (F := Ideal) Variants.none c none i arg3 harg3 arg4 harg4 arg5 harg5 arg6 harg6 arg7 harg7 arg8 harg8 (k0_pay23 X3) (k0_pay24 X3) 0#32 1#32 X_arg4 X_arg5 G7 G8 ⟨n, hn⟩]
    rw [View.writes_append, View.writes_append]
    exact trip c i arg3 harg3 arg4 harg4 arg5 harg5 arg6 harg6 arg7 harg7 arg8 harg8 X3 X_arg4 X_arg5 s hs ⟨n, hn⟩ (by show n < 33; omega) _ _
      (ih (by omega))

/-- What is written to the scratch before the loop. -/
def init7 : List (View.Piece (Elt Ideal) S2x1x256 .f32) :=
  [⟨Rect.unit (s := S2x1x256) ![1, 0, 0] S1x1x256.size inb_S2x1x256_S1x1x256_1_0_0, k0_pay27 (F := Ideal)⟩,
   ⟨Rect.unit (s := S2x1x256) ![0, 0, 0] S1x1x256.size inb_S2x1x256_S1x1x256_0_0_0, k0_pay25 (F := Ideal)⟩]
def init8 : List (View.Piece (Elt Ideal) S2x80x256 .f32) :=
  [⟨Rect.unit (s := S2x80x256) ![1, 0, 0] S1x80x256.size inb_S2x80x256_S1x80x256_1_0_0, k0_pay28 (F := Ideal)⟩,
   ⟨Rect.unit (s := S2x80x256) ![0, 0, 0] S1x80x256.size inb_S2x80x256_S1x80x256_0_0_0, k0_pay26 (F := Ideal)⟩]

/-- Before the loop no key is taken in. -/
theorem init (w : Fin 2 → Fin 80 → ℕ → EReal) :
    Inv (arg7.view.read (Elt Ideal) (arg7.view.writes (Elt Ideal) arg7.view.junk init7))
      (arg8.view.read (Elt Ideal) (arg8.view.writes (Elt Ideal) arg8.view.junk init8)) 0 s w := by
  obtain ⟨m0, hm0⟩ := isReal_init
  unfold init7 init8
  intro h a
  fin_cases h
  · refine ⟨m0, (Heads.read_other _ _ 1 _ _ _ 0 (by decide) 0 a).trans ((Heads.read_same _ _ 0 _ _ _ 0 rfl 0 a).trans ((pay25_apply a).trans hm0)), fun d => ?_⟩
    rw [part_zero]
    exact (Heads.read_other _ _ 1 _ _ _ 0 (by decide) d a).trans ((Heads.read_same _ _ 0 _ _ _ 0 rfl d a).trans (pay26_apply d a))
  · refine ⟨m0, (Heads.read_same _ _ 1 _ _ _ 1 rfl 0 a).trans ((pay27_apply a).trans hm0), fun d => ?_⟩
    rw [part_zero]
    exact (Heads.read_same _ _ 1 _ _ _ 1 rfl d a).trans (pay28_apply d a)

variable (x0 : Vec Ideal S1x256x256 .bf16) (x1 : Vec Ideal S1x8448x256 .bf16) (x2 : Vec Ideal S1x2x33x80x256 .bf16)

/-- The second scratch when the output is written. -/
def last8 : BufTy.Contents (Elt Ideal) arg8.view.ty :=
  arg8.view.writes (Elt Ideal) (arg8.view.writes (Elt Ideal) arg8.view.junk init8)
    (pb_k0_t1 (F := Ideal) Variants.none c none i arg3 harg3 arg4 harg4 arg5 harg5 arg6 harg6 arg7 harg7 arg8 harg8 (k0_pay23 x0) (k0_pay24 x0) 0#32 1#32
      (harg4.unread x1) (harg5.unread x2) (arg7.view.writes (Elt Ideal) arg7.view.junk init7) (arg8.view.writes (Elt Ideal) arg8.view.junk init8) (k0_t1_loop i).trips).2

theorem out_eq : out0_A_3 c i arg3 harg3 arg4 harg4 arg5 harg5 arg6 harg6 arg7 harg7 arg8 harg8 x0 x1 x2
    = k0_pay11 (sum0 arg8 (last8 c i arg3 harg3 arg4 harg4 arg5 harg5 arg6 harg6 arg7 harg7 arg8 harg8 x0 x1 x2))
        (sum1 arg8 (last8 c i arg3 harg3 arg4 harg4 arg5 harg5 arg6 harg6 arg7 harg7 arg8 harg8 x0 x1 x2)) := by
  unfold out0_A_3
  rw [View.read_writes_eq_canon _ _ _ (cover0_A_3 _ _ _ _ _ _ _ _ _ _ _ _ _ _ _ _ _)]
  unfold kernelRun0_A
  dsimp only
  sl_unfold_words
  have t2 : Scf.trips (k0_t2_loop i).lb (k0_t2_loop i).ub (k0_t2_loop i).st = 0 := trips2 i
  have r3 : View.readAt (Elt Ideal) arg3.view (Rect.unit (s := S1x256x256) ![0, 0, 0] S1x256x256.size inb_S1x256x256_S1x256x256_0_0_0).toLoadRect (harg3.unread x0) = x0 := by
    rw [View.readAt_eq_ld, harg3.read_unread]
    exact View.ld_unit_lit _ _ (by decide)
  rw [t2, r3]
  refine (View.canon_cons_unit_lit _ _ _ (by decide)).trans ?_
  simp only [pb_k0_t2, List.nil_append]
  unfold sum0 sum1 last8 init7 init8
  rw [← View.writes_append]
  rfl

/-- The output block, head by head. -/
theorem out_apply (hs : ∀ h a k, score x0 x1 h a k = (s h a k : EReal)) (ho : ∀ h k, value x2 h 64 k = 1) (h : Fin 2) (a : Fin 256) (d : Fin 64) :
    out0_A_3 c i arg3 harg3 arg4 harg4 arg5 harg5 arg6 harg6 arg7 harg7 arg8 harg8 x0 x1 x2 (ix3 0 a ⟨64 * h.val + d.val, by omega⟩)
      = soft (256 * tiles i) (s h a) (value x2 h ⟨d.val, by omega⟩) := by
  have L := loop c i arg3 harg3 arg4 harg4 arg5 harg5 arg6 harg6 arg7 harg7 arg8 harg8 x0 (harg4.unread x1) (harg5.unread x2) s
    (by rw [harg4.read_unread]; exact hs) _ _ (init arg7 arg8 s _) _ le_rfl
  rw [harg5.read_unread, trips1] at L
  rw [out_eq]
  obtain ⟨m, -, hd⟩ := L h a
  have e : ∀ d', (last8 c i arg3 harg3 arg4 harg4 arg5 harg5 arg6 harg6 arg7 harg7 arg8 harg8 x0 x1 x2)
      |> fun f => arg8.view.read (Elt Ideal) f (ix3 h d' a) = part m (256 * tiles i) (s h a) (value x2 h d') := fun d' => by
    unfold last8; rw [trips1]; exact hd d'
  have fin := part_div m (tiles_pos i) (s h a) (value x2 h ⟨d.val, by omega⟩) (value x2 h 64) fun k _ => ho h k
  rw [← e, ← e] at fin
  rw [← fin]
  fin_cases h
  · refine (congrArg _ (congrArg (ix3 0 a) (Fin.ext (by show 64 * 0 + d.val = d.val; omega)))).trans ((pay11_apply_0 _ _ a d).trans ?_)
    exact congrArg₂ _ (Heads.load _ _ 0 _ 0 rfl _ a) (Heads.load _ _ 0 _ 0 rfl _ a)
  · refine (pay11_apply_1 _ _ a d).trans ?_
    exact congrArg₂ _ (Heads.load _ _ 1 _ 1 rfl _ a) (Heads.load _ _ 1 _ 1 rfl _ a)

end

end Cert.MlaIdeal.Work

end
-- ==== Proof.MlaArray.lean ====
/- The latent attention kernel's whole output array: at every place, softmax attention over the keys its row sees. -/
module

public import proofs.«01_k».proof.Proof.MlaOut
public import Idealize.ShloMosaic.Lib.Pipeline.ValueKit.Geometry

@[expose] public section

set_option maxRecDepth 16384

noncomputable section

namespace Cert.MlaIdeal.Work

open Idealize.ShloMosaic Idealize.ShloMosaic.TcCoe Idealize.ShloMosaic.Tactic Cert.MlaIdeal.Gen Cert.Flash
open Idealize.ShloMosaic.Pipeline (Dat Cfg Window)

/-- The score of key `k` for row `i` on head `hd`. -/
def Score (q k : S2x8448x512.Idx → EReal) (b : Fin 2) (hd : Fin 4) (i : Fin 8448) (j : ℕ) : EReal :=
  ∑ l : Fin 128, k (ix3 b ⟨j % 8448, Nat.mod_lt _ (by decide)⟩ ⟨128 * hd.val + l.val, by omega⟩) * q (ix3 b i ⟨128 * hd.val + l.val, by omega⟩)

/-- Row `d` of the value of key `j` on head `hd`. -/
def Val (v : S2x10x33x80x256.Idx → EReal) (b : Fin 2) (hd : Fin 4) (d : Fin 80) (j : ℕ) : EReal :=
  v (ix5 b ⟨6 + hd.val, by omega⟩ ⟨j / 256 % 33, Nat.mod_lt _ (by decide)⟩ d ⟨j % 256, Nat.mod_lt _ (by decide)⟩)

/-- The attention at a row and a lane: a context row sees the context keys, every other row all the keys. -/
def attn (q k : S2x8448x512.Idx → EReal) (v : S2x10x33x80x256.Idx → EReal) (b : Fin 2) (i : Fin 8448) (hd : Fin 4) (d : Fin 64) : EReal :=
  soft (if i.val < 256 then 256 else 8448) (fun j => (Score q k b hd i j).toReal) (Val v b hd ⟨d.val, by omega⟩)

/-- The whole array. -/
def G (q k : S2x8448x512.Idx → EReal) (v : S2x10x33x80x256.Idx → EReal) : S2x8448x256.Idx → EReal := fun j =>
  attn q k v (j 0) (j 1) ⟨(j 2).val / 64, by have : (j 2).val < 256 := (j 2).isLt; omega⟩ ⟨(j 2).val % 64, by omega⟩

/-- The windows' block indices at the points. -/
theorem idx_facts : ∀ t : Fin cfg0.N,
    (win0_0.index t (0 : Fin 3) = (grid0.coords t 0).val ∧ win0_0.index t (1 : Fin 3) = (grid0.coords t 2).val ∧ win0_0.index t (2 : Fin 3) = (grid0.coords t 1).val)
    ∧ (win0_1.index t (0 : Fin 3) = (grid0.coords t 0).val ∧ win0_1.index t (1 : Fin 3) = 0 ∧ win0_1.index t (2 : Fin 3) = (grid0.coords t 1).val)
    ∧ (win0_2.index t (0 : Fin 5) = (grid0.coords t 0).val ∧ win0_2.index t (1 : Fin 5) = 3 + (grid0.coords t 1).val ∧ win0_2.index t (2 : Fin 5) = 0
        ∧ win0_2.index t (3 : Fin 5) = 0 ∧ win0_2.index t (4 : Fin 5) = 0)
    ∧ (win0_3.index t (0 : Fin 3) = (grid0.coords t 0).val ∧ win0_3.index t (1 : Fin 3) = (grid0.coords t 2).val ∧ win0_3.index t (2 : Fin 3) = (grid0.coords t 1).val) :=
  (by decide +kernel : ∀ t : Fin grid0.N, _)

variable (m : (ℓ : Loc nD τ sig) → Buf (Elt Ideal) ℓ) (c : Dev nD) (t : Fin cfg0.N)

/-- The blocks of the three arguments at a point. -/
theorem blk0_apply (a : Fin 256) (l : Fin 256) :
    (iblk m c 0 t : Vec Ideal S1x256x256 .bf16) (ix3 0 a l)
      = m ((c.tc : Thread nD τ).loc main_arg0) (ix3 (grid0.coords t 0) ⟨256 * (grid0.coords t 2).val + a.val, by have : (grid0.coords t 2).val < 33 := (grid0.coords t 2).isLt; omega⟩ ⟨256 * (grid0.coords t 1).val + l.val, by have : (grid0.coords t 1).val < 2 := (grid0.coords t 1).isLt; omega⟩) := by
  obtain ⟨⟨e0, e1, e2⟩, -⟩ := idx_facts t
  blk_simp [iblk]
  refine congrArg (m ((c.tc : Thread nD τ).loc main_arg0)) (funext fun x => Fin.ext ?_)
  fin_cases x
  · show win0_0.index t (0 : Fin 3) * 1 + 1 * 0 = (grid0.coords t 0).val
    omega
  · show win0_0.index t (1 : Fin 3) * 256 + 1 * a.val = 256 * (grid0.coords t 2).val + a.val
    omega
  · show win0_0.index t (2 : Fin 3) * 256 + 1 * l.val = 256 * (grid0.coords t 1).val + l.val
    omega

theorem blk1_apply (a : Fin 8448) (l : Fin 256) :
    (iblk m c 1 t : Vec Ideal S1x8448x256 .bf16) (ix3 0 a l)
      = m ((c.tc : Thread nD τ).loc main_arg1) (ix3 (grid0.coords t 0) a ⟨256 * (grid0.coords t 1).val + l.val, by have : (grid0.coords t 1).val < 2 := (grid0.coords t 1).isLt; omega⟩) := by
  obtain ⟨-, ⟨e0, e1, e2⟩, -⟩ := idx_facts t
  blk_simp [iblk]
  refine congrArg (m ((c.tc : Thread nD τ).loc main_arg1)) (funext fun x => Fin.ext ?_)
  fin_cases x
  · show win0_1.index t (0 : Fin 3) * 1 + 1 * 0 = (grid0.coords t 0).val
    omega
  · show win0_1.index t (1 : Fin 3) * 8448 + 1 * a.val = a.val
    omega
  · show win0_1.index t (2 : Fin 3) * 256 + 1 * l.val = 256 * (grid0.coords t 1).val + l.val
    omega

theorem blk2_apply (h : Fin 2) (j : Fin 33) (d : Fin 80) (r : Fin 256) :
    (iblk m c 2 t : Vec Ideal S1x2x33x80x256 .bf16) (ix5 0 h j d r)
      = m ((c.tc : Thread nD τ).loc main_arg2) (ix5 (grid0.coords t 0) ⟨6 + (2 * (grid0.coords t 1).val + h.val), by have : (grid0.coords t 1).val < 2 := (grid0.coords t 1).isLt; omega⟩ j d r) := by
  obtain ⟨-, -, ⟨e0, e1, e2, e3, e4⟩, -⟩ := idx_facts t
  blk_simp [iblk]
  refine congrArg (m ((c.tc : Thread nD τ).loc main_arg2)) (funext fun x => Fin.ext ?_)
  fin_cases x
  · show win0_2.index t (0 : Fin 5) * 1 + 1 * 0 = (grid0.coords t 0).val
    omega
  · show win0_2.index t (1 : Fin 5) * 2 + 1 * h.val = 6 + (2 * (grid0.coords t 1).val + h.val)
    omega
  · show win0_2.index t (2 : Fin 5) * 33 + 1 * j.val = j.val
    omega
  · show win0_2.index t (3 : Fin 5) * 80 + 1 * d.val = d.val
    omega
  · show win0_2.index t (4 : Fin 5) * 256 + 1 * r.val = r.val
    omega

/-- The head of the pair `g` and the row of the tile `i` at a point. -/
def hd (h : Fin 2) : Fin 4 := ⟨2 * (grid0.coords t 1).val + h.val, by have : (grid0.coords t 1).val < 2 := (grid0.coords t 1).isLt; omega⟩
def row (a : Fin 256) : Fin 8448 := ⟨256 * (grid0.coords t 2).val + a.val, by have : (grid0.coords t 2).val < 33 := (grid0.coords t 2).isLt; omega⟩

theorem score_eq (h : Fin 2) (a : Fin 256) (k : ℕ) :
    score (iblk m c 0 t) (iblk m c 1 t) h a k
      = Score (m ((c.tc : Thread nD τ).loc main_arg0)) (m ((c.tc : Thread nD τ).loc main_arg1)) (grid0.coords t 0) (hd t h) (row t a) k := by
  refine Finset.sum_congr rfl fun l _ => ?_
  rw [blk0_apply m c t, blk1_apply m c t]
  have e : ∀ l : ℕ, 256 * (grid0.coords t 1).val + (128 * h.val + l) = 128 * (hd t h).val + l := fun l => by
    show _ = 128 * (2 * (grid0.coords t 1).val + h.val) + l; omega
  simp only [e]
  rfl

theorem value_eq (h : Fin 2) (d : Fin 80) (k : ℕ) :
    value (iblk m c 2 t) h d k = Val (m ((c.tc : Thread nD τ).loc main_arg2)) (grid0.coords t 0) (hd t h) d k :=
  blk2_apply m c t h _ d _

/-- Every score real, and the row of ones: what the arguments must be. -/
def Ready (q k : S2x8448x512.Idx → EReal) (v : S2x10x33x80x256.Idx → EReal) : Prop :=
  (∀ b hd i j, IsReal (Score q k b hd i j)) ∧ ∀ b hd j, Val v b hd 64 j = 1

/-- The output block at a point. -/
theorem block (hr : Ready (m ((c.tc : Thread nD τ).loc main_arg0)) (m ((c.tc : Thread nD τ).loc main_arg1)) (m ((c.tc : Thread nD τ).loc main_arg2)))
    (h : Fin 2) (a : Fin 256) (d : Fin 64) :
    (outsAt0 m c t : Vec Ideal S1x256x128 .bf16) (ix3 0 a ⟨64 * h.val + d.val, by omega⟩)
      = attn (m ((c.tc : Thread nD τ).loc main_arg0)) (m ((c.tc : Thread nD τ).loc main_arg1)) (m ((c.tc : Thread nD τ).loc main_arg2))
          (grid0.coords t 0) (row t a) (hd t h) d := by
  unfold outsAt0
  refine (out_apply c (grid0.coords t) _ _ _ _ _ _ _ _ _ _ _ _
    (fun h a k => (Score (m ((c.tc : Thread nD τ).loc main_arg0)) (m ((c.tc : Thread nD τ).loc main_arg1)) (grid0.coords t 0) (hd t h) (row t a) k).toReal)
    (iblk m c 0 t) (iblk m c 1 t) (iblk m c 2 t) (fun h a k => ?_) (fun h k => ?_) h a d).trans ?_
  · rw [score_eq m c t]
    obtain ⟨r, e⟩ := hr.1 (grid0.coords t 0) (hd t h) (row t a) k
    rw [e]; rfl
  · rw [value_eq m c t]
    exact hr.2 _ _ _
  · unfold attn
    have e : 256 * tiles (grid0.coords t) = if (row t a).val < 256 then 256 else 8448 := by
      unfold tiles
      have hv : (row t a).val = 256 * (grid0.coords t 2).val + a.val := rfl
      split_ifs <;> omega
    rw [e]
    exact congrArg (soft _ _) (funext fun k => value_eq m c t h _ k)

/-- The output array after the run. -/
theorem array (hr : Ready (m ((c.tc : Thread nD τ).loc main_arg0)) (m ((c.tc : Thread nD τ).loc main_arg1)) (m ((c.tc : Thread nD τ).loc main_arg2))) :
    (dats m 0 c).arrAt 3 cfg0.N
      = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  obtain ⟨-, -, -, e0, e1, e2⟩ := idx_facts t
  have y0 : (y (0 : Fin 3)).val < 1 := (y (0 : Fin 3)).isLt
  have y1 : (y (1 : Fin 3)).val < 256 := (y (1 : Fin 3)).isLt
  have y2 : (y (2 : Fin 3)).val < 128 := (y (2 : Fin 3)).isLt
  have hy : y = (ix3 (0 : Fin 1) (⟨(y (1 : Fin 3)).val, y1⟩ : Fin 256) (⟨64 * ((y (2 : Fin 3)).val / 64) + (y (2 : Fin 3)).val % 64, by omega⟩ : Fin 128) : S1x256x128.Idx) := by
    funext x
    refine Fin.ext ?_
    fin_cases x
    · show (y (0 : Fin 3)).val = 0
      omega
    · rfl
    · show (y (2 : Fin 3)).val = 64 * ((y (2 : Fin 3)).val / 64) + (y (2 : Fin 3)).val % 64
      omega
  refine (congrArg (outsAt0 m c t : Vec Ideal S1x256x128 .bf16) hy).trans ((block m c t hr ⟨(y (2 : Fin 3)).val / 64, by omega⟩ ⟨(y (1 : Fin 3)).val, y1⟩ ⟨(y (2 : Fin 3)).val % 64, by omega⟩).trans ?_)
  have f0 : (((win0_3.blk t).view.emb y) (0 : Fin 3)).val = (grid0.coords t 0).val := by
    show win0_3.index t (0 : Fin 3) * 1 + 1 * (y (0 : Fin 3)).val = _
    omega
  have f1 : (((win0_3.blk t).view.emb y) (1 : Fin 3)).val = 256 * (grid0.coords t 2).val + (y (1 : Fin 3)).val := by
    show win0_3.index t (1 : Fin 3) * 256 + 1 * (y (1 : Fin 3)).val = _
    omega
  have f2 : (((win0_3.blk t).view.emb y) (2 : Fin 3)).val = 128 * (grid0.coords t 1).val + (y (2 : Fin 3)).val := by
    show win0_3.index t (2 : Fin 3) * 128 + 1 * (y (2 : Fin 3)).val = _
    omega
  unfold G
  congr 1
  · exact Fin.ext f0.symm
  · exact Fin.ext f1.symm
  · refine Fin.ext ?_
    show 2 * (grid0.coords t 1).val + (y (2 : Fin 3)).val / 64 = (((win0_3.blk t).view.emb y) (2 : Fin 3)).val / 64
    omega
  · refine Fin.ext ?_
    show (y (2 : Fin 3)).val % 64 = (((win0_3.blk t).view.emb y) (2 : Fin 3)).val % 64
    omega

end Cert.MlaIdeal.Work

end
-- ==== Proof.RowMax.lean ====
/- The largest entry of each row of an array of reals is a real. -/
module

public import proofs.«01_k».proof.Proof.Flash
public import Idealize.ShloMosaic.Lib.Pointwise

@[expose] public section

set_option maxRecDepth 16384

noncomputable section

namespace Cert.Flash

open Idealize.ShloMosaic

theorem isReal_reduce_max {n0 n1 n2 n3 : ℕ} (hn : 0 < n3) (x : Vec Ideal ⟨4, ![n0, n1, n2, n3]⟩ .f32) (init : Vec Ideal ⟨0, ![]⟩ .f32)
    (h : Shape.ReducesTo (⟨4, ![n0, n1, n2, n3]⟩ : Shape) [3] (⟨3, ![n0, n1, n2]⟩ : Shape)) (hu : 0 < (⟨0, ![]⟩ : Shape).numel)
    (hi : ∀ i, init i = ⊥) (a : Fin n0) (b : Fin n1) (c : Fin n2) (hx : ∀ k, IsReal (x (ix4 a b c k))) :
    IsReal (Host.reduce (FloatOps.maximumf (F := Ideal) (φ := .f32)) x init h hu (ix3 a b c)) := by
  pointwise []
  rw [hi]
  exact isReal_fold_max _ ⟨⟨0, hn⟩, Finset.mem_univ _⟩ _ hx

/-- The same with one axis more. -/
theorem isReal_reduce_max' {n0 n1 n2 n3 n4 : ℕ} (hn : 0 < n4) (x : Vec Ideal ⟨5, ![n0, n1, n2, n3, n4]⟩ .f32) (init : Vec Ideal ⟨0, ![]⟩ .f32)
    (h : Shape.ReducesTo (⟨5, ![n0, n1, n2, n3, n4]⟩ : Shape) [4] (⟨4, ![n0, n1, n2, n3]⟩ : Shape)) (hu : 0 < (⟨0, ![]⟩ : Shape).numel)
    (hi : ∀ i, init i = ⊥) (a : Fin n0) (b : Fin n1) (c : Fin n2) (d : Fin n3) (hx : ∀ k, IsReal (x (ix5 a b c d k))) :
    IsReal (Host.reduce (FloatOps.maximumf (F := Ideal) (φ := .f32)) x init h hu (ix4 a b c d)) := by
  pointwise []
  rw [hi]
  exact isReal_fold_max _ ⟨⟨0, hn⟩, Finset.mem_univ _⟩ _ hx

end Cert.Flash

end
-- ==== Proof.MlaRef.lean ====
/- The latent attention reference's array: at every place, softmax attention over the keys its row sees. -/
module

public import proofs.«01_k».proof.Proof.MlaArray
public import proofs.«01_k».proof.Proof.Gen.MlaRefIdeal.Read
public import proofs.«01_k».proof.Proof.RowMax

@[expose] public section

set_option maxRecDepth 16384

noncomputable section

namespace Cert.MlaRefIdeal.Work

open Idealize.ShloMosaic Idealize.ShloMosaic.TcCoe Idealize.ShloMosaic.Tactic Cert.MlaRefIdeal.Gen Cert.MlaRefIdeal.Read Cert.Flash
open Cert.MlaIdeal.Work (Score Val attn G Ready)

variable (q k : Vec Ideal S2x8448x512 .bf16) (v : Vec Ideal S2x10x33x80x256 .bf16)

/-- The scores of the context rows against the context keys. -/
theorem ctx_score (b : Fin 2) (h : Fin 4) (i j : Fin 256) :
    val_main_v13 q k (ix4 b h i j) = Score q k b h ⟨i.val, by omega⟩ j.val := by
  unfold Score
  pointwise [val_main_v13, val_main_v10, val_main_v11, val_main_v2, val_main_v5, val_main_v1, val_main_v4, val_main_v0, val_main_v3]
  refine Finset.sum_congr rfl fun l _ => ?_
  rw [mul_comm]
  have e : j.val % 8448 = j.val := by omega
  have e' : h.val * 128 + l.val = 128 * h.val + l.val := by omega
  simp only [e, e']

/-- The scores of the other rows against all the keys. -/
theorem lat_score (b : Fin 2) (h : Fin 4) (i : Fin 8192) (j : Fin 8448) :
    val_main_v27 q k (ix4 b h i j) = Score q k b h ⟨256 + i.val, by omega⟩ j.val := by
  unfold Score
  pointwise [val_main_v27, val_main_v26, val_main_v2, val_main_v5, val_main_v1, val_main_v4, val_main_v0, val_main_v3]
  refine Finset.sum_congr rfl fun l _ => ?_
  rw [mul_comm]
  have e : j.val % 8448 = j.val := by omega
  have e' : h.val * 128 + l.val = 128 * h.val + l.val := by omega
  simp only [e, e']

theorem bot0 (i : S_.Idx) : val_main_cst (F := Ideal) i = ⊥ := ofBits_neg_inf
theorem bot1 (i : S_.Idx) : val_main_cst_0 (F := Ideal) i = ⊥ := ofBits_neg_inf
theorem bot2 (i : S_.Idx) : val_main_cst_2 (F := Ideal) i = ⊥ := ofBits_neg_inf
theorem bot3 (i : S_.Idx) : val_main_cst_3 (F := Ideal) i = ⊥ := ofBits_neg_inf

theorem ctx_max (b : Fin 2) (h : Fin 4) (i : Fin 256) (hx : ∀ j : Fin 256, IsReal (val_main_v13 q k (ix4 b h i j))) :
    IsReal (val_main_v16 q k (ix3 b h i)) := by
  have e : val_main_v16 q k (ix3 b h i) = val_main_v14 q k (ix3 b h i) := by
    have e : val_main_v16 q k (ix3 b h i) = Max.max (val_main_v15 (F := Ideal) (ix3 b h i)) (val_main_v14 q k (ix3 b h i)) := val_main_v16_apply q k _
    rw [e, val_main_v15_apply, bot1]
    generalize val_main_v14 q k (ix3 b h i) = y
    exact max_bot_left y
  rw [e]
  unfold val_main_v14
  generalize val_main_v13 q k = y at hx ⊢
  exact isReal_reduce_max (n3 := 256) (by decide) y val_main_cst reducesTo_S2x4x256x256_S2x4x256_d3 h_S_ bot0 b h i hx

theorem lat_max (b : Fin 2) (h : Fin 4) (i : Fin 8192) (hx : ∀ j : Fin 8448, IsReal (val_main_v27 q k (ix4 b h i j))) :
    IsReal (val_main_v30 q k (ix3 b h i)) := by
  have e : val_main_v30 q k (ix3 b h i) = val_main_v28 q k (ix3 b h i) := by
    have e : val_main_v30 q k (ix3 b h i) = Max.max (val_main_v29 (F := Ideal) (ix3 b h i)) (val_main_v28 q k (ix3 b h i)) := val_main_v30_apply q k _
    rw [e, val_main_v29_apply, bot3]
    generalize val_main_v28 q k (ix3 b h i) = y
    exact max_bot_left y
  rw [e]
  unfold val_main_v28
  generalize val_main_v27 q k = y at hx ⊢
  exact isReal_reduce_max (n3 := 8448) (by decide) y val_main_cst_2 reducesTo_S2x4x8192x8448_S2x4x8192_d3 h_S_ bot2 b h i hx

theorem ctx_exp (b : Fin 2) (h : Fin 4) (i j : Fin 256) :
    val_main_v20 q k (ix4 b h i j) = Ideal.exp (val_main_v13 q k (ix4 b h i j) - val_main_v16 q k (ix3 b h i)) := by
  pointwise [val_main_v20, val_main_v19, val_main_v18, val_main_v17]

theorem lat_exp (b : Fin 2) (h : Fin 4) (i : Fin 8192) (j : Fin 8448) :
    val_main_v34 q k (ix4 b h i j) = Ideal.exp (val_main_v27 q k (ix4 b h i j) - val_main_v30 q k (ix3 b h i)) := by
  pointwise [val_main_v34, val_main_v33, val_main_v32, val_main_v31]

theorem zero1 (i : S_.Idx) : val_main_cst_1 (F := Ideal) i = 0 := Ideal.ofBits_zero .f32
theorem zero4 (i : S_.Idx) : val_main_cst_4 (F := Ideal) i = 0 := Ideal.ofBits_zero .f32

theorem ctx_value (b : Fin 2) (h : Fin 4) (j : Fin 256) (d : Fin 64) :
    val_main_v12 v (ix4 b h j d) = Val v b h ⟨d.val, by omega⟩ j.val := by
  unfold Val
  pointwise [val_main_v12, val_main_v9, val_main_v8, val_main_v7, val_main_v6]
  have e : j.val / 256 % 33 = j.val / 256 := by omega
  simp only [e]

theorem lat_value (b : Fin 2) (h : Fin 4) (j : Fin 8448) (d : Fin 64) :
    val_main_v9 v (ix4 b h j d) = Val v b h ⟨d.val, by omega⟩ j.val := by
  unfold Val
  pointwise [val_main_v9, val_main_v8, val_main_v7, val_main_v6]
  have e : j.val / 256 % 33 = j.val / 256 := by omega
  simp only [e]

theorem ctx_out (hr : Ready q k v) (b : Fin 2) (h : Fin 4) (i : Fin 256) (d : Fin 64) :
    val_main_v25 q k v (ix4 b h i d) = attn q k v b ⟨i.val, by omega⟩ h d := by
  unfold attn
  rw [if_pos (show i.val < 256 from i.isLt)]
  have hx : ∀ j, IsReal (val_main_v13 q k (ix4 b h i j)) := fun j => by rw [ctx_score]; exact hr.1 _ _ _ _
  pointwise [val_main_v25, val_main_v24, val_main_v23, val_main_v22, val_main_v21]
  simp only [zero1, zero_add, ctx_exp]
  refine plain (by decide) _ (ctx_max q k b h i hx) _ _ _ _ (fun j => ?_) (fun j => ctx_value v b h j d)
  rw [ctx_score]
  obtain ⟨r, e⟩ := hr.1 b h ⟨i.val, by omega⟩ j.val
  rw [e]; rfl

theorem lat_out (hr : Ready q k v) (b : Fin 2) (h : Fin 4) (i : Fin 8192) (d : Fin 64) :
    val_main_v39 q k v (ix4 b h i d) = attn q k v b ⟨256 + i.val, by omega⟩ h d := by
  unfold attn
  rw [if_neg (show ¬ 256 + i.val < 256 by omega)]
  have hx : ∀ j, IsReal (val_main_v27 q k (ix4 b h i j)) := fun j => by rw [lat_score]; exact hr.1 _ _ _ _
  pointwise [val_main_v39, val_main_v38, val_main_v37, val_main_v36, val_main_v35]
  simp only [zero4, zero_add, lat_exp]
  refine plain (by decide) _ (lat_max q k b h i hx) _ _ _ _ (fun j => ?_) (fun j => lat_value v b h j d)
  rw [lat_score]
  obtain ⟨r, e⟩ := hr.1 b h ⟨256 + i.val, by omega⟩ j.val
  rw [e]; rfl

theorem joined (hr : Ready q k v) (b : Fin 2) (h : Fin 4) (i : Fin 8448) (d : Fin 64) :
    val_main_v40 q k v (ix4 b h i d) = attn q k v b i h d := by
  unfold val_main_v40
  by_cases hi : i.val < 256
  · refine (concatenate_pair_apply_left (s₁ := S2x4x256x64) (s₂ := S2x4x8192x64) (2 : Fin S2x4x8448x64.rank) _ _ _ _ rfl (ix4 b h (⟨i.val, hi⟩ : Fin 256) d) fun x => ?_).trans (ctx_out q k v hr b h _ d)
    match x with
    | ⟨0, _⟩ => rfl
    | ⟨1, _⟩ => rfl
    | ⟨2, _⟩ => rfl
    | ⟨3, _⟩ => rfl
  · have e : i = ⟨256 + (i.val - 256), by omega⟩ := Fin.ext (by show i.val = 256 + (i.val - 256); omega)
    refine (concatenate_pair_apply_right (s₁ := S2x4x256x64) (s₂ := S2x4x8192x64) (2 : Fin S2x4x8448x64.rank) _ _ _ _ rfl rfl (ix4 b h (⟨i.val - 256, by omega⟩ : Fin 8192) d) (fun x hx => ?_) ?_).trans ((lat_out q k v hr b h _ d).trans ?_)
    · match x with
      | ⟨0, _⟩ => rfl
      | ⟨1, _⟩ => rfl
      | ⟨2, _⟩ => exact absurd rfl hx
      | ⟨3, _⟩ => rfl
    · show i.val - 256 + 256 = i.val
      omega
    · exact congrArg (fun i => attn q k v b i h d) e.symm

/-- The reference's array. -/
theorem result (hr : Ready q k v) : val_main_v43 q k v = G q k v := by
  funext j
  have j2 : (j (2 : Fin 3)).val < 256 := (j (2 : Fin 3)).isLt
  have h43 : val_main_v43 q k v j = val_main_v42 q k v j := val_main_v43_apply q k v j
  rw [h43, val_main_v42_apply, val_main_v41_apply]
  refine (congrArg (val_main_v40 q k v) (funext fun x => Fin.ext ?_)).trans (joined q k v hr (j 0) ⟨(j 2).val / 64, by omega⟩ (j 1) ⟨(j 2).val % 64, by omega⟩)
  have h0 : (j (0 : Fin 3)).val < 2 := (j (0 : Fin 3)).isLt
  have h1 : (j (1 : Fin 3)).val < 8448 := (j (1 : Fin 3)).isLt
  match x with
  | ⟨0, _⟩ =>
    show (((j (0 : Fin 3)).val * 8448 + (j (1 : Fin 3)).val) * 256 + (j (2 : Fin 3)).val) / 2162688 = (j (0 : Fin 3)).val
    omega
  | ⟨1, _⟩ =>
    show (((j (0 : Fin 3)).val * 8448 + (j (1 : Fin 3)).val) * 256 + (j (2 : Fin 3)).val) / 64 % 4 = (j (2 : Fin 3)).val / 64
    omega
  | ⟨2, _⟩ =>
    show (((j (0 : Fin 3)).val * 8448 + (j (1 : Fin 3)).val) * 256 + (j (2 : Fin 3)).val) / 256 % 8448 = (j (1 : Fin 3)).val
    omega
  | ⟨3, _⟩ =>
    show (((j (0 : Fin 3)).val * 8448 + (j (1 : Fin 3)).val) * 256 + (j (2 : Fin 3)).val) % 64 = (j (2 : Fin 3)).val % 64
    omega

end Cert.MlaRefIdeal.Work

end
-- ==== Proof.Tests.lean ====
/- What the preconditions' comparisons say about an extended real. -/
module

public import proofs.«01_k».proof.Proof.Flash
public import Idealize.ShloMosaic.Lib.Pointwise

@[expose] public section

noncomputable section

namespace Cert.Flash

open Idealize.ShloMosaic

theorem ofBits_inf_bf16 : Ideal.ofBits .bf16 32640#16 = ⊤ := by
  simp [Ideal.ofBits, Ideal.ieee]

theorem ofBits_inf_f32 : Ideal.ofBits .f32 2139095040#32 = ⊤ := by
  simp [Ideal.ofBits, Ideal.ieee]

theorem of_ofBool {p : Prop} [Decidable p] (h : BitVec.ofBool (decide p) = 1#1) : p := by
  by_contra hp
  simp [hp] at h

theorem real_bf16 {x : Ideal .bf16} (h : BitVec.ofBool (decide (FloatOps.absf x < Ideal.ofBits FTy.bf16 32640#16)) = 1#1) : IsReal x := by
  have := of_ofBool h
  rw [ofBits_inf_bf16] at this
  exact IsReal.of_abs_lt this

theorem real_f32 {x : Ideal .f32} (h : BitVec.ofBool (decide (FloatOps.absf x < Ideal.ofBits FTy.f32 2139095040#32)) = 1#1) : IsReal x := by
  have := of_ofBool h
  rw [ofBits_inf_f32] at this
  exact IsReal.of_abs_lt this

end Cert.Flash

end
-- ==== Proof.MlaClaim.lean ====
/- The latent attention: the kernel's array is the reference's. -/
module

public import proofs.«01_k».proof.Defs
public import proofs.«01_k».proof.Proof.MlaRef
public import proofs.«01_k».proof.Proof.Tests

@[expose] public section

set_option maxRecDepth 16384

noncomputable section

namespace Cert.Pre_mla_inputs

open Idealize.ShloMosaic

/-- The shape relations of the precondition's operations. -/
theorem facts : Facts where
  bcast_S_S2x8448x512 := by decide
  slices_S2x10x33x80x256_S2x4x33x1x256_0_6_0_64_0 := by decide
  shapeCasts_S2x4x33x1x256_S2x4x33x256 := by decide
  bcast_S_S2x4x33x256 := by decide

variable (q k : FVec Ideal S2x8448x512 .bf16) (v : FVec Ideal S2x10x33x80x256 .bf16)

attribute [local instance] facts

open Cert.Flash

theorem query_real (h : (fn q k v).1 = fun _ => 1#1) (b : Fin 2) (i : Fin 8448) (l : Fin 512) : IsReal (q (ix3 b i l)) := by
  have e := congrFun h (ix3 b i l)
  revert e
  pointwise [fn]
  exact real_bf16

theorem key_real (h : (fn q k v).2.1 = fun _ => 1#1) (b : Fin 2) (i : Fin 8448) (l : Fin 512) : IsReal (k (ix3 b i l)) := by
  have e := congrFun h (ix3 b i l)
  revert e
  pointwise [fn]
  exact real_bf16

theorem ones (h : (fn q k v).2.2 = fun _ => 1#1) (b : Fin 2) (hd : Fin 4) (j : Fin 33) (r : Fin 256) :
    v (ix5 b ⟨6 + hd.val, by omega⟩ j 64 r) = 1 := by
  have e := congrFun h (ix4 b hd j r)
  revert e
  pointwise [fn]
  exact of_ofBool

/-- What the precondition says, as the attention asks for it. -/
theorem ready (h : (fn q k v).1 = (fun _ => 1#1) ∧ (fn q k v).2.1 = (fun _ => 1#1) ∧ (fn q k v).2.2 = (fun _ => 1#1)) :
    Cert.MlaIdeal.Work.Ready q k v :=
  ⟨fun b hd i j => IsReal.sum _ fun l => (key_real q k v h.2.1 _ _ _).mul (query_real q k v h.1 _ _ _), fun b hd j => ones q k v h.2.2 _ _ _ _⟩

end Cert.Pre_mla_inputs

namespace Cert.Proof

open Idealize.ShloMosaic Idealize.SL.Sem

theorem frame_mla_ref : Cert.quiescent_MlaRefIdeal (hMlaRefIdeal := Cert.MlaRefIdeal.Gen.facts) := fun m g _ =>
  (θ_run Cert.MlaRefIdeal.defs _ _).mono (fun r h => ⟨fun c => (h c).2, sem_eq_zero_of_no_sems (by decide) r.2⟩)
    (Cert.MlaRefIdeal.Value.run (F := Ideal) m g)

theorem algebraic_mla : Cert.algebraic_MlaIdeal_MlaRefIdeal_pre_mla_inputs (hMlaIdeal := Cert.MlaIdeal.Gen.facts)
    (hMlaRefIdeal := Cert.MlaRefIdeal.Gen.facts) (hPre_mla_inputs := Cert.Pre_mla_inputs.facts) := by
  intro m g m' g' hpre hargs
  have hr := fun c => Cert.Pre_mla_inputs.ready _ _ _ (hpre c)
  refine ⟨fun c => Cert.MlaIdeal.Work.G (m ((c.tc : Thread Cert.MlaIdeal.nD Cert.MlaIdeal.τ).loc Cert.MlaIdeal.main_arg0))
      (m ((c.tc : Thread Cert.MlaIdeal.nD Cert.MlaIdeal.τ).loc Cert.MlaIdeal.main_arg1)) (m ((c.tc : Thread Cert.MlaIdeal.nD Cert.MlaIdeal.τ).loc Cert.MlaIdeal.main_arg2)), ?_, ?_⟩
  · exact (θ_run Cert.MlaIdeal.defs _ _).mono (fun r h c => ⟨(h c).1.trans (Cert.MlaIdeal.Work.array m c (hr c)), (h c).2⟩)
      (Cert.MlaIdeal.Value.run_blocks m g)
  · refine (θ_run Cert.MlaRefIdeal.defs _ _).mono (fun r h c => ⟨(h c).1.trans ?_, (h c).2⟩) (Cert.MlaRefIdeal.Value.run (F := Ideal) m' g')
    rw [Cert.MlaRefIdeal.Read.val_main_v43_eq, (hargs c).1, (hargs c).2.1, (hargs c).2.2]
    exact Cert.MlaRefIdeal.Work.result _ _ _ (hr c)

end Cert.Proof

end
-- ==== Proof.DiffTile.lean ====
/- The differential attention kernel's arithmetic, tile by tile: what each payload computes, read at an index. -/
module

public import proofs.«01_k».proof.Proof.Gen.DiffIdeal.Value
public import proofs.«01_k».proof.Proof.Flash
public import proofs.«01_k».proof.Proof.Heads

@[expose] public section

set_option maxRecDepth 16384

noncomputable section

namespace Cert.DiffIdeal.Work

open Idealize.ShloMosaic Idealize.ShloMosaic.TcCoe Idealize.ShloMosaic.Tactic Cert.DiffIdeal.Gen Cert.Flash

variable (q : FVec Ideal S256x128 .bf16) (k : Vec Ideal S1x256x128 .bf16) (m : Vec Ideal S1x1x256 .f32)
  (v : Vec Ideal S1x1x1x80x256 .bf16) (acc : Vec Ideal S1x80x256 .f32)

/-- Every sub-head runs the same arithmetic. -/
theorem pay11_eq : k0_pay11 q k m = k0_pay6 q k m := rfl
theorem pay10_eq : k0_pay10 q k m v acc = k0_pay5 q k m v acc := rfl
theorem pay16_eq : k0_pay16 q k m = k0_pay6 q k m := rfl
theorem pay15_eq : k0_pay15 q k m v acc = k0_pay5 q k m v acc := rfl
theorem pay51_eq : k0_pay51 (k0_pay17 q k) m = k0_pay6 q k m := rfl
theorem pay50_eq : k0_pay50 (k0_pay17 q k) m v acc = k0_pay5 q k m v acc := rfl

/-- The new running maximum of a query. -/
theorem pay6_apply (a : Fin 256) :
    k0_pay6 q k m (ix3 0 0 a)
      = max (m (ix3 0 0 a)) (Finset.univ.fold max ⊥ fun r : Fin 256 => ∑ l : Fin 128, k (ix3 0 r l) * q (ix2 a l)) := by
  pointwise [k0_pay6, k0_pay4, k0_pay3, k0_pay2]
  rw [ofBits_neg_inf]

/-- The rescaled and extended sum of a query. -/
theorem pay5_apply (d : Fin 80) (a : Fin 256) :
    k0_pay5 q k m v acc (ix3 0 d a)
      = Ideal.exp (m (ix3 0 0 a) - k0_pay6 q k m (ix3 0 0 a)) * acc (ix3 0 d a)
        + ∑ r : Fin 256, v (ix5 0 0 0 d r) * Ideal.exp ((∑ l : Fin 128, k (ix3 0 r l) * q (ix2 a l)) - k0_pay6 q k m (ix3 0 0 a)) := by
  rw [pay6_apply]
  pointwise [k0_pay5, k0_pay4, k0_pay3, k0_pay2]
  rw [ofBits_neg_inf]

/-- One tile's work on one sub-head and one query: the maximum stays real, the sums take the tile in. -/
theorem tile (a : Fin 256) (n : ℕ) (s : ℕ → ℝ) (w : Fin 80 → ℕ → EReal)
    (hm : ∃ m0 : ℝ, m (ix3 0 0 a) = (m0 : EReal) ∧ ∀ d, acc (ix3 0 d a) = part m0 n s (w d))
    (hs : ∀ r : Fin 256, ∑ l : Fin 128, k (ix3 0 r l) * q (ix2 a l) = (s (n + r) : EReal))
    (hv : ∀ d (r : Fin 256), v (ix5 0 0 0 d r) = w d (n + r)) :
    ∃ m1 : ℝ, k0_pay6 q k m (ix3 0 0 a) = (m1 : EReal) ∧ ∀ d, k0_pay5 q k m v acc (ix3 0 d a) = part m1 (n + 256) s (w d) := by
  obtain ⟨m0, h0, hacc⟩ := hm
  obtain ⟨m1, h1, -⟩ := step (T := 256) (by decide) m0 n s (w 0) _ (fun r => v (ix5 0 0 0 0 r)) hs (hv 0)
  refine ⟨m1, by rw [pay6_apply, h0, h1], fun d => ?_⟩
  obtain ⟨m2, h2, hd⟩ := step (T := 256) (by decide) m0 n s (w d) _ (fun r => v (ix5 0 0 0 d r)) hs (hv d)
  have e : m2 = m1 := by exact_mod_cast h2.symm.trans h1
  subst e
  rw [pay5_apply, pay6_apply, h0, h1, hacc, hd]

/-- A query block, masked to a sub-head's lanes. -/
def masked (x : Vec Ideal S1x256x128 .bf16) (u : Vec Ideal S1x128 .f32) : FVec Ideal S256x128 .bf16 := k0_pay35 x u

theorem pay36_eq (x : Vec Ideal S1x256x128 .bf16) (u : Vec Ideal S1x128 .f32) : k0_pay36 x u = masked x u := rfl
theorem pay37_eq (x : Vec Ideal S1x256x128 .bf16) (u : Vec Ideal S1x128 .f32) : k0_pay37 x u = masked x u := rfl
theorem pay38_eq (x : Vec Ideal S1x256x128 .bf16) (u : Vec Ideal S1x128 .f32) : k0_pay38 x u = masked x u := rfl

theorem masked_apply (x : Vec Ideal S1x256x128 .bf16) (u : Vec Ideal S1x128 .f32) (a : Fin 256) (l : Fin 128) :
    masked x u (ix2 a l) = x (ix3 0 a l) * u (ix2 0 l) := by
  unfold masked
  pointwise [k0_pay35, k0_pay34]

/-- What the scratch begins with. -/
theorem pay39_apply (a : Fin 256) : k0_pay39 (F := Ideal) (ix3 0 0 a) = Ideal.ofBits .f32 0xF149F2CA#32 := by
  pointwise [k0_pay39]
theorem pay42_eq : k0_pay42 (F := Ideal) k0_pay41 = k0_pay39 := rfl
theorem pay44_eq : k0_pay44 (F := Ideal) = k0_pay39 := rfl
theorem pay46_eq : k0_pay46 (F := Ideal) = k0_pay39 := rfl
theorem pay40_apply (d : Fin 80) (a : Fin 256) : k0_pay40 (F := Ideal) (ix3 0 d a) = 0 := by
  pointwise [k0_pay40]
theorem pay43_eq : k0_pay43 (F := Ideal) = k0_pay40 := rfl
theorem pay45_eq : k0_pay45 (F := Ideal) = k0_pay40 := rfl
theorem pay47_eq : k0_pay47 (F := Ideal) = k0_pay40 := rfl

/-- A sub-head's quotient. -/
theorem pay56_apply (x : Vec Ideal S1x80x256 .f32) (d : Fin 64) (a : Fin 256) :
    k0_pay56 x (ix2 d a) = Ideal.div (x (ix3 0 ⟨d.val, by omega⟩ a)) (x (ix3 0 64 a)) := by
  pointwise [k0_pay56]
theorem pay57_eq (x : Vec Ideal S1x80x256 .f32) : k0_pay57 x = k0_pay56 x := rfl
theorem pay58_eq (x : Vec Ideal S1x80x256 .f32) : k0_pay58 x = k0_pay56 x := rfl
theorem pay59_eq (x : Vec Ideal S1x80x256 .f32) : k0_pay59 x = k0_pay56 x := rfl

/-- The layer's two lambda scalars. -/
theorem pay61_apply (p : Vec Ideal S1x8x32 .f32) : k0_pay61 p (ix2 0 0) = p (ix3 0 4 0) := by
  pointwise [k0_pay61, k0_pay60]

/-- The lambda of the layer: the difference of two exponentials, plus the initial value. -/
def lam (p : S1x8x32.Idx → EReal) : EReal :=
  Ideal.exp (∑ l : Fin 32, p (ix3 0 0 l) * p (ix3 0 1 l)) - Ideal.exp (∑ l : Fin 32, p (ix3 0 2 l) * p (ix3 0 3 l)) + p (ix3 0 4 0)

theorem pay62_apply (p : Vec Ideal S1x8x32 .f32) : k0_pay62 p (ix2 0 0) = lam p := by
  unfold lam
  pointwise [k0_pay62, k0_pay61, k0_pay60]

/-- A row normalised to unit mean square, weighted, and scaled by what the initial value leaves. -/
def normed (o : Fin 64 → EReal) (w li : EReal) (d : Fin 64) : EReal :=
  o d * Ideal.rsqrt (Ideal.div (∑ e : Fin 64, o e * o e) (Ideal.ofBits .f32 0x42800000#32) + Ideal.ofBits .f32 0x358637BD#32) * w
    * (Ideal.ofBits .f32 0x3F800000#32 - li)

variable (x0 x1 x2 x3 : FVec Ideal S64x256 .f32) (li lm : FVec Ideal S1x1 .f32) (w : Vec Ideal S1x1x128 .f32)

/-- The output block: the first head's lanes … -/
theorem pay1_apply_0 (a : Fin 256) (d : Fin 64) :
    k0_pay1 x0 x1 x2 x3 li lm w (ix3 0 a ⟨d.val, by omega⟩)
      = normed (fun e => x0 (ix2 e a) - lm (ix2 0 0) * x1 (ix2 e a)) (w (ix3 0 0 ⟨d.val, by omega⟩)) (li (ix2 0 0)) d := by
  unfold normed
  pointwise [k0_pay1]
/-- … and the second's. -/
theorem pay1_apply_1 (a : Fin 256) (d : Fin 64) :
    k0_pay1 x0 x1 x2 x3 li lm w (ix3 0 a ⟨64 + d.val, by omega⟩)
      = normed (fun e => x2 (ix2 e a) - lm (ix2 0 0) * x3 (ix2 e a)) (w (ix3 0 0 ⟨64 + d.val, by omega⟩)) (li (ix2 0 0)) d := by
  unfold normed
  pointwise [k0_pay1]

end Cert.DiffIdeal.Work

end
-- ==== Proof.DiffLoop.lean ====
/- The differential attention kernel's tile loop: what the two scratch buffers hold after each trip. -/
module

public import proofs.«01_k».proof.Proof.DiffTile

@[expose] public section

set_option maxRecDepth 16384

noncomputable section

namespace Cert.DiffIdeal.Work

open Idealize.ShloMosaic Idealize.ShloMosaic.TcCoe Idealize.ShloMosaic.Tactic Cert.DiffIdeal.Gen Cert.Flash

/-- The score of key `k` for query `a` of a block, the query masked to a sub-head. -/
def score (q : FVec Ideal S256x128 .bf16) (X4 : Vec Ideal S1x8448x128 .bf16) (a : Fin 256) (k : ℕ) : EReal :=
  ∑ l : Fin 128, X4 (ix3 0 ⟨k % 8448, Nat.mod_lt _ (by decide)⟩ l) * q (ix2 a l)

/-- Row `d` of the value of key `k`, for sub-head `h`: two sub-heads share a head's values. -/
def value (X5 : Vec Ideal S1x2x33x80x256 .bf16) (h : Fin 4) (d : Fin 80) (k : ℕ) : EReal :=
  X5 (ix5 0 ⟨h.val / 2, by omega⟩ ⟨k / 256 % 33, Nat.mod_lt _ (by decide)⟩ d ⟨k % 256, Nat.mod_lt _ (by decide)⟩)

/-- The scratch after `n` keys: per sub-head and query a real maximum and the sums over those keys at it. -/
def Inv (A10 : S4x1x256.Idx → EReal) (A11 : S4x80x256.Idx → EReal) (n : ℕ) (s : Fin 4 → Fin 256 → ℕ → ℝ) (w : Fin 4 → Fin 80 → ℕ → EReal) : Prop :=
  ∀ h a, ∃ m : ℝ, A10 (ix3 h 0 a) = (m : EReal) ∧ ∀ d, A11 (ix3 h d a) = part m n (s h a) (w h d)

section
variable (c : Dev nD) (i : grid0.Coords) (arg3 : Memref sig .tc .vmem S1x256x128 .bf16) (harg3 : arg3.IsWhole)
  (arg4 : Memref sig .tc .vmem S1x8448x128 .bf16) (harg4 : arg4.IsWhole) (arg5 : Memref sig .tc .vmem S1x2x33x80x256 .bf16) (harg5 : arg5.IsWhole)
  (arg6 : Memref sig .tc .vmem S8x128 .f32) (harg6 : arg6.IsWhole) (arg7 : Memref sig .tc .vmem S1x8x32 .f32) (harg7 : arg7.IsWhole)
  (arg8 : Memref sig .tc .vmem S1x1x128 .f32) (harg8 : arg8.IsWhole) (arg9 : Memref sig .tc .vmem S1x256x128 .bf16) (harg9 : arg9.IsWhole)
  (arg10 : Memref sig .tc .vmem S4x1x256 .f32) (harg10 : arg10.IsWhole) (arg11 : Memref sig .tc .vmem S4x80x256 .f32) (harg11 : arg11.IsWhole)
  (v1 : BitVec 32) (v29 : FVec Ideal S1x256 .f32)
  (q : Fin 4 → FVec Ideal S256x128 .bf16) (X_arg4 : BufTy.Contents (Elt Ideal) arg4.view.ty) (X_arg5 : BufTy.Contents (Elt Ideal) arg5.view.ty)
  (s : Fin 4 → Fin 256 → ℕ → ℝ)

/-- The loads of a trip: the tile's keys, the two heads' values, and the scratch per sub-head. -/
def keys (k : Fin (k0_t1_loop i).trips) : Vec Ideal S1x256x128 .bf16 :=
  View.readAt (Elt Ideal) arg4.view (Rect.unit (s := S1x8448x128) (k0_off1 i k) S1x256x128.size (k0_off1_inb i k)).toLoadRect X_arg4
def vals0 (k : Fin (k0_t1_loop i).trips) : Vec Ideal S1x1x1x80x256 .bf16 :=
  View.readAt (Elt Ideal) arg5.view (Rect.unit (s := S1x2x33x80x256) (k0_off2 i k) S1x1x1x80x256.size (k0_off2_inb i k)).toLoadRect X_arg5
def vals1 (k : Fin (k0_t1_loop i).trips) : Vec Ideal S1x1x1x80x256 .bf16 :=
  View.readAt (Elt Ideal) arg5.view (Rect.unit (s := S1x2x33x80x256) (k0_off3 i k) S1x1x1x80x256.size (k0_off3_inb i k)).toLoadRect X_arg5

/-- A sub-head's place in the scratch buffers. -/
abbrev rmax (j : ℕ) (inb : ∀ a : Fin 3, (![j, 0, 0] : Fin 3 → ℕ) a + S1x1x256.size a ≤ S4x1x256.size a) : Rect S4x1x256 :=
  Rect.unit (s := S4x1x256) ![j, 0, 0] S1x1x256.size inb
abbrev rsum (j : ℕ) (inb : ∀ a : Fin 3, (![j, 0, 0] : Fin 3 → ℕ) a + S1x80x256.size a ≤ S4x80x256.size a) : Rect S4x80x256 :=
  Rect.unit (s := S4x80x256) ![j, 0, 0] S1x80x256.size inb

abbrev ldmax (j : ℕ) (inb : ∀ a : Fin 3, (![j, 0, 0] : Fin 3 → ℕ) a + S1x1x256.size a ≤ S4x1x256.size a) (f : BufTy.Contents (Elt Ideal) arg10.view.ty) : Vec Ideal S1x1x256 .f32 :=
  View.readAt (Elt Ideal) arg10.view (rmax j inb).toLoadRect f
abbrev ldsum (j : ℕ) (inb : ∀ a : Fin 3, (![j, 0, 0] : Fin 3 → ℕ) a + S1x80x256.size a ≤ S4x80x256.size a) (f : BufTy.Contents (Elt Ideal) arg11.view.ty) : Vec Ideal S1x80x256 .f32 :=
  View.readAt (Elt Ideal) arg11.view (rsum j inb).toLoadRect f

/-- What a trip leaves of a sub-head's maximum and sums. -/
abbrev newmax (j : ℕ) (inb : ∀ a : Fin 3, (![j, 0, 0] : Fin 3 → ℕ) a + S1x1x256.size a ≤ S4x1x256.size a) (q' : FVec Ideal S256x128 .bf16)
    (k : Fin (k0_t1_loop i).trips) (f : BufTy.Contents (Elt Ideal) arg10.view.ty) : View.Piece (Elt Ideal) S4x1x256 .f32 :=
  ⟨rmax j inb, k0_pay6 q' (keys i arg4 X_arg4 k) (ldmax arg10 j inb f)⟩
abbrev newsum (j : ℕ) (inb : ∀ a : Fin 3, (![j, 0, 0] : Fin 3 → ℕ) a + S1x1x256.size a ≤ S4x1x256.size a)
    (inb' : ∀ a : Fin 3, (![j, 0, 0] : Fin 3 → ℕ) a + S1x80x256.size a ≤ S4x80x256.size a) (q' : FVec Ideal S256x128 .bf16) (vals : Vec Ideal S1x1x1x80x256 .bf16)
    (k : Fin (k0_t1_loop i).trips) (f : BufTy.Contents (Elt Ideal) arg10.view.ty) (f' : BufTy.Contents (Elt Ideal) arg11.view.ty) : View.Piece (Elt Ideal) S4x80x256 .f32 :=
  ⟨rsum j inb', k0_pay5 q' (keys i arg4 X_arg4 k) (ldmax arg10 j inb f) vals (ldsum arg11 j inb' f')⟩

/-- What a trip writes: per sub-head the new maximum and the new sums. -/
theorem trip_eq (k : Fin (k0_t1_loop i).trips) (f10 : BufTy.Contents (Elt Ideal) arg10.view.ty) (f11 : BufTy.Contents (Elt Ideal) arg11.view.ty) :
    tripL_k0_t1 (F := Ideal) Variants.none c none i arg3 harg3 arg4 harg4 arg5 harg5 arg6 harg6 arg7 harg7 arg8 harg8 arg9 harg9 arg10 harg10 arg11 harg11 v1 (q 0) (q 1) (q 2) (q 3) v29 X_arg4 X_arg5 k f10 f11
      = ([newmax i arg4 arg10 X_arg4 3 inb_S4x1x256_S1x1x256_3_0_0 (q 3) k f10, newmax i arg4 arg10 X_arg4 2 inb_S4x1x256_S1x1x256_2_0_0 (q 2) k f10,
          newmax i arg4 arg10 X_arg4 1 inb_S4x1x256_S1x1x256_1_0_0 (q 1) k f10, newmax i arg4 arg10 X_arg4 0 inb_S4x1x256_S1x1x256_0_0_0 (q 0) k f10],
         [newsum i arg4 arg10 arg11 X_arg4 3 inb_S4x1x256_S1x1x256_3_0_0 inb_S4x80x256_S1x80x256_3_0_0 (q 3) (vals1 i arg5 X_arg5 k) k f10 f11,
          newsum i arg4 arg10 arg11 X_arg4 2 inb_S4x1x256_S1x1x256_2_0_0 inb_S4x80x256_S1x80x256_2_0_0 (q 2) (vals1 i arg5 X_arg5 k) k f10 f11,
          newsum i arg4 arg10 arg11 X_arg4 1 inb_S4x1x256_S1x1x256_1_0_0 inb_S4x80x256_S1x80x256_1_0_0 (q 1) (vals0 i arg5 X_arg5 k) k f10 f11,
          newsum i arg4 arg10 arg11 X_arg4 0 inb_S4x1x256_S1x1x256_0_0_0 inb_S4x80x256_S1x80x256_0_0_0 (q 0) (vals0 i arg5 X_arg5 k) k f10 f11]) := by
  unfold tripL_k0_t1 trip_k0_t1
  dsimp only
  sl_unfold_words
  rfl

/-- A tile's keys and values are the blocks' own, at the tile's place. -/
theorem keys_apply (k : Fin (k0_t1_loop i).trips) (hk : k.val < 33) (r : Fin 256) (l : Fin 128) :
    keys i arg4 X_arg4 k (ix3 0 r l) = arg4.view.read (Elt Ideal) X_arg4 (ix3 0 ⟨(256 * k.val + r.val) % 8448, Nat.mod_lt _ (by decide)⟩ l) :=
  Heads.load_at _ _ _ _ _ _ _ _ (k0_off1_eq i k) fun a => by
    fin_cases a
    · rfl
    · show 256 * k.val + r.val = (256 * k.val + r.val) % 8448; omega
    · show 0 + l.val = l.val; omega
theorem vals0_apply (k : Fin (k0_t1_loop i).trips) (hk : k.val < 33) (h : Fin 4) (hh : h.val / 2 = 0) (d : Fin 80) (r : Fin 256) :
    vals0 i arg5 X_arg5 k (ix5 0 0 0 d r) = value (arg5.view.read (Elt Ideal) X_arg5) h d (256 * k.val + r.val) :=
  Heads.load_at _ _ _ _ _ _ _ _ (k0_off2_eq i k) fun a => by
    fin_cases a
    · rfl
    · exact hh.symm
    · show k.val + 0 = (256 * k.val + r.val) / 256 % 33; omega
    · show 0 + d.val = d.val; omega
    · show 0 + r.val = (256 * k.val + r.val) % 256; omega
theorem vals1_apply (k : Fin (k0_t1_loop i).trips) (hk : k.val < 33) (h : Fin 4) (hh : h.val / 2 = 1) (d : Fin 80) (r : Fin 256) :
    vals1 i arg5 X_arg5 k (ix5 0 0 0 d r) = value (arg5.view.read (Elt Ideal) X_arg5) h d (256 * k.val + r.val) :=
  Heads.load_at _ _ _ _ _ _ _ _ (k0_off3_eq i k) fun a => by
    fin_cases a
    · rfl
    · exact hh.symm
    · show k.val + 0 = (256 * k.val + r.val) / 256 % 33; omega
    · show 0 + d.val = d.val; omega
    · show 0 + r.val = (256 * k.val + r.val) % 256; omega

/-- One trip's work on one sub-head. -/
theorem sub (hs : ∀ h a k, score (q h) (arg4.view.read (Elt Ideal) X_arg4) a k = (s h a k : EReal))
    (k : Fin (k0_t1_loop i).trips) (hk : k.val < 33)
    (f10 : BufTy.Contents (Elt Ideal) arg10.view.ty) (f11 : BufTy.Contents (Elt Ideal) arg11.view.ty)
    (hI : Inv (arg10.view.read (Elt Ideal) f10) (arg11.view.read (Elt Ideal) f11) (256 * k.val) s (value (arg5.view.read (Elt Ideal) X_arg5)))
    (h : Fin 4) (j : ℕ) (hj : h.val = j) (inb : ∀ a : Fin 3, (![j, 0, 0] : Fin 3 → ℕ) a + S1x1x256.size a ≤ S4x1x256.size a)
    (inb' : ∀ a : Fin 3, (![j, 0, 0] : Fin 3 → ℕ) a + S1x80x256.size a ≤ S4x80x256.size a) (vals : Vec Ideal S1x1x1x80x256 .bf16)
    (hv : ∀ d (r : Fin 256), vals (ix5 0 0 0 d r) = value (arg5.view.read (Elt Ideal) X_arg5) h d (256 * k.val + r.val)) (a : Fin 256) :
    ∃ m1 : ℝ, k0_pay6 (q h) (keys i arg4 X_arg4 k) (ldmax arg10 j inb f10) (ix3 0 0 a) = (m1 : EReal) ∧
      ∀ d, k0_pay5 (q h) (keys i arg4 X_arg4 k) (ldmax arg10 j inb f10) vals (ldsum arg11 j inb' f11) (ix3 0 d a)
        = part m1 (256 * k.val + 256) (s h a) (value (arg5.view.read (Elt Ideal) X_arg5) h d) := by
  refine tile _ _ _ _ _ a _ (s h a) (value (arg5.view.read (Elt Ideal) X_arg5) h) ?_ (fun r => ?_) hv
  · obtain ⟨m0, hm, hd⟩ := hI h a
    exact ⟨m0, (Heads.load _ _ j _ h hj 0 a).trans hm, fun d => (Heads.load _ _ j _ h hj d a).trans (hd d)⟩
  · refine (Finset.sum_congr rfl fun l _ => ?_).trans (hs h a _)
    rw [keys_apply i arg4 X_arg4 k hk]

/-- Four pieces, one per sub-head: reading a sub-head's slab gives its own piece. -/
theorem read_four {M N : ℕ} (v : View sig .tc .vmem (⟨3, ![4, M, N]⟩ : Shape) .f32) (f : v.ty.Contents (Elt Ideal))
    (i0 : ∀ a : Fin 3, (![0, 0, 0] : Fin 3 → ℕ) a + (![1, M, N] : Fin 3 → ℕ) a ≤ (⟨3, ![4, M, N]⟩ : Shape).size a)
    (i1 : ∀ a : Fin 3, (![1, 0, 0] : Fin 3 → ℕ) a + (![1, M, N] : Fin 3 → ℕ) a ≤ (⟨3, ![4, M, N]⟩ : Shape).size a)
    (i2 : ∀ a : Fin 3, (![2, 0, 0] : Fin 3 → ℕ) a + (![1, M, N] : Fin 3 → ℕ) a ≤ (⟨3, ![4, M, N]⟩ : Shape).size a)
    (i3 : ∀ a : Fin 3, (![3, 0, 0] : Fin 3 → ℕ) a + (![1, M, N] : Fin 3 → ℕ) a ≤ (⟨3, ![4, M, N]⟩ : Shape).size a)
    (w : Fin 4 → (⟨3, ![1, M, N]⟩ : Shape).Idx → EReal) (h : Fin 4) (x : Fin M) (y : Fin N) :
    v.read (Elt Ideal) (v.writes (Elt Ideal) f [(⟨Rect.unit (s := ⟨3, ![4, M, N]⟩) ![3, 0, 0] ![1, M, N] i3, w 3⟩ : View.Piece (Elt Ideal) _ .f32),
        ⟨Rect.unit (s := ⟨3, ![4, M, N]⟩) ![2, 0, 0] ![1, M, N] i2, w 2⟩, ⟨Rect.unit (s := ⟨3, ![4, M, N]⟩) ![1, 0, 0] ![1, M, N] i1, w 1⟩,
        ⟨Rect.unit (s := ⟨3, ![4, M, N]⟩) ![0, 0, 0] ![1, M, N] i0, w 0⟩]) (ix3 h x y) = w h (ix3 0 x y) := by
  fin_cases h
  · exact (Heads.read_other _ _ 3 _ _ _ 0 (by decide) x y).trans ((Heads.read_other _ _ 2 _ _ _ 0 (by decide) x y).trans
      ((Heads.read_other _ _ 1 _ _ _ 0 (by decide) x y).trans (Heads.read_same _ _ 0 _ _ _ 0 rfl x y)))
  · exact (Heads.read_other _ _ 3 _ _ _ 1 (by decide) x y).trans ((Heads.read_other _ _ 2 _ _ _ 1 (by decide) x y).trans
      (Heads.read_same _ _ 1 _ _ _ 1 rfl x y))
  · exact (Heads.read_other _ _ 3 _ _ _ 2 (by decide) x y).trans (Heads.read_same _ _ 2 _ _ _ 2 rfl x y)
  · exact Heads.read_same _ _ 3 _ _ _ 3 rfl x y

/-- One trip of the loop takes one tile in, on all sub-heads. -/
theorem trip (hs : ∀ h a k, score (q h) (arg4.view.read (Elt Ideal) X_arg4) a k = (s h a k : EReal))
    (k : Fin (k0_t1_loop i).trips) (hk : k.val < 33)
    (f10 : BufTy.Contents (Elt Ideal) arg10.view.ty) (f11 : BufTy.Contents (Elt Ideal) arg11.view.ty)
    (hI : Inv (arg10.view.read (Elt Ideal) f10) (arg11.view.read (Elt Ideal) f11) (256 * k.val) s (value (arg5.view.read (Elt Ideal) X_arg5))) :
    Inv (arg10.view.read (Elt Ideal) (arg10.view.writes (Elt Ideal) f10 (tripL_k0_t1 (F := Ideal) Variants.none c none i arg3 harg3 arg4 harg4 arg5 harg5 arg6 harg6 arg7 harg7 arg8 harg8 arg9 harg9 arg10 harg10 arg11 harg11 v1 (q 0) (q 1) (q 2) (q 3) v29 X_arg4 X_arg5 k f10 f11).1))
      (arg11.view.read (Elt Ideal) (arg11.view.writes (Elt Ideal) f11 (tripL_k0_t1 (F := Ideal) Variants.none c none i arg3 harg3 arg4 harg4 arg5 harg5 arg6 harg6 arg7 harg7 arg8 harg8 arg9 harg9 arg10 harg10 arg11 harg11 v1 (q 0) (q 1) (q 2) (q 3) v29 X_arg4 X_arg5 k f10 f11).2))
      (256 * k.val + 256) s (value (arg5.view.read (Elt Ideal) X_arg5)) := by
  rw [trip_eq]
  have S := sub i arg4 arg5 arg10 arg11 q X_arg4 X_arg5 s hs k hk f10 f11 hI
  have h0 := S 0 0 rfl inb_S4x1x256_S1x1x256_0_0_0 inb_S4x80x256_S1x80x256_0_0_0 _ (vals0_apply i arg5 X_arg5 k hk 0 (by decide))
  have h1 := S 1 1 rfl inb_S4x1x256_S1x1x256_1_0_0 inb_S4x80x256_S1x80x256_1_0_0 _ (vals0_apply i arg5 X_arg5 k hk 1 (by decide))
  have h2 := S 2 2 rfl inb_S4x1x256_S1x1x256_2_0_0 inb_S4x80x256_S1x80x256_2_0_0 _ (vals1_apply i arg5 X_arg5 k hk 2 (by decide))
  have h3 := S 3 3 rfl inb_S4x1x256_S1x1x256_3_0_0 inb_S4x80x256_S1x80x256_3_0_0 _ (vals1_apply i arg5 X_arg5 k hk 3 (by decide))
  have e10 := fun h a => read_four arg10.view f10 inb_S4x1x256_S1x1x256_0_0_0 inb_S4x1x256_S1x1x256_1_0_0 inb_S4x1x256_S1x1x256_2_0_0 inb_S4x1x256_S1x1x256_3_0_0
    ![k0_pay6 (q 0) (keys i arg4 X_arg4 k) (ldmax arg10 0 inb_S4x1x256_S1x1x256_0_0_0 f10), k0_pay6 (q 1) (keys i arg4 X_arg4 k) (ldmax arg10 1 inb_S4x1x256_S1x1x256_1_0_0 f10),
      k0_pay6 (q 2) (keys i arg4 X_arg4 k) (ldmax arg10 2 inb_S4x1x256_S1x1x256_2_0_0 f10), k0_pay6 (q 3) (keys i arg4 X_arg4 k) (ldmax arg10 3 inb_S4x1x256_S1x1x256_3_0_0 f10)] h 0 a
  have e11 := fun h d a => read_four arg11.view f11 inb_S4x80x256_S1x80x256_0_0_0 inb_S4x80x256_S1x80x256_1_0_0 inb_S4x80x256_S1x80x256_2_0_0 inb_S4x80x256_S1x80x256_3_0_0
    ![k0_pay5 (q 0) (keys i arg4 X_arg4 k) (ldmax arg10 0 inb_S4x1x256_S1x1x256_0_0_0 f10) (vals0 i arg5 X_arg5 k) (ldsum arg11 0 inb_S4x80x256_S1x80x256_0_0_0 f11),
      k0_pay5 (q 1) (keys i arg4 X_arg4 k) (ldmax arg10 1 inb_S4x1x256_S1x1x256_1_0_0 f10) (vals0 i arg5 X_arg5 k) (ldsum arg11 1 inb_S4x80x256_S1x80x256_1_0_0 f11),
      k0_pay5 (q 2) (keys i arg4 X_arg4 k) (ldmax arg10 2 inb_S4x1x256_S1x1x256_2_0_0 f10) (vals1 i arg5 X_arg5 k) (ldsum arg11 2 inb_S4x80x256_S1x80x256_2_0_0 f11),
      k0_pay5 (q 3) (keys i arg4 X_arg4 k) (ldmax arg10 3 inb_S4x1x256_S1x1x256_3_0_0 f10) (vals1 i arg5 X_arg5 k) (ldsum arg11 3 inb_S4x80x256_S1x80x256_3_0_0 f11)] h d a
  intro h a
  fin_cases h
  · obtain ⟨m1, hm, hd⟩ := h0 a
    exact ⟨m1, (e10 0 a).trans hm, fun d => (e11 0 d a).trans (hd d)⟩
  · obtain ⟨m1, hm, hd⟩ := h1 a
    exact ⟨m1, (e10 1 a).trans hm, fun d => (e11 1 d a).trans (hd d)⟩
  · obtain ⟨m1, hm, hd⟩ := h2 a
    exact ⟨m1, (e10 2 a).trans hm, fun d => (e11 2 d a).trans (hd d)⟩
  · obtain ⟨m1, hm, hd⟩ := h3 a
    exact ⟨m1, (e10 3 a).trans hm, fun d => (e11 3 d a).trans (hd d)⟩

end

end Cert.DiffIdeal.Work

end
-- ==== Proof.DiffOut.lean ====
/- The differential attention kernel's output block at a grid point: the difference of two softmaxes, applied to the values, normalised. -/
module

public import proofs.«01_k».proof.Proof.DiffLoop
public import Idealize.ShloMosaic.Lib.Pipeline.ValueKit.Basic

@[expose] public section

set_option maxRecDepth 16384

noncomputable section

namespace Cert.DiffIdeal.Work

open Idealize.ShloMosaic Idealize.ShloMosaic.TcCoe Idealize.ShloMosaic.Tactic Cert.DiffIdeal.Gen Cert.Flash

/-- How many key tiles a query tile sees: the context tile its own, every other tile all of them. -/
def tiles (i : grid0.Coords) : ℕ := if (i 2).val = 0 then 1 else 33

theorem tiles_pos (i : grid0.Coords) : 0 < 256 * tiles i := by unfold tiles; split <;> omega

theorem tiles_le (i : grid0.Coords) : tiles i ≤ 33 := by unfold tiles; split <;> omega

/-- The bound of the loop, as the kernel computes it. -/
def bound (i : grid0.Coords) : BitVec 32 := Scalar.select (Scalar.cmpi .eq (BitVec.ofNat 32 (i 2).val) 0#32) 1#32 33#32

theorem trips1 (i : grid0.Coords) : (k0_t1_loop i).trips = tiles i := by
  have h : ∀ n : Fin 33, (Scf.trips (0#32)
      (Scalar.addi 0#32 (Scalar.muli (Scalar.divsi (Scalar.subi (Scalar.select (Scalar.cmpi .eq (BitVec.ofNat 32 n.val) 0#32) 1#32 33#32) 0#32) 1#32) 1#32)) 1#32)
      = if n.val = 0 then 1 else 33 := by decide +kernel
  exact h (i 2)

theorem trips2 (i : grid0.Coords) : (k0_t2_loop i).trips = 0 := Nat.le_zero.1 (k0_t2_abs i).2.1

/-- A row of the lane masks. -/
def mrow (x : Vec Ideal S8x128 .f32) (h : Fin 4) : Vec Ideal S1x128 .f32 := fun j => x (ix2 ⟨h.val, by omega⟩ (j 1))

section
variable (c : Dev nD) (i : grid0.Coords) (arg3 : Memref sig .tc .vmem S1x256x128 .bf16) (harg3 : arg3.IsWhole)
  (arg4 : Memref sig .tc .vmem S1x8448x128 .bf16) (harg4 : arg4.IsWhole) (arg5 : Memref sig .tc .vmem S1x2x33x80x256 .bf16) (harg5 : arg5.IsWhole)
  (arg6 : Memref sig .tc .vmem S8x128 .f32) (harg6 : arg6.IsWhole) (arg7 : Memref sig .tc .vmem S1x8x32 .f32) (harg7 : arg7.IsWhole)
  (arg8 : Memref sig .tc .vmem S1x1x128 .f32) (harg8 : arg8.IsWhole) (arg9 : Memref sig .tc .vmem S1x256x128 .bf16) (harg9 : arg9.IsWhole)
  (arg10 : Memref sig .tc .vmem S4x1x256 .f32) (harg10 : arg10.IsWhole) (arg11 : Memref sig .tc .vmem S4x80x256 .f32) (harg11 : arg11.IsWhole)
  (q : Fin 4 → FVec Ideal S256x128 .bf16) (X_arg4 : BufTy.Contents (Elt Ideal) arg4.view.ty) (X_arg5 : BufTy.Contents (Elt Ideal) arg5.view.ty)
  (s : Fin 4 → Fin 256 → ℕ → ℝ)

theorem load_mrow (x : Vec Ideal S8x128 .f32) (h : Fin 4) (j : ℕ) (hj : h.val = j)
    (inb : ∀ a : Fin 2, (![j, 0] : Fin 2 → ℕ) a + S1x128.size a ≤ S8x128.size a) :
    View.readAt (Elt Ideal) arg6.view (Rect.unit (s := S8x128) ![j, 0] S1x128.size inb).toLoadRect (harg6.unread x) = mrow x h := by
  rw [View.readAt_eq_ld, harg6.read_unread]
  funext y
  refine congrArg x (funext fun a => Fin.ext ?_)
  have y0 : (y (0 : Fin 2)).val < 1 := (y (0 : Fin 2)).isLt
  fin_cases a
  · show j + 1 * (y (0 : Fin 2)).val = h.val; omega
  · show 0 + 1 * (y (1 : Fin 2)).val = (y (1 : Fin 2)).val; omega

/-- The scratch after the first `n` trips. -/
theorem loop (hs : ∀ h a k, score (q h) (arg4.view.read (Elt Ideal) X_arg4) a k = (s h a k : EReal))
    (G10 : BufTy.Contents (Elt Ideal) arg10.view.ty) (G11 : BufTy.Contents (Elt Ideal) arg11.view.ty)
    (hI : Inv (arg10.view.read (Elt Ideal) G10) (arg11.view.read (Elt Ideal) G11) 0 s (value (arg5.view.read (Elt Ideal) X_arg5)))
    (n : ℕ) (hn : n ≤ (k0_t1_loop i).trips) :
    Inv (arg10.view.read (Elt Ideal) (arg10.view.writes (Elt Ideal) G10 (pb_k0_t1 (F := Ideal) Variants.none c none i arg3 harg3 arg4 harg4 arg5 harg5 arg6 harg6 arg7 harg7 arg8 harg8 arg9 harg9 arg10 harg10 arg11 harg11 (bound i) (q 0) (q 1) (q 2) (q 3) k0_pay41 X_arg4 X_arg5 G10 G11 n).1))
      (arg11.view.read (Elt Ideal) (arg11.view.writes (Elt Ideal) G11 (pb_k0_t1 (F := Ideal) Variants.none c none i arg3 harg3 arg4 harg4 arg5 harg5 arg6 harg6 arg7 harg7 arg8 harg8 arg9 harg9 arg10 harg10 arg11 harg11 (bound i) (q 0) (q 1) (q 2) (q 3) k0_pay41 X_arg4 X_arg5 G10 G11 n).2))
      (256 * n) s (value (arg5.view.read (Elt Ideal) X_arg5)) := by
  induction n with
  | zero => exact hI
  | succ n ih =>
    have h33 := tiles_le i
    rw [← trips1] at h33
    rw [pb_k0_t1_succ (F := Ideal) Variants.none c none i arg3 harg3 arg4 harg4 arg5 harg5 arg6 harg6 arg7 harg7 arg8 harg8 arg9 harg9 arg10 harg10 arg11 harg11 (bound i) (q 0) (q 1) (q 2) (q 3) k0_pay41 X_arg4 X_arg5 G10 G11 ⟨n, hn⟩]
    rw [View.writes_append, View.writes_append]
    exact trip c i arg3 harg3 arg4 harg4 arg5 harg5 arg6 harg6 arg7 harg7 arg8 harg8 arg9 harg9 arg10 harg10 arg11 harg11 (bound i) k0_pay41 q X_arg4 X_arg5 s hs ⟨n, hn⟩ (by show n < 33; omega) _ _
      (ih (by omega))

/-- What is written to the scratch before the loop. -/
def init10 : List (View.Piece (Elt Ideal) S4x1x256 .f32) :=
  [⟨rmax 3 inb_S4x1x256_S1x1x256_3_0_0, k0_pay39 (F := Ideal)⟩, ⟨rmax 2 inb_S4x1x256_S1x1x256_2_0_0, k0_pay39 (F := Ideal)⟩,
   ⟨rmax 1 inb_S4x1x256_S1x1x256_1_0_0, k0_pay39 (F := Ideal)⟩, ⟨rmax 0 inb_S4x1x256_S1x1x256_0_0_0, k0_pay39 (F := Ideal)⟩]
def init11 : List (View.Piece (Elt Ideal) S4x80x256 .f32) :=
  [⟨rsum 3 inb_S4x80x256_S1x80x256_3_0_0, k0_pay40 (F := Ideal)⟩, ⟨rsum 2 inb_S4x80x256_S1x80x256_2_0_0, k0_pay40 (F := Ideal)⟩,
   ⟨rsum 1 inb_S4x80x256_S1x80x256_1_0_0, k0_pay40 (F := Ideal)⟩, ⟨rsum 0 inb_S4x80x256_S1x80x256_0_0_0, k0_pay40 (F := Ideal)⟩]

/-- Before the loop no key is taken in. -/
theorem init (w : Fin 4 → Fin 80 → ℕ → EReal) :
    Inv (arg10.view.read (Elt Ideal) (arg10.view.writes (Elt Ideal) arg10.view.junk init10))
      (arg11.view.read (Elt Ideal) (arg11.view.writes (Elt Ideal) arg11.view.junk init11)) 0 s w := by
  obtain ⟨m0, hm0⟩ := isReal_init
  unfold init10 init11
  intro h a
  refine ⟨m0, (read_four arg10.view _ _ _ _ _ (fun _ => k0_pay39 (F := Ideal)) h 0 a).trans ((pay39_apply a).trans hm0), fun d => ?_⟩
  rw [part_zero]
  exact (read_four arg11.view _ _ _ _ _ (fun _ => k0_pay40 (F := Ideal)) h d a).trans (pay40_apply d a)

variable (x0 : Vec Ideal S1x256x128 .bf16) (x1 : Vec Ideal S1x8448x128 .bf16) (x2 : Vec Ideal S1x2x33x80x256 .bf16)
  (x3 : Vec Ideal S8x128 .f32) (x4 : Vec Ideal S1x8x32 .f32) (x5 : Vec Ideal S1x1x128 .f32)

/-- The second scratch when the output is written. -/
def last11 : BufTy.Contents (Elt Ideal) arg11.view.ty :=
  arg11.view.writes (Elt Ideal) (arg11.view.writes (Elt Ideal) arg11.view.junk init11)
    (pb_k0_t1 (F := Ideal) Variants.none c none i arg3 harg3 arg4 harg4 arg5 harg5 arg6 harg6 arg7 harg7 arg8 harg8 arg9 harg9 arg10 harg10 arg11 harg11 (bound i)
      (masked x0 (mrow x3 0)) (masked x0 (mrow x3 1)) (masked x0 (mrow x3 2)) (masked x0 (mrow x3 3)) k0_pay41
      (harg4.unread x1) (harg5.unread x2) (arg10.view.writes (Elt Ideal) arg10.view.junk init10) (arg11.view.writes (Elt Ideal) arg11.view.junk init11) (k0_t1_loop i).trips).2

/-- The quotients of the last sums. -/
abbrev quot (j : ℕ) (inb : ∀ a : Fin 3, (![j, 0, 0] : Fin 3 → ℕ) a + S1x80x256.size a ≤ S4x80x256.size a) : FVec Ideal S64x256 .f32 :=
  k0_pay56 (ldsum arg11 j inb (last11 c i arg3 harg3 arg4 harg4 arg5 harg5 arg6 harg6 arg7 harg7 arg8 harg8 arg9 harg9 arg10 harg10 arg11 harg11 x0 x1 x2 x3))

theorem out_eq : out0_A_6 c i arg3 harg3 arg4 harg4 arg5 harg5 arg6 harg6 arg7 harg7 arg8 harg8 arg9 harg9 arg10 harg10 arg11 harg11 x0 x1 x2 x3 x4 x5
    = k0_pay1
        (quot c i arg3 harg3 arg4 harg4 arg5 harg5 arg6 harg6 arg7 harg7 arg8 harg8 arg9 harg9 arg10 harg10 arg11 harg11 x0 x1 x2 x3 0 inb_S4x80x256_S1x80x256_0_0_0)
        (quot c i arg3 harg3 arg4 harg4 arg5 harg5 arg6 harg6 arg7 harg7 arg8 harg8 arg9 harg9 arg10 harg10 arg11 harg11 x0 x1 x2 x3 1 inb_S4x80x256_S1x80x256_1_0_0)
        (quot c i arg3 harg3 arg4 harg4 arg5 harg5 arg6 harg6 arg7 harg7 arg8 harg8 arg9 harg9 arg10 harg10 arg11 harg11 x0 x1 x2 x3 2 inb_S4x80x256_S1x80x256_2_0_0)
        (quot c i arg3 harg3 arg4 harg4 arg5 harg5 arg6 harg6 arg7 harg7 arg8 harg8 arg9 harg9 arg10 harg10 arg11 harg11 x0 x1 x2 x3 3 inb_S4x80x256_S1x80x256_3_0_0)
        (k0_pay61 x4) (k0_pay62 x4) x5 := by
  unfold out0_A_6
  rw [View.read_writes_eq_canon _ _ _ (cover0_A_6 _ _ _ _ _ _ _ _ _ _ _ _ _ _ _ _ _ _ _ _ _ _ _ _ _ _)]
  unfold kernelRun0_A
  dsimp only
  sl_unfold_words
  have t2 : Scf.trips (k0_t2_loop i).lb (k0_t2_loop i).ub (k0_t2_loop i).st = 0 := trips2 i
  have r3 : View.readAt (Elt Ideal) arg3.view (Rect.unit (s := S1x256x128) ![0, 0, 0] S1x256x128.size inb_S1x256x128_S1x256x128_0_0_0).toLoadRect (harg3.unread x0) = x0 := by
    rw [View.readAt_eq_ld, harg3.read_unread]
    exact View.ld_unit_lit _ _ (by decide)
  have r7 : View.readAt (Elt Ideal) arg7.view (Rect.unit (s := S1x8x32) ![0, 0, 0] S1x8x32.size inb_S1x8x32_S1x8x32_0_0_0).toLoadRect (harg7.unread x4) = x4 := by
    rw [View.readAt_eq_ld, harg7.read_unread]
    exact View.ld_unit_lit _ _ (by decide)
  have r8 : View.readAt (Elt Ideal) arg8.view (Rect.unit (s := S1x1x128) ![0, 0, 0] S1x1x128.size inb_S1x1x128_S1x1x128_0_0_0).toLoadRect (harg8.unread x5) = x5 := by
    rw [View.readAt_eq_ld, harg8.read_unread]
    exact View.ld_unit_lit _ _ (by decide)
  have m0 := load_mrow arg6 harg6 x3 0 0 rfl inb_S8x128_S1x128_0_0
  have m1 := load_mrow arg6 harg6 x3 1 1 rfl inb_S8x128_S1x128_1_0
  have m2 := load_mrow arg6 harg6 x3 2 2 rfl inb_S8x128_S1x128_2_0
  have m3 := load_mrow arg6 harg6 x3 3 3 rfl inb_S8x128_S1x128_3_0
  rw [t2, r3, r7, r8, m0, m1, m2, m3]
  refine (View.canon_cons_unit_lit _ _ _ (by decide)).trans ?_
  simp only [pb_k0_t2, List.nil_append]
  unfold quot last11 init10 init11
  rw [← View.writes_append]
  rfl

/-- The output block, head by head: the two sub-heads' softmaxes, the second scaled by lambda. -/
theorem out_apply (hs : ∀ h a k, score (masked x0 (mrow x3 h)) x1 a k = (s h a k : EReal)) (ho : ∀ h k, value x2 h 64 k = 1) (h : Fin 2) (a : Fin 256) (d : Fin 64) :
    out0_A_6 c i arg3 harg3 arg4 harg4 arg5 harg5 arg6 harg6 arg7 harg7 arg8 harg8 arg9 harg9 arg10 harg10 arg11 harg11 x0 x1 x2 x3 x4 x5 (ix3 0 a ⟨64 * h.val + d.val, by omega⟩)
      = normed (fun e => soft (256 * tiles i) (s ⟨2 * h.val, by omega⟩ a) (value x2 ⟨2 * h.val, by omega⟩ ⟨e.val, by omega⟩)
          - lam x4 * soft (256 * tiles i) (s ⟨2 * h.val + 1, by omega⟩ a) (value x2 ⟨2 * h.val + 1, by omega⟩ ⟨e.val, by omega⟩))
        (x5 (ix3 0 0 ⟨64 * h.val + d.val, by omega⟩)) (x4 (ix3 0 4 0)) d := by
  have L := loop c i arg3 harg3 arg4 harg4 arg5 harg5 arg6 harg6 arg7 harg7 arg8 harg8 arg9 harg9 arg10 harg10 arg11 harg11 (fun h => masked x0 (mrow x3 h)) (harg4.unread x1) (harg5.unread x2) s
    (by rw [harg4.read_unread]; exact hs) _ _ (init arg10 arg11 s _) _ le_rfl
  rw [harg5.read_unread, trips1] at L
  have e : ∀ (h : Fin 4) (d' : Fin 80) (a : Fin 256), ∃ m, arg11.view.read (Elt Ideal) (last11 c i arg3 harg3 arg4 harg4 arg5 harg5 arg6 harg6 arg7 harg7 arg8 harg8 arg9 harg9 arg10 harg10 arg11 harg11 x0 x1 x2 x3) (ix3 h d' a) = part m (256 * tiles i) (s h a) (value x2 h d')
      ∧ arg11.view.read (Elt Ideal) (last11 c i arg3 harg3 arg4 harg4 arg5 harg5 arg6 harg6 arg7 harg7 arg8 harg8 arg9 harg9 arg10 harg10 arg11 harg11 x0 x1 x2 x3) (ix3 h 64 a) = part m (256 * tiles i) (s h a) (value x2 h 64) := fun h d' a => by
    obtain ⟨m, -, hd⟩ := L h a
    unfold last11
    rw [trips1]
    exact ⟨m, hd d', hd 64⟩
  have Q : ∀ (h : Fin 4) (j : ℕ) (hj : h.val = j) (inb : ∀ a : Fin 3, (![j, 0, 0] : Fin 3 → ℕ) a + S1x80x256.size a ≤ S4x80x256.size a) (d : Fin 64) (a : Fin 256),
      quot c i arg3 harg3 arg4 harg4 arg5 harg5 arg6 harg6 arg7 harg7 arg8 harg8 arg9 harg9 arg10 harg10 arg11 harg11 x0 x1 x2 x3 j inb (ix2 d a)
        = soft (256 * tiles i) (s h a) (value x2 h ⟨d.val, by omega⟩) := fun h j hj inb d a => by
    obtain ⟨m, e1, e2⟩ := e h ⟨d.val, by omega⟩ a
    unfold quot
    rw [pay56_apply, ← part_div m (tiles_pos i) (s h a) (value x2 h ⟨d.val, by omega⟩) (value x2 h 64) fun k _ => ho h k, ← e1, ← e2]
    exact congrArg₂ _ (Heads.load _ _ j _ h hj _ a) (Heads.load _ _ j _ h hj _ a)
  rw [out_eq]
  fin_cases h
  · refine (congrArg _ (congrArg (ix3 0 a) (Fin.ext (by show 64 * 0 + d.val = d.val; omega)))).trans ((pay1_apply_0 _ _ _ _ _ _ _ a d).trans ?_)
    rw [pay61_apply, pay62_apply]
    refine congrArg₂ (fun o w => normed o w _ d) (funext fun e => ?_) (congrArg x5 (congrArg (ix3 0 0) (Fin.ext (by show d.val = 64 * 0 + d.val; omega))))
    exact congrArg₂ (fun x y => x - lam x4 * y) (Q 0 0 rfl _ e a) (Q 1 1 rfl _ e a)
  · refine (pay1_apply_1 _ _ _ _ _ _ _ a d).trans ?_
    rw [pay61_apply, pay62_apply]
    refine congrArg₂ (fun o w => normed o w _ d) (funext fun e => ?_) rfl
    exact congrArg₂ (fun x y => x - lam x4 * y) (Q 2 2 rfl _ e a) (Q 3 3 rfl _ e a)

end

end Cert.DiffIdeal.Work

end
-- ==== Proof.DiffArray.lean ====
/- The differential attention kernel's whole output array: at every place, the normalised difference of two softmax attentions. -/
module

public import proofs.«01_k».proof.Proof.DiffOut
public import Idealize.ShloMosaic.Lib.Pipeline.ValueKit.Geometry
public import Idealize.ShloMosaic.Lib.StableHlo.RunRead
public import Idealize.ShloMosaic.Lib.Pointwise

@[expose] public section

set_option maxRecDepth 16384

noncomputable section

namespace Cert.DiffIdeal.Work

open Idealize.ShloMosaic Idealize.ShloMosaic.TcCoe Idealize.ShloMosaic.Tactic Cert.DiffIdeal.Gen Cert.Flash
open Idealize.ShloMosaic.Pipeline (Dat Cfg Window)

/-- The score of key `j` for row `i` on half `u` of head `hd`. -/
def Score (q k : S2x8448x384.Idx → EReal) (b : Fin 2) (hd : Fin 6) (u : Fin 2) (i : Fin 8448) (j : ℕ) : EReal :=
  ∑ l : Fin 32, k (ix3 b ⟨j % 8448, Nat.mod_lt _ (by decide)⟩ ⟨64 * hd.val + 32 * u.val + l.val, by omega⟩) * q (ix3 b i ⟨64 * hd.val + 32 * u.val + l.val, by omega⟩)

/-- Row `d` of the value of key `j` on head `hd`. -/
def Val (v : S2x10x33x80x256.Idx → EReal) (b : Fin 2) (hd : Fin 6) (d : Fin 80) (j : ℕ) : EReal :=
  v (ix5 b ⟨hd.val, by omega⟩ ⟨j / 256 % 33, Nat.mod_lt _ (by decide)⟩ d ⟨j % 256, Nat.mod_lt _ (by decide)⟩)

/-- How many keys a row sees: a context row the context keys, every other row all the keys. -/
def seen (i : Fin 8448) : ℕ := if i.val < 256 then 256 else 8448

/-- Softmax attention on half `u` of a head. -/
def half (q k : S2x8448x384.Idx → EReal) (v : S2x10x33x80x256.Idx → EReal) (b : Fin 2) (i : Fin 8448) (hd : Fin 6) (u : Fin 2) (d : Fin 64) : EReal :=
  soft (seen i) (fun j => (Score q k b hd u i j).toReal) (Val v b hd ⟨d.val, by omega⟩)

/-- The difference of the halves, the second scaled by lambda. -/
def diff (q k : S2x8448x384.Idx → EReal) (v : S2x10x33x80x256.Idx → EReal) (p : S1x8x32.Idx → EReal) (b : Fin 2) (i : Fin 8448) (hd : Fin 6) (d : Fin 64) : EReal :=
  half q k v b i hd 0 d - lam p * half q k v b i hd 1 d

/-- The attention at a row and a lane. -/
def attn (q k : S2x8448x384.Idx → EReal) (v : S2x10x33x80x256.Idx → EReal) (p : S1x8x32.Idx → EReal) (w : S64.Idx → EReal)
    (b : Fin 2) (i : Fin 8448) (hd : Fin 6) (d : Fin 64) : EReal :=
  normed (diff q k v p b i hd) (w (ix1 d)) (p (ix3 0 4 0)) d

/-- The whole array. -/
def G (q k : S2x8448x384.Idx → EReal) (v : S2x10x33x80x256.Idx → EReal) (p : S1x8x32.Idx → EReal) (w : S64.Idx → EReal) : S2x8448x384.Idx → EReal := fun j =>
  attn q k v p w (j 0) (j 1) ⟨(j 2).val / 64, by have : (j 2).val < 384 := (j 2).isLt; omega⟩ ⟨(j 2).val % 64, by omega⟩

/-- The windows' block indices at the points. -/
theorem idx_facts : ∀ t : Fin cfg0.N,
    (win0_0.index t (0 : Fin 3) = (grid0.coords t 0).val ∧ win0_0.index t (1 : Fin 3) = (grid0.coords t 2).val ∧ win0_0.index t (2 : Fin 3) = (grid0.coords t 1).val)
    ∧ (win0_1.index t (0 : Fin 3) = (grid0.coords t 0).val ∧ win0_1.index t (1 : Fin 3) = 0 ∧ win0_1.index t (2 : Fin 3) = (grid0.coords t 1).val)
    ∧ (win0_2.index t (0 : Fin 5) = (grid0.coords t 0).val ∧ win0_2.index t (1 : Fin 5) = (grid0.coords t 1).val ∧ win0_2.index t (2 : Fin 5) = 0
        ∧ win0_2.index t (3 : Fin 5) = 0 ∧ win0_2.index t (4 : Fin 5) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = (grid0.coords t 0).val ∧ win0_6.index t (1 : Fin 3) = (grid0.coords t 2).val ∧ win0_6.index t (2 : Fin 3) = (grid0.coords t 1).val) :=
  (by decide +kernel : ∀ t : Fin grid0.N, _)

variable (m : (ℓ : Loc nD τ sig) → Buf (Elt Ideal) ℓ) (c : Dev nD) (t : Fin cfg0.N)

/-- The blocks of the arguments at a point. -/
theorem blk0_apply (a : Fin 256) (l : Fin 128) :
    (iblk m c 0 t : Vec Ideal S1x256x128 .bf16) (ix3 0 a l)
      = m ((c.tc : Thread nD τ).loc main_arg0) (ix3 (grid0.coords t 0) ⟨256 * (grid0.coords t 2).val + a.val, by have : (grid0.coords t 2).val < 33 := (grid0.coords t 2).isLt; omega⟩ ⟨128 * (grid0.coords t 1).val + l.val, by have : (grid0.coords t 1).val < 3 := (grid0.coords t 1).isLt; omega⟩) := by
  obtain ⟨⟨e0, e1, e2⟩, -⟩ := idx_facts t
  blk_simp [iblk]
  refine (congrFun (V_main_arg0 m c) _).trans (congrArg (m ((c.tc : Thread nD τ).loc main_arg0)) (funext fun x => Fin.ext ?_))
  fin_cases x
  · show win0_0.index t (0 : Fin 3) * 1 + 1 * 0 = (grid0.coords t 0).val
    omega
  · show win0_0.index t (1 : Fin 3) * 256 + 1 * a.val = 256 * (grid0.coords t 2).val + a.val
    omega
  · show win0_0.index t (2 : Fin 3) * 128 + 1 * l.val = 128 * (grid0.coords t 1).val + l.val
    omega

theorem blk1_apply (a : Fin 8448) (l : Fin 128) :
    (iblk m c 1 t : Vec Ideal S1x8448x128 .bf16) (ix3 0 a l)
      = m ((c.tc : Thread nD τ).loc main_arg1) (ix3 (grid0.coords t 0) a ⟨128 * (grid0.coords t 1).val + l.val, by have : (grid0.coords t 1).val < 3 := (grid0.coords t 1).isLt; omega⟩) := by
  obtain ⟨-, ⟨e0, e1, e2⟩, -⟩ := idx_facts t
  blk_simp [iblk]
  refine (congrFun (V_main_arg1 m c) _).trans (congrArg (m ((c.tc : Thread nD τ).loc main_arg1)) (funext fun x => Fin.ext ?_))
  fin_cases x
  · show win0_1.index t (0 : Fin 3) * 1 + 1 * 0 = (grid0.coords t 0).val
    omega
  · show win0_1.index t (1 : Fin 3) * 8448 + 1 * a.val = a.val
    omega
  · show win0_1.index t (2 : Fin 3) * 128 + 1 * l.val = 128 * (grid0.coords t 1).val + l.val
    omega

theorem blk2_apply (h : Fin 2) (j : Fin 33) (d : Fin 80) (r : Fin 256) :
    (iblk m c 2 t : Vec Ideal S1x2x33x80x256 .bf16) (ix5 0 h j d r)
      = m ((c.tc : Thread nD τ).loc main_arg2) (ix5 (grid0.coords t 0) ⟨2 * (grid0.coords t 1).val + h.val, by have : (grid0.coords t 1).val < 3 := (grid0.coords t 1).isLt; omega⟩ j d r) := by
  obtain ⟨-, -, ⟨e0, e1, e2, e3, e4⟩, -⟩ := idx_facts t
  blk_simp [iblk]
  refine (congrFun (V_main_arg2 m c) _).trans (congrArg (m ((c.tc : Thread nD τ).loc main_arg2)) (funext fun x => Fin.ext ?_))
  fin_cases x
  · show win0_2.index t (0 : Fin 5) * 1 + 1 * 0 = (grid0.coords t 0).val
    omega
  · show win0_2.index t (1 : Fin 5) * 2 + 1 * h.val = 2 * (grid0.coords t 1).val + h.val
    omega
  · show win0_2.index t (2 : Fin 5) * 33 + 1 * j.val = j.val
    omega
  · show win0_2.index t (3 : Fin 5) * 80 + 1 * d.val = d.val
    omega
  · show win0_2.index t (4 : Fin 5) * 256 + 1 * r.val = r.val
    omega

theorem blk4_eq : (iblk m c 4 t : Vec Ideal S1x8x32 .f32) = m ((c.tc : Thread nD τ).loc main_arg3) := by
  obtain ⟨-, -, -, -, ⟨e0, e1, e2⟩, -⟩ := idx_facts t
  funext y
  blk_simp [iblk]
  refine (congrFun (V_main_arg3 m c) _).trans (congrArg (m ((c.tc : Thread nD τ).loc main_arg3)) (funext fun x => Fin.ext ?_))
  fin_cases x
  · show win0_4.index t (0 : Fin 3) * 1 + 1 * (y (0 : Fin 3)).val = (y (0 : Fin 3)).val
    omega
  · show win0_4.index t (1 : Fin 3) * 8 + 1 * (y (1 : Fin 3)).val = (y (1 : Fin 3)).val
    omega
  · show win0_4.index t (2 : Fin 3) * 32 + 1 * (y (2 : Fin 3)).val = (y (2 : Fin 3)).val
    omega

/-- The lane masks: one on a sub-head's own lanes, zero elsewhere. -/
theorem mask_lit : ∀ (h : Fin 4) (l : Fin 128), lit0t (128 * h.val + l.val) = if l.val / 32 = h.val then 0x3F800000#32 else 0x00000000#32 := by
  decide +kernel

theorem ofBits_one : Ideal.ofBits .f32 0x3F800000#32 = 1 := by
  simp [Ideal.ofBits, Ideal.ieee]
  rw [← EReal.coe_mul]
  norm_num

theorem V_mask : V m c main_cst = fun i => Ideal.ofBits .f32 (lit0 (S8x128.rowMajor i)) := by
  after_reads_simp
  rfl

theorem blk3_apply (h : Fin 4) (l : Fin 128) :
    (iblk m c 3 t : Vec Ideal S8x128 .f32) (ix2 ⟨h.val, by omega⟩ l) = if l.val / 32 = h.val then (1 : EReal) else (0 : EReal) := by
  obtain ⟨-, -, -, ⟨e0, e1⟩, -⟩ := idx_facts t
  blk_simp [iblk]
  refine (congrFun (V_mask m c) _).trans ?_
  have e : ∀ (n : Fin S8x128.numel) (h : Fin 4) (l : Fin 128), n.val = 128 * h.val + l.val → lit0 n = if l.val / 32 = h.val then 0x3F800000#32 else 0x00000000#32 := fun n h l hn => by
    rw [← mask_lit h l, ← hn]
  refine (congrArg (Ideal.ofBits .f32) (e _ h l ?_)).trans ?_
  · refine (Shape.rowMajor_val_two _).trans ?_
    show (win0_3.index t (0 : Fin 2) * 8 + 1 * h.val) * 128 + (win0_3.index t (1 : Fin 2) * 128 + 1 * l.val) = 128 * h.val + l.val
    omega
  · split
    · exact ofBits_one
    · exact Ideal.ofBits_zero .f32

theorem V_weight : V m c main_v1 = fun i => shapeCast S1x1x128 (concatenate S128 0 [⟨S64, m ((c.tc : Thread nD τ).loc main_arg4)⟩, ⟨S64, m ((c.tc : Thread nD τ).loc main_arg4)⟩] concatenates_S64_S64_S128_d0) shapeCasts_S128_S1x1x128 i := by
  after_reads_simp
  rfl

/-- The weights twice over, at a lane. -/
theorem twice (w : FVec Ideal S64 .f32) (h : Fin 2) (d : Fin 64) :
    concatenate S128 0 [⟨S64, w⟩, ⟨S64, w⟩] concatenates_S64_S64_S128_d0 (ix1 ⟨64 * h.val + d.val, by omega⟩) = w (ix1 d) := by
  fin_cases h
  · refine concatenate_pair_apply_left (s₁ := S64) (s₂ := S64) (0 : Fin S128.rank) _ _ _ _ rfl (ix1 d) fun x => ?_
    match x with
    | ⟨0, _⟩ => show d.val = 64 * 0 + d.val; omega
  · refine concatenate_pair_apply_right (s₁ := S64) (s₂ := S64) (0 : Fin S128.rank) _ _ _ _ rfl rfl (ix1 d) (fun x hx => ?_) ?_
    · match x with
      | ⟨0, _⟩ => exact absurd rfl hx
    · show d.val + 64 = 64 * 1 + d.val
      omega

theorem blk5_apply (h : Fin 2) (d : Fin 64) :
    (iblk m c 5 t : Vec Ideal S1x1x128 .f32) (ix3 0 0 ⟨64 * h.val + d.val, by omega⟩) = m ((c.tc : Thread nD τ).loc main_arg4) (ix1 d) := by
  obtain ⟨-, -, -, -, -, ⟨e0, e1, e2⟩, -⟩ := idx_facts t
  blk_simp [iblk]
  refine (congrFun (V_weight m c) _).trans ?_
  refine (shapeCast_apply _ _ _ (ix1 (⟨64 * h.val + d.val, by omega⟩ : Fin 128)) ?_).trans (twice _ h d)
  refine (Shape.rowMajor_val_one _).trans (Eq.trans ?_ (Shape.rowMajor_val_three _).symm)
  show 64 * h.val + d.val = ((win0_5.index t (0 : Fin 3) * 1 + 1 * 0) * 1 + (win0_5.index t (1 : Fin 3) * 1 + 1 * 0)) * 128 + (win0_5.index t (2 : Fin 3) * 128 + 1 * (64 * h.val + d.val))
  omega

/-- A sum over the lanes that vanishes off a sub-head's own. -/
theorem sum_lanes (h : Fin 4) (f : Fin 128 → EReal) (hf : ∀ l : Fin 128, l.val / 32 ≠ h.val → f l = 0) :
    ∑ l, f l = ∑ l : Fin 32, f ⟨32 * h.val + l.val, by omega⟩ := by
  refine (Fintype.sum_of_injective (fun l : Fin 32 => (⟨32 * h.val + l.val, by omega⟩ : Fin 128)) (fun x y e => ?_) _ f (fun l hl => hf l fun e => hl ?_) fun l => rfl).symm
  · have := congrArg Fin.val e
    exact Fin.ext (by simpa using this)
  · exact ⟨⟨l.val - 32 * h.val, by omega⟩, Fin.ext (by show 32 * h.val + (l.val - 32 * h.val) = l.val; omega)⟩

/-- The row and the head of a place of the output block. -/
def row (a : Fin 256) : Fin 8448 := ⟨256 * (grid0.coords t 2).val + a.val, by have : (grid0.coords t 2).val < 33 := (grid0.coords t 2).isLt; omega⟩
def hd (h : Fin 2) : Fin 6 := ⟨2 * (grid0.coords t 1).val + h.val, by have : (grid0.coords t 1).val < 3 := (grid0.coords t 1).isLt; omega⟩

/-- A masked query at a lane. -/
theorem masked_lane (x : Vec Ideal S1x256x128 .bf16) (u : Vec Ideal S8x128 .f32) (s : Fin 4) (a : Fin 256) (l : Fin 128)
    (hu : u (ix2 ⟨s.val, by omega⟩ l) = if l.val / 32 = s.val then (1 : EReal) else (0 : EReal)) :
    masked x (mrow u s) (ix2 a l) = x (ix3 0 a l) * if l.val / 32 = s.val then (1 : EReal) else (0 : EReal) :=
  (masked_apply _ _ a l).trans (congrArg (fun y : EReal => x (ix3 0 a l) * y) hu)

theorem score_eq (s : Fin 4) (a : Fin 256) (k : ℕ) :
    score (masked (iblk m c 0 t) (mrow (iblk m c 3 t) s)) (iblk m c 1 t) a k
      = Score (m ((c.tc : Thread nD τ).loc main_arg0)) (m ((c.tc : Thread nD τ).loc main_arg1)) (grid0.coords t 0) (hd t ⟨s.val / 2, by omega⟩) ⟨s.val % 2, by omega⟩ (row t a) k := by
  unfold score Score
  have e := fun l : Fin 128 => masked_lane (iblk m c 0 t) (iblk m c 3 t) s a l (blk3_apply m c t s l)
  refine (sum_lanes s _ fun l hl => ?_).trans (Finset.sum_congr rfl fun l _ => ?_)
  · rw [e, if_neg hl, mul_zero, mul_zero]
  · rw [e, if_pos (show (32 * s.val + l.val) / 32 = s.val by omega), mul_one, blk0_apply, blk1_apply]
    have e : ∀ (p r : Fin 384), p.val = r.val → p = r := fun p r h => Fin.ext h
    refine congrArg₂ (fun x y : EReal => x * y) (congrArg _ (congrArg (ix3 _ _) (e _ _ ?_))) (congrArg _ (congrArg (ix3 _ _) (e _ _ ?_)))
    · show 128 * (grid0.coords t 1).val + (32 * s.val + l.val) = 64 * (2 * (grid0.coords t 1).val + s.val / 2) + 32 * (s.val % 2) + l.val
      omega
    · show 128 * (grid0.coords t 1).val + (32 * s.val + l.val) = 64 * (2 * (grid0.coords t 1).val + s.val / 2) + 32 * (s.val % 2) + l.val
      omega

theorem value_eq (s : Fin 4) (d : Fin 80) (k : ℕ) :
    value (iblk m c 2 t) s d k = Val (m ((c.tc : Thread nD τ).loc main_arg2)) (grid0.coords t 0) (hd t ⟨s.val / 2, by omega⟩) d k := by
  unfold value Val
  rw [blk2_apply]
  rfl

/-- What the arguments must be: scores, values and lambda real, and the row of ones. -/
structure Ready (q k : S2x8448x384.Idx → EReal) (v : S2x10x33x80x256.Idx → EReal) (p : S1x8x32.Idx → EReal) : Prop where
  score : ∀ b hd u i j, IsReal (Score q k b hd u i j)
  ones : ∀ b hd j, Val v b hd 64 j = 1
  value : ∀ b hd (d : Fin 64) j, IsReal (Val v b hd ⟨d.val, by omega⟩ j)
  lam : IsReal (lam p)

abbrev Args : Prop := Ready (m ((c.tc : Thread nD τ).loc main_arg0)) (m ((c.tc : Thread nD τ).loc main_arg1)) (m ((c.tc : Thread nD τ).loc main_arg2)) (m ((c.tc : Thread nD τ).loc main_arg3))

/-- The output block at a point. -/
theorem block (hr : Args m c) (h : Fin 2) (a : Fin 256) (d : Fin 64) :
    (outsAt0 m c t : Vec Ideal S1x256x128 .bf16) (ix3 0 a ⟨64 * h.val + d.val, by omega⟩)
      = attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (grid0.coords t 0) (row t a) (hd t h) d := by
  unfold outsAt0
  refine (out_apply c (grid0.coords t) _ _ _ _ _ _ _ _ _ _ _ _ _ _ _ _ _ _
    (fun s a k => (Score (m ((c.tc : Thread nD τ).loc main_arg0)) (m ((c.tc : Thread nD τ).loc main_arg1)) (grid0.coords t 0) (hd t ⟨s.val / 2, by omega⟩) ⟨s.val % 2, by omega⟩ (row t a) k).toReal)
    (iblk m c 0 t) (iblk m c 1 t) (iblk m c 2 t) (iblk m c 3 t) (iblk m c 4 t) (iblk m c 5 t) (fun s a k => ?_) (fun s k => ?_) h a d).trans ?_
  · rw [score_eq m c t]
    obtain ⟨r, e⟩ := hr.score (grid0.coords t 0) (hd t ⟨s.val / 2, by omega⟩) ⟨s.val % 2, by omega⟩ (row t a) k
    rw [e]; rfl
  · rw [value_eq m c t]
    exact hr.ones _ _ _
  · unfold attn
    rw [blk4_eq, blk5_apply]
    have e : 256 * tiles (grid0.coords t) = seen (row t a) := by
      unfold tiles seen
      have hv : (row t a).val = 256 * (grid0.coords t 2).val + a.val := rfl
      split_ifs <;> omega
    rw [e]
    refine congrArg (fun o => normed o _ _ d) (funext fun e => ?_)
    unfold diff half
    have h0 : (⟨2 * h.val / 2, by omega⟩ : Fin 2) = h := Fin.ext (by show 2 * h.val / 2 = h.val; omega)
    have h1 : (⟨(2 * h.val + 1) / 2, by omega⟩ : Fin 2) = h := Fin.ext (by show (2 * h.val + 1) / 2 = h.val; omega)
    have g0 : (⟨2 * h.val % 2, by omega⟩ : Fin 2) = 0 := Fin.ext (by show 2 * h.val % 2 = 0; omega)
    have g1 : (⟨(2 * h.val + 1) % 2, by omega⟩ : Fin 2) = 1 := Fin.ext (by show (2 * h.val + 1) % 2 = 1; omega)
    refine congrArg₂ (fun x y => x - lam (m ((c.tc : Thread nD τ).loc main_arg3)) * y) (soft_congr (fun k _ => ?_) fun k _ => ?_) (soft_congr (fun k _ => ?_) fun k _ => ?_)
    · simp only [h0, g0]
    · rw [value_eq m c t]
      simp only [h0]
    · simp only [h1, g1]
    · rw [value_eq m c t]
      simp only [h1]

/-- The output array after the run. -/
theorem array (hr : Args m c) :
    (dats m 0 c).arrAt 6 cfg0.N
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  obtain ⟨-, -, -, -, -, -, e0, e1, e2⟩ := idx_facts t
  have y0 : (y (0 : Fin 3)).val < 1 := (y (0 : Fin 3)).isLt
  have y1 : (y (1 : Fin 3)).val < 256 := (y (1 : Fin 3)).isLt
  have y2 : (y (2 : Fin 3)).val < 128 := (y (2 : Fin 3)).isLt
  have hy : y = (ix3 (0 : Fin 1) (⟨(y (1 : Fin 3)).val, y1⟩ : Fin 256) (⟨64 * ((y (2 : Fin 3)).val / 64) + (y (2 : Fin 3)).val % 64, by omega⟩ : Fin 128) : S1x256x128.Idx) := by
    funext x
    refine Fin.ext ?_
    fin_cases x
    · show (y (0 : Fin 3)).val = 0
      omega
    · rfl
    · show (y (2 : Fin 3)).val = 64 * ((y (2 : Fin 3)).val / 64) + (y (2 : Fin 3)).val % 64
      omega
  refine (congrArg (outsAt0 m c t : Vec Ideal S1x256x128 .bf16) hy).trans ((block m c t hr ⟨(y (2 : Fin 3)).val / 64, by omega⟩ ⟨(y (1 : Fin 3)).val, y1⟩ ⟨(y (2 : Fin 3)).val % 64, by omega⟩).trans ?_)
  have f0 : (((win0_6.blk t).view.emb y) (0 : Fin 3)).val = (grid0.coords t 0).val := by
    show win0_6.index t (0 : Fin 3) * 1 + 1 * (y (0 : Fin 3)).val = _
    omega
  have f1 : (((win0_6.blk t).view.emb y) (1 : Fin 3)).val = 256 * (grid0.coords t 2).val + (y (1 : Fin 3)).val := by
    show win0_6.index t (1 : Fin 3) * 256 + 1 * (y (1 : Fin 3)).val = _
    omega
  have f2 : (((win0_6.blk t).view.emb y) (2 : Fin 3)).val = 128 * (grid0.coords t 1).val + (y (2 : Fin 3)).val := by
    show win0_6.index t (2 : Fin 3) * 128 + 1 * (y (2 : Fin 3)).val = _
    omega
  unfold G
  congr 1
  · exact Fin.ext f0.symm
  · exact Fin.ext f1.symm
  · refine Fin.ext ?_
    show 2 * (grid0.coords t 1).val + (y (2 : Fin 3)).val / 64 = (((win0_6.blk t).view.emb y) (2 : Fin 3)).val / 64
    omega
  · refine Fin.ext ?_
    show (y (2 : Fin 3)).val % 64 = (((win0_6.blk t).view.emb y) (2 : Fin 3)).val % 64
    omega

end Cert.DiffIdeal.Work

end
-- ==== Proof.DiffRef.lean ====
/- The differential attention reference's array: at every place, the normalised difference of two softmax attentions. -/
module

public import proofs.«01_k».proof.Proof.DiffArray
public import proofs.«01_k».proof.Proof.Gen.DiffRefIdeal.Read
public import proofs.«01_k».proof.Proof.RowMax

@[expose] public section

set_option maxRecDepth 16384

noncomputable section

namespace Cert.DiffRefIdeal.Work

open Idealize.ShloMosaic Idealize.ShloMosaic.TcCoe Idealize.ShloMosaic.Tactic Cert.DiffRefIdeal.Gen Cert.DiffRefIdeal.Read Cert.Flash
open Cert.DiffIdeal.Work (Score Val seen half diff attn G Ready lam normed)

variable (q k : Vec Ideal S2x8448x384 .bf16) (v : Vec Ideal S2x10x33x80x256 .bf16) (p : Vec Ideal S1x8x32 .f32) (w : Vec Ideal S64 .f32)

/-- Softmax attention on reals is a real. -/
theorem soft_real {n : ℕ} (s r : ℕ → ℝ) :
    soft n s (fun k => (r k : EReal)) = ((∑ k ∈ Finset.range n, Real.exp (s k) / (∑ j ∈ Finset.range n, Real.exp (s j)) * r k : ℝ) : EReal) := by
  unfold soft
  rw [coe_sum]
  exact Finset.sum_congr rfl fun k _ => (EReal.coe_mul _ _).symm

/-- Attending with the difference of two softmax rows is the difference of the two attentions. -/
theorem plain_diff {n : ℕ} (hn : 0 < n) (M N L : EReal) (hM : IsReal M) (hN : IsReal N) (hL : IsReal L) (s s' : ℕ → ℝ) (v : ℕ → EReal) (hv : ∀ k, IsReal (v k))
    (S S' V : Fin n → EReal) (hS : ∀ k, S k = (s k : EReal)) (hS' : ∀ k, S' k = (s' k : EReal)) (hV : ∀ k, V k = v k) :
    ∑ k : Fin n, (Ideal.div (Ideal.exp (S k - M)) (∑ j : Fin n, Ideal.exp (S j - M)) - L * Ideal.div (Ideal.exp (S' k - N)) (∑ j : Fin n, Ideal.exp (S' j - N))) * V k
      = soft n s v - L * soft n s' v := by
  obtain ⟨M, rfl⟩ := hM
  obtain ⟨N, rfl⟩ := hN
  obtain ⟨L, rfl⟩ := hL
  choose r hr using hv
  obtain rfl : v = fun k => (r k : EReal) := funext hr
  rw [soft_real, soft_real, ← EReal.coe_mul, ← EReal.coe_sub, Finset.mul_sum, ← Finset.sum_sub_distrib, coe_sum, Finset.sum_range]
  refine Finset.sum_congr rfl fun k _ => ?_
  rw [weight_plain hn M s S hS k, weight_plain hn N s' S' hS' k, hV, ← EReal.coe_mul, ← EReal.coe_sub, ← EReal.coe_mul]
  congr 1
  ring

/-- The scores of the context rows against the context keys. -/
theorem ctx_score (b : Fin 2) (h : Fin 6) (u : Fin 2) (i j : Fin 256) :
    val_main_v31 q k (ix5 b h u i j) = Score q k b h u ⟨i.val, by omega⟩ j.val := by
  unfold Score
  pointwise [val_main_v31, val_main_v28, val_main_v29, val_main_v2, val_main_v5, val_main_v1, val_main_v4, val_main_v0, val_main_v3]
  refine Finset.sum_congr rfl fun l _ => ?_
  rw [mul_comm]
  have e : j.val % 8448 = j.val := by omega
  have e' : h.val * 64 + u.val * 32 + l.val = 64 * h.val + 32 * u.val + l.val := by omega
  simp only [e, e']

/-- The scores of the other rows against all the keys. -/
theorem lat_score (b : Fin 2) (h : Fin 6) (u : Fin 2) (i : Fin 8192) (j : Fin 8448) :
    val_main_v52 q k (ix5 b h u i j) = Score q k b h u ⟨256 + i.val, by omega⟩ j.val := by
  unfold Score
  pointwise [val_main_v52, val_main_v51, val_main_v2, val_main_v5, val_main_v1, val_main_v4, val_main_v0, val_main_v3]
  refine Finset.sum_congr rfl fun l _ => ?_
  rw [mul_comm]
  have e : j.val % 8448 = j.val := by omega
  have e' : h.val * 64 + u.val * 32 + l.val = 64 * h.val + 32 * u.val + l.val := by omega
  simp only [e, e']

theorem bot1 (i : S_.Idx) : val_main_cst_1 (F := Ideal) i = ⊥ := ofBits_neg_inf
theorem bot2 (i : S_.Idx) : val_main_cst_2 (F := Ideal) i = ⊥ := ofBits_neg_inf
theorem bot4 (i : S_.Idx) : val_main_cst_4 (F := Ideal) i = ⊥ := ofBits_neg_inf
theorem bot5 (i : S_.Idx) : val_main_cst_5 (F := Ideal) i = ⊥ := ofBits_neg_inf

theorem ctx_max (b : Fin 2) (h : Fin 6) (u : Fin 2) (i : Fin 256) (hx : ∀ j : Fin 256, IsReal (val_main_v31 q k (ix5 b h u i j))) :
    IsReal (val_main_v34 q k (ix4 b h u i)) := by
  have e : val_main_v34 q k (ix4 b h u i) = val_main_v32 q k (ix4 b h u i) := by
    have e : val_main_v34 q k (ix4 b h u i) = Max.max (val_main_v33 (F := Ideal) (ix4 b h u i)) (val_main_v32 q k (ix4 b h u i)) := val_main_v34_apply q k _
    rw [e, val_main_v33_apply, bot2]
    generalize val_main_v32 q k (ix4 b h u i) = y
    exact max_bot_left y
  rw [e]
  unfold val_main_v32
  generalize val_main_v31 q k = y at hx ⊢
  exact isReal_reduce_max' (n4 := 256) (by decide) y val_main_cst_1 reducesTo_S2x6x2x256x256_S2x6x2x256_d4 h_S_ bot1 b h u i hx

theorem lat_max (b : Fin 2) (h : Fin 6) (u : Fin 2) (i : Fin 8192) (hx : ∀ j : Fin 8448, IsReal (val_main_v52 q k (ix5 b h u i j))) :
    IsReal (val_main_v55 q k (ix4 b h u i)) := by
  have e : val_main_v55 q k (ix4 b h u i) = val_main_v53 q k (ix4 b h u i) := by
    have e : val_main_v55 q k (ix4 b h u i) = Max.max (val_main_v54 (F := Ideal) (ix4 b h u i)) (val_main_v53 q k (ix4 b h u i)) := val_main_v55_apply q k _
    rw [e, val_main_v54_apply, bot5]
    generalize val_main_v53 q k (ix4 b h u i) = y
    exact max_bot_left y
  rw [e]
  unfold val_main_v53
  generalize val_main_v52 q k = y at hx ⊢
  exact isReal_reduce_max' (n4 := 8448) (by decide) y val_main_cst_4 reducesTo_S2x6x2x8192x8448_S2x6x2x8192_d4 h_S_ bot4 b h u i hx

theorem ctx_exp (b : Fin 2) (h : Fin 6) (u : Fin 2) (i j : Fin 256) :
    val_main_v38 q k (ix5 b h u i j) = Ideal.exp (val_main_v31 q k (ix5 b h u i j) - val_main_v34 q k (ix4 b h u i)) := by
  pointwise [val_main_v38, val_main_v37, val_main_v36, val_main_v35]

theorem lat_exp (b : Fin 2) (h : Fin 6) (u : Fin 2) (i : Fin 8192) (j : Fin 8448) :
    val_main_v59 q k (ix5 b h u i j) = Ideal.exp (val_main_v52 q k (ix5 b h u i j) - val_main_v55 q k (ix4 b h u i)) := by
  pointwise [val_main_v59, val_main_v58, val_main_v57, val_main_v56]

theorem zero0 (i : S_.Idx) : val_main_cst (F := Ideal) i = 0 := Ideal.ofBits_zero .f32
theorem zero1 (i : S_.Idx) : val_main_cst_0 (F := Ideal) i = 0 := Ideal.ofBits_zero .f32
theorem zero3 (i : S_.Idx) : val_main_cst_3 (F := Ideal) i = 0 := Ideal.ofBits_zero .f32
theorem zero6 (i : S_.Idx) : val_main_cst_6 (F := Ideal) i = 0 := Ideal.ofBits_zero .f32
theorem zero7 (i : S_.Idx) : val_main_cst_7 (F := Ideal) i = 0 := Ideal.ofBits_zero .f32

theorem ctx_weight (b : Fin 2) (h : Fin 6) (u : Fin 2) (i j : Fin 256) :
    val_main_v42 q k (ix5 b h u i j) = Ideal.div (val_main_v38 q k (ix5 b h u i j)) (∑ l : Fin 256, val_main_v38 q k (ix5 b h u i l)) := by
  pointwise [val_main_v42, val_main_v41, val_main_v40, val_main_v39]
  simp only [zero3, zero_add]

theorem lat_weight (b : Fin 2) (h : Fin 6) (u : Fin 2) (i : Fin 8192) (j : Fin 8448) :
    val_main_v63 q k (ix5 b h u i j) = Ideal.div (val_main_v59 q k (ix5 b h u i j)) (∑ l : Fin 8448, val_main_v59 q k (ix5 b h u i l)) := by
  pointwise [val_main_v63, val_main_v62, val_main_v61, val_main_v60]
  simp only [zero6, zero_add]

/-- The fourth row's first number. -/
theorem init_eq (i : S_.Idx) : val_main_v19 p i = p (ix3 0 4 0) := by
  unfold val_main_v19
  refine (shapeCast_apply _ _ i (ix3 0 0 0) ?_).trans ?_
  · exact (by omega : ∀ a c : Fin 1, a.val = c.val) _ _
  · rw [val_main_v18_apply]
    exact congrArg p (funext fun x => by match x with | ⟨0, _⟩ => rfl | ⟨1, _⟩ => rfl | ⟨2, _⟩ => rfl)

/-- The indices of a row of 32. -/
def lanes : Fin 32 ≃ S32.Idx where
  toFun l := ix1 l
  invFun j := j 0
  left_inv l := rfl
  right_inv j := funext fun x => match x with | ⟨0, _⟩ => rfl

theorem first_dot : ∑ j, val_main_v20 p j = ∑ l : Fin 32, p (ix3 0 0 l) * p (ix3 0 1 l) := by
  refine (Fintype.sum_equiv lanes _ _ fun l => ?_).symm
  show _ = val_main_v20 p (ix1 l)
  pointwise [val_main_v20, val_main_v11, val_main_v10, val_main_v13, val_main_v12]

theorem second_dot : ∑ j, val_main_v23 p j = ∑ l : Fin 32, p (ix3 0 2 l) * p (ix3 0 3 l) := by
  refine (Fintype.sum_equiv lanes _ _ fun l => ?_).symm
  show _ = val_main_v23 p (ix1 l)
  pointwise [val_main_v23, val_main_v15, val_main_v14, val_main_v17, val_main_v16]

/-- Lambda. -/
theorem lam_eq (i : S_.Idx) : val_main_v27 p i = lam p := by
  unfold lam
  rw [val_main_v27_apply, val_main_v26_apply, val_main_v22_apply, val_main_v25_apply, val_main_v21_apply, val_main_v24_apply, zero0, zero1, zero_add, zero_add, init_eq,
    first_dot, second_dot]
  rfl

theorem ctx_comb (b : Fin 2) (h : Fin 6) (i j : Fin 256) :
    val_main_v49 q k p (ix4 b h i j) = val_main_v42 q k (ix5 b h 0 i j) - lam p * val_main_v42 q k (ix5 b h 1 i j) := by
  pointwise [val_main_v49, val_main_v48, val_main_v47, val_main_v46, val_main_v45, val_main_v44, val_main_v43]
  rw [lam_eq]

theorem lat_first (b : Fin 2) (h : Fin 6) (i : Fin 8192) (j : Fin 8448) : val_main_v65 q k (ix4 b h i j) = val_main_v63 q k (ix5 b h 0 i j) := by
  rw [val_main_v65_apply, val_main_v64_apply]
  refine congrArg (val_main_v63 q k) (funext fun x => Fin.ext ?_)
  match x with
  | ⟨0, _⟩ =>
    show (((b.val * 6 + h.val) * 8192 + i.val) * 8448 + j.val) / 415236096 = b.val
    omega
  | ⟨1, _⟩ =>
    show (((b.val * 6 + h.val) * 8192 + i.val) * 8448 + j.val) / 69206016 % 6 = h.val
    omega
  | ⟨2, _⟩ => rfl
  | ⟨3, _⟩ =>
    show (((b.val * 6 + h.val) * 8192 + i.val) * 8448 + j.val) / 8448 % 8192 = i.val
    omega
  | ⟨4, _⟩ =>
    show (((b.val * 6 + h.val) * 8192 + i.val) * 8448 + j.val) % 8448 = j.val
    omega

theorem lat_second (b : Fin 2) (h : Fin 6) (i : Fin 8192) (j : Fin 8448) : val_main_v67 q k (ix4 b h i j) = val_main_v63 q k (ix5 b h 1 i j) := by
  rw [val_main_v67_apply, val_main_v66_apply]
  refine congrArg (val_main_v63 q k) (funext fun x => Fin.ext ?_)
  match x with
  | ⟨0, _⟩ =>
    show (((b.val * 6 + h.val) * 8192 + i.val) * 8448 + j.val) / 415236096 = b.val
    omega
  | ⟨1, _⟩ =>
    show (((b.val * 6 + h.val) * 8192 + i.val) * 8448 + j.val) / 69206016 % 6 = h.val
    omega
  | ⟨2, _⟩ => rfl
  | ⟨3, _⟩ =>
    show (((b.val * 6 + h.val) * 8192 + i.val) * 8448 + j.val) / 8448 % 8192 = i.val
    omega
  | ⟨4, _⟩ =>
    show (((b.val * 6 + h.val) * 8192 + i.val) * 8448 + j.val) % 8448 = j.val
    omega

theorem lat_comb (b : Fin 2) (h : Fin 6) (i : Fin 8192) (j : Fin 8448) :
    val_main_v70 q k p (ix4 b h i j) = val_main_v63 q k (ix5 b h 0 i j) - lam p * val_main_v63 q k (ix5 b h 1 i j) := by
  rw [val_main_v70_apply, val_main_v69_apply, val_main_v68_apply, lam_eq, lat_first, lat_second]
  generalize val_main_v63 q k (ix5 b h 0 i j) = y
  generalize val_main_v63 q k (ix5 b h 1 i j) = z
  rfl

theorem ctx_value (b : Fin 2) (h : Fin 6) (j : Fin 256) (d : Fin 64) :
    val_main_v30 v (ix4 b h j d) = Val v b h ⟨d.val, by omega⟩ j.val := by
  unfold Val
  pointwise [val_main_v30, val_main_v9, val_main_v8, val_main_v7, val_main_v6]
  have e : j.val / 256 % 33 = j.val / 256 := by omega
  simp only [e]

theorem lat_value (b : Fin 2) (h : Fin 6) (j : Fin 8448) (d : Fin 64) :
    val_main_v9 v (ix4 b h j d) = Val v b h ⟨d.val, by omega⟩ j.val := by
  unfold Val
  pointwise [val_main_v9, val_main_v8, val_main_v7, val_main_v6]
  have e : j.val / 256 % 33 = j.val / 256 := by omega
  simp only [e]

theorem ctx_out (hr : Ready q k v p) (b : Fin 2) (h : Fin 6) (i : Fin 256) (d : Fin 64) :
    val_main_v50 q k v p (ix4 b h i d) = diff q k v p b ⟨i.val, by omega⟩ h d := by
  unfold diff half
  rw [show seen ⟨i.val, by omega⟩ = 256 from if_pos (show i.val < 256 from i.isLt)]
  have hx : ∀ u j, IsReal (val_main_v31 q k (ix5 b h u i j)) := fun u j => by rw [ctx_score]; exact hr.score _ _ _ _ _
  have hs : ∀ (u : Fin 2) (j : Fin 256), val_main_v31 q k (ix5 b h u i j) = ((Score q k b h u ⟨i.val, by omega⟩ j.val).toReal : EReal) := fun u j => by
    rw [ctx_score]
    obtain ⟨r, e⟩ := hr.score b h u ⟨i.val, by omega⟩ j.val
    rw [e]; rfl
  pointwise [val_main_v50]
  simp only [ctx_comb, ctx_weight, ctx_exp]
  exact plain_diff (by decide) _ _ _ (ctx_max q k b h 0 i (hx 0)) (ctx_max q k b h 1 i (hx 1)) hr.lam _ _ _ (hr.value b h d) _ _ _ (hs 0) (hs 1) fun j => ctx_value v b h j d

theorem lat_out (hr : Ready q k v p) (b : Fin 2) (h : Fin 6) (i : Fin 8192) (d : Fin 64) :
    val_main_v71 q k v p (ix4 b h i d) = diff q k v p b ⟨256 + i.val, by omega⟩ h d := by
  unfold diff half
  rw [show seen ⟨256 + i.val, by omega⟩ = 8448 from if_neg (show ¬ 256 + i.val < 256 by omega)]
  have hx : ∀ u j, IsReal (val_main_v52 q k (ix5 b h u i j)) := fun u j => by rw [lat_score]; exact hr.score _ _ _ _ _
  have hs : ∀ (u : Fin 2) (j : Fin 8448), val_main_v52 q k (ix5 b h u i j) = ((Score q k b h u ⟨256 + i.val, by omega⟩ j.val).toReal : EReal) := fun u j => by
    rw [lat_score]
    obtain ⟨r, e⟩ := hr.score b h u ⟨256 + i.val, by omega⟩ j.val
    rw [e]; rfl
  pointwise [val_main_v71]
  simp only [lat_comb, lat_weight, lat_exp]
  exact plain_diff (by decide) _ _ _ (lat_max q k b h 0 i (hx 0)) (lat_max q k b h 1 i (hx 1)) hr.lam _ _ _ (hr.value b h d) _ _ _ (hs 0) (hs 1) fun j => lat_value v b h j d

theorem joined (hr : Ready q k v p) (b : Fin 2) (h : Fin 6) (i : Fin 8448) (d : Fin 64) :
    val_main_v72 q k v p (ix4 b h i d) = diff q k v p b i h d := by
  unfold val_main_v72
  by_cases hi : i.val < 256
  · refine (concatenate_pair_apply_left (s₁ := S2x6x256x64) (s₂ := S2x6x8192x64) (2 : Fin S2x6x8448x64.rank) _ _ _ _ rfl (ix4 b h (⟨i.val, hi⟩ : Fin 256) d) fun x => ?_).trans (ctx_out q k v p hr b h _ d)
    match x with
    | ⟨0, _⟩ => rfl
    | ⟨1, _⟩ => rfl
    | ⟨2, _⟩ => rfl
    | ⟨3, _⟩ => rfl
  · have e : i = ⟨256 + (i.val - 256), by omega⟩ := Fin.ext (by show i.val = 256 + (i.val - 256); omega)
    refine (concatenate_pair_apply_right (s₁ := S2x6x256x64) (s₂ := S2x6x8192x64) (2 : Fin S2x6x8448x64.rank) _ _ _ _ rfl rfl (ix4 b h (⟨i.val - 256, by omega⟩ : Fin 8192) d) (fun x hx => ?_) ?_).trans ((lat_out q k v p hr b h _ d).trans ?_)
    · match x with
      | ⟨0, _⟩ => rfl
      | ⟨1, _⟩ => rfl
      | ⟨2, _⟩ => exact absurd rfl hx
      | ⟨3, _⟩ => rfl
    · show i.val - 256 + 256 = i.val
      omega
    · exact congrArg (fun i => diff q k v p b i h d) e.symm

/-- The normalised difference. -/
theorem normal (hr : Ready q k v p) (b : Fin 2) (h : Fin 6) (i : Fin 8448) (d : Fin 64) :
    val_main_v88 q k v p w (ix4 b h i d) = attn q k v p w b i h d := by
  unfold attn normed
  have e : ∀ d, val_main_v72 q k v p (ix4 b h i d) = diff q k v p b i h d := joined q k v p hr b h i
  simp only [← e, ← init_eq p (Shape.Idx.first h_S_)]
  pointwise [val_main_v88, val_main_v87, val_main_v86, val_main_v85, val_main_v84, val_main_v83, val_main_v82, val_main_v81, val_main_v80, val_main_v79, val_main_v78, val_main_v77, val_main_v76, val_main_v75, val_main_v74, val_main_v73]
  rw [zero7, zero_add, init_eq, init_eq, show val_main_cst_10 (F := Ideal) ix0 = 1 from Cert.DiffIdeal.Work.ofBits_one]
  rfl

/-- The reference's array. -/
theorem result (hr : Ready q k v p) : val_main_v91 q k v p w = G q k v p w := by
  funext j
  have j2 : (j (2 : Fin 3)).val < 384 := (j (2 : Fin 3)).isLt
  have h43 : val_main_v91 q k v p w j = val_main_v90 q k v p w j := val_main_v91_apply q k v p w j
  rw [h43, val_main_v90_apply, val_main_v89_apply]
  refine (congrArg (val_main_v88 q k v p w) (funext fun x => Fin.ext ?_)).trans (normal q k v p w hr (j 0) ⟨(j 2).val / 64, by omega⟩ (j 1) ⟨(j 2).val % 64, by omega⟩)
  have h0 : (j (0 : Fin 3)).val < 2 := (j (0 : Fin 3)).isLt
  have h1 : (j (1 : Fin 3)).val < 8448 := (j (1 : Fin 3)).isLt
  match x with
  | ⟨0, _⟩ =>
    show (((j (0 : Fin 3)).val * 8448 + (j (1 : Fin 3)).val) * 384 + (j (2 : Fin 3)).val) / 3244032 = (j (0 : Fin 3)).val
    omega
  | ⟨1, _⟩ =>
    show (((j (0 : Fin 3)).val * 8448 + (j (1 : Fin 3)).val) * 384 + (j (2 : Fin 3)).val) / 64 % 6 = (j (2 : Fin 3)).val / 64
    omega
  | ⟨2, _⟩ =>
    show (((j (0 : Fin 3)).val * 8448 + (j (1 : Fin 3)).val) * 384 + (j (2 : Fin 3)).val) / 384 % 8448 = (j (1 : Fin 3)).val
    omega
  | ⟨3, _⟩ =>
    show (((j (0 : Fin 3)).val * 8448 + (j (1 : Fin 3)).val) * 384 + (j (2 : Fin 3)).val) % 64 = (j (2 : Fin 3)).val % 64
    omega

end Cert.DiffRefIdeal.Work

end
-- ==== Proof.DiffClaim.lean ====
/- The differential attention: the kernel's array is the reference's. -/
module

public import proofs.«01_k».proof.Defs
public import proofs.«01_k».proof.Proof.DiffRef
public import proofs.«01_k».proof.Proof.Tests

@[expose] public section

set_option maxRecDepth 16384

noncomputable section

namespace Cert.Pre_diff_inputs

open Idealize.ShloMosaic

/-- The shape relations of the precondition's operations. -/
theorem facts : Facts where
  bcast_S_S2x8448x384 := by decide
  slices_S2x10x33x80x256_S2x6x33x64x256_0_0_0_0_0 := by decide
  bcast_S_S2x6x33x64x256 := by decide
  slices_S1x8x32_S1x5x32_0_0_0 := by decide
  shapeCasts_S1x5x32_S5x32 := by decide
  bcast_S_S5x32 := by decide
  slices_S2x10x33x80x256_S2x6x33x1x256_0_0_0_64_0 := by decide
  shapeCasts_S2x6x33x1x256_S2x6x33x256 := by decide
  bcast_S_S2x6x33x256 := by decide

variable (q k : FVec Ideal S2x8448x384 .bf16) (v : FVec Ideal S2x10x33x80x256 .bf16) (p : FVec Ideal S1x8x32 .f32) (w : FVec Ideal S64 .f32)

attribute [local instance] facts

open Cert.Flash

theorem query_real (h : (fn q k v p w).1 = fun _ => 1#1) (b : Fin 2) (i : Fin 8448) (l : Fin 384) : IsReal (q (ix3 b i l)) := by
  have e := congrFun h (ix3 b i l)
  revert e
  pointwise [fn]
  exact real_bf16

theorem key_real (h : (fn q k v p w).2.1 = fun _ => 1#1) (b : Fin 2) (i : Fin 8448) (l : Fin 384) : IsReal (k (ix3 b i l)) := by
  have e := congrFun h (ix3 b i l)
  revert e
  pointwise [fn]
  exact real_bf16

theorem value_real (h : (fn q k v p w).2.2.1 = fun _ => 1#1) (b : Fin 2) (hd : Fin 6) (j : Fin 33) (d : Fin 64) (r : Fin 256) :
    IsReal (v (ix5 b ⟨hd.val, by omega⟩ j ⟨d.val, by omega⟩ r)) := by
  have e := congrFun h (ix5 b hd j d r)
  revert e
  pointwise [fn]
  exact real_bf16

theorem param_real (h : (fn q k v p w).2.2.2.1 = fun _ => 1#1) (r : Fin 5) (l : Fin 32) : IsReal (p (ix3 0 ⟨r.val, by omega⟩ l)) := by
  have e := congrFun h (ix2 r l)
  revert e
  pointwise [fn]
  exact real_f32

theorem ones (h : (fn q k v p w).2.2.2.2 = fun _ => 1#1) (b : Fin 2) (hd : Fin 6) (j : Fin 33) (r : Fin 256) :
    v (ix5 b ⟨hd.val, by omega⟩ j 64 r) = 1 := by
  have e := congrFun h (ix4 b hd j r)
  revert e
  pointwise [fn]
  exact of_ofBool

/-- What the precondition says, as the attention asks for it. -/
theorem ready (h : (fn q k v p w).1 = (fun _ => 1#1) ∧ (fn q k v p w).2.1 = (fun _ => 1#1) ∧ (fn q k v p w).2.2.1 = (fun _ => 1#1)
      ∧ (fn q k v p w).2.2.2.1 = (fun _ => 1#1) ∧ (fn q k v p w).2.2.2.2 = (fun _ => 1#1)) :
    Cert.DiffIdeal.Work.Ready q k v p := by
  obtain ⟨h0, h1, h2, h3, h4⟩ := h
  have r := param_real q k v p w h3
  exact ⟨fun b hd u i j => IsReal.sum _ fun l => (key_real q k v p w h1 _ _ _).mul (query_real q k v p w h0 _ _ _), fun b hd j => ones q k v p w h4 _ _ _ _,
    fun b hd d j => value_real q k v p w h2 b hd _ d _,
    ((IsReal.sum _ fun l => (r 0 l).mul (r 1 l)).exp.sub (IsReal.sum _ fun l => (r 2 l).mul (r 3 l)).exp).add (r 4 0)⟩

end Cert.Pre_diff_inputs

namespace Cert.Proof

open Idealize.ShloMosaic Idealize.SL.Sem

theorem frame_diff_ref : Cert.quiescent_DiffRefIdeal (hDiffRefIdeal := Cert.DiffRefIdeal.Gen.facts) := fun m g _ =>
  (θ_run Cert.DiffRefIdeal.defs _ _).mono (fun r h => ⟨fun c => (h c).2, sem_eq_zero_of_no_sems (by decide) r.2⟩)
    (Cert.DiffRefIdeal.Value.run (F := Ideal) m g)

theorem algebraic_diff : Cert.algebraic_DiffIdeal_DiffRefIdeal_pre_diff_inputs (hDiffIdeal := Cert.DiffIdeal.Gen.facts)
    (hDiffRefIdeal := Cert.DiffRefIdeal.Gen.facts) (hPre_diff_inputs := Cert.Pre_diff_inputs.facts) := by
  intro m g m' g' hpre hargs
  have hr := fun c => Cert.Pre_diff_inputs.ready _ _ _ _ _ (hpre c)
  refine ⟨fun c => Cert.DiffIdeal.Work.G (m ((c.tc : Thread Cert.DiffIdeal.nD Cert.DiffIdeal.τ).loc Cert.DiffIdeal.main_arg0))
      (m ((c.tc : Thread Cert.DiffIdeal.nD Cert.DiffIdeal.τ).loc Cert.DiffIdeal.main_arg1)) (m ((c.tc : Thread Cert.DiffIdeal.nD Cert.DiffIdeal.τ).loc Cert.DiffIdeal.main_arg2))
      (m ((c.tc : Thread Cert.DiffIdeal.nD Cert.DiffIdeal.τ).loc Cert.DiffIdeal.main_arg3)) (m ((c.tc : Thread Cert.DiffIdeal.nD Cert.DiffIdeal.τ).loc Cert.DiffIdeal.main_arg4)), ?_, ?_⟩
  · exact (θ_run Cert.DiffIdeal.defs _ _).mono (fun r h c => ⟨(h c).1.trans (Cert.DiffIdeal.Work.array m c (hr c)), (h c).2⟩)
      (Cert.DiffIdeal.Value.run_blocks m g)
  · refine (θ_run Cert.DiffRefIdeal.defs _ _).mono (fun r h c => ⟨(h c).1.trans ?_, (h c).2⟩) (Cert.DiffRefIdeal.Value.run (F := Ideal) m' g')
    obtain ⟨e0, e1, e2, e3, e4⟩ := hargs c
    rw [Cert.DiffRefIdeal.Read.val_main_v91_eq, e0, e1, e2, e3, e4]
    exact Cert.DiffRefIdeal.Work.result _ _ _ _ _ (hr c)

end Cert.Proof

end
-- ==== Proof.FfnTile.lean ====
/- The feed-forward kernel's arithmetic: what each payload computes, read at an index. -/
module

public import proofs.«01_k».proof.Proof.Gen.FfnIdeal.Value
public import Idealize.ShloMosaic.Lib.Pointwise

@[expose] public section

set_option maxRecDepth 16384

noncomputable section

namespace Cert.FfnIdeal.Work

open Idealize.ShloMosaic Idealize.ShloMosaic.TcCoe Idealize.ShloMosaic.Tactic Cert.FfnIdeal.Gen

/-- The mean of a row. -/
def mean (f : Fin 1024 → EReal) : EReal := Ideal.div (∑ l, f l) (Ideal.ofBits .f32 0x44800000#32)

/-- A row brought to mean zero and unit variance. -/
def unit (f : Fin 1024 → EReal) (l : Fin 1024) : EReal :=
  (f l - mean f) * Ideal.rsqrt (mean (fun k => (f k - mean f) * (f k - mean f)) + Ideal.ofBits .f32 0x358637BD#32)

/-- A row normalised, scaled and shifted. -/
def modul (f sc sh : Fin 1024 → EReal) (l : Fin 1024) : EReal := unit f l * (Ideal.ofBits .f32 0x3F800000#32 + sc l) + sh l

variable (v0 : Vec Ideal S1x1x1x6144 .f32) (v5 : Vec Ideal S1x256x1024 .f32) (v13 v40 : Vec Ideal S1x8x1024 .f32) (b : BitVec 1)

theorem shift_apply (l : Fin 1024) : k0_pay6 v0 (ix2 0 l) = v0 (ix4 0 0 0 ⟨3072 + l.val, by omega⟩) := by
  pointwise [k0_pay6, k0_pay5]
theorem scale_apply (l : Fin 1024) : k0_pay7 v0 (ix2 0 l) = v0 (ix4 0 0 0 ⟨4096 + l.val, by omega⟩) := by
  pointwise [k0_pay7, k0_pay5]
theorem gate_apply (l : Fin 1024) : k0_pay8 v0 (ix2 0 l) = v0 (ix4 0 0 0 ⟨5120 + l.val, by omega⟩) := by
  pointwise [k0_pay8, k0_pay5]

/-- The rows of the two halos, modulated. -/
theorem halo_apply (r : Fin 8) (l : Fin 1024) :
    k0_pay10 v0 v13 (ix2 r l) = modul (fun k => v13 (ix3 0 r k)) (fun k => k0_pay7 v0 (ix2 0 k)) (fun k => k0_pay6 v0 (ix2 0 k)) l := by
  unfold modul unit mean
  pointwise [k0_pay10]

theorem before_apply (x : FVec Ideal S8x1024 .f32) (o : EReal) (r : Fin 8) (l : Fin 1024) :
    k0_pay11 b x o (ix2 r l) = x (ix2 r l) * Scalar.select b o (Ideal.ofBits .f32 0x00000000#32) := by
  pointwise [k0_pay11]

theorem after_apply (v2 v3 : FVec Ideal S1x1024 .f32) (r : Fin 8) (l : Fin 1024) :
    k0_pay12 v2 v3 b v40 (ix2 r l) = modul (fun k => v40 (ix3 0 r k)) (fun k => v3 (ix2 0 k)) (fun k => v2 (ix2 0 k)) l
      * Scalar.select b (Ideal.ofBits .f32 0x3F800000#32) (Ideal.ofBits .f32 0x00000000#32) := by
  unfold modul unit mean
  pointwise [k0_pay12]

/-- The block's own rows. -/
theorem centred_apply (v6 : FVec Ideal S256x1024 .f32) (a : Fin 256) (l : Fin 1024) : k0_pay13 v6 (ix2 a l) = v6 (ix2 a l) - mean fun k => v6 (ix2 a k) := by
  unfold mean
  pointwise [k0_pay13]
theorem variance_apply (v6 : FVec Ideal S256x1024 .f32) (a : Fin 256) :
    k0_pay14 v6 (ix2 a 0) = mean (fun k => k0_pay13 v6 (ix2 a k) * k0_pay13 v6 (ix2 a k)) + Ideal.ofBits .f32 0x358637BD#32 := by
  unfold mean
  pointwise [k0_pay14]
theorem block_apply (a : Fin 256) (l : Fin 1024) : k0_pay9 v5 (ix2 a l) = v5 (ix3 0 a l) := by
  pointwise [k0_pay9]

section
variable (v2 v3 : FVec Ideal S1x1024 .f32) (x y : FVec Ideal S8x1024 .f32) (z : FVec Ideal S256x1024 .f32) (w : FVec Ideal S256x1 .f32)

/-- The rows the projection reads: the last of the halo before, the block's own, the first of the halo after. -/
theorem rows_before (r : Fin 8) (l : Fin 1024) : k0_pay15 v2 v3 x y z w (ix2 ⟨r.val, by omega⟩ l) = x (ix2 r l) := by
  unfold k0_pay15
  refine (truncf_apply _ _ _ _).trans ?_
  refine concatenate_apply_piece (0 : Fin S272x1024.rank) _ _ _ 0 (by simp) S8x1024 x rfl rfl 0 rfl (ix2 r l) (fun b hb => ?_) ?_
  · match b with
    | ⟨0, _⟩ => exact absurd rfl hb
    | ⟨1, _⟩ => rfl
  · show 0 + r.val = r.val
    omega
theorem rows_own (a : Fin 256) (l : Fin 1024) : k0_pay15 v2 v3 x y z w (ix2 ⟨8 + a.val, by omega⟩ l)
      = z (ix2 a l) * Ideal.rsqrt (w (ix2 a 0)) * (Ideal.ofBits .f32 0x3F800000#32 + v3 (ix2 0 l)) + v2 (ix2 0 l) := by
  unfold k0_pay15
  refine (truncf_apply _ _ _ _).trans ?_
  refine (concatenate_apply_piece (0 : Fin S272x1024.rank) _ _ _ 1 (by simp) S256x1024 _ rfl rfl 8 rfl (ix2 a l) (fun b hb => ?_) ?_).trans ?_
  · match b with
    | ⟨0, _⟩ => exact absurd rfl hb
    | ⟨1, _⟩ => rfl
  · rfl
  · pointwise
theorem rows_after (r : Fin 8) (l : Fin 1024) : k0_pay15 v2 v3 x y z w (ix2 ⟨264 + r.val, by omega⟩ l) = y (ix2 r l) := by
  unfold k0_pay15
  refine (truncf_apply _ _ _ _).trans ?_
  refine concatenate_apply_piece (0 : Fin S272x1024.rank) _ _ _ 2 (by simp) S8x1024 y rfl rfl 264 rfl (ix2 r l) (fun b hb => ?_) ?_
  · match b with
    | ⟨0, _⟩ => exact absurd rfl hb
    | ⟨1, _⟩ => rfl
  · rfl

end

section
variable (h : FVec Ideal S272x1024 .bf16) (w : Vec Ideal S1x1024x256 .bf16) (k : Vec Ideal S1x8x256 .f32)

/-- A row of the block times a column of the weights. -/
def proj (r : Fin 272) (f : Fin 256) : EReal := ∑ l : Fin 1024, h (ix2 r l) * w (ix3 0 l f)

/-- The convolution across three rows. -/
def conv (a f : Fin 256) : EReal :=
  proj h w ⟨7 + a.val, by omega⟩ f * k (ix3 0 0 f) + proj h w ⟨8 + a.val, by omega⟩ f * k (ix3 0 1 f) + proj h w ⟨9 + a.val, by omega⟩ f * k (ix3 0 2 f) + k (ix3 0 3 f)

theorem pay2_apply (a f : Fin 256) : k0_pay2 h w k (ix2 a f) = conv h w k a f := by
  unfold conv proj
  pointwise [k0_pay2]
theorem pay3_apply (a f : Fin 256) : k0_pay3 h w k (ix2 a f) = conv h w k a f := pay2_apply h w k a f
theorem pay4_apply (a f : Fin 256) : k0_pay4 h w k (ix2 a f) = Ideal.logistic (conv h w k a f) := by
  rw [← pay2_apply]
  pointwise [k0_pay4]

/-- A trip's addition to the accumulator. -/
theorem pay17_apply (g u s : FVec Ideal S256x256 .f32) (acc : Vec Ideal S256x1024 .f32) (d : Vec Ideal S1x256x1024 .bf16) (a : Fin 256) (l : Fin 1024) :
    k0_pay17 g u s acc d (ix2 a l) = acc (ix2 a l) + ∑ f : Fin 256, g (ix2 a f) * s (ix2 a f) * u (ix2 a f) * d (ix3 0 f l) := by
  pointwise [k0_pay17]

theorem pay16_apply (a : Fin 256) (l : Fin 1024) : k0_pay16 (F := Ideal) (ix2 a l) = 0 := by
  pointwise [k0_pay16]
end

/-- The block's rows after the feed-forward, normalised … -/
theorem pay18_apply (v4 : FVec Ideal S1x1024 .f32) (v6 : FVec Ideal S256x1024 .f32) (acc : Vec Ideal S256x1024 .f32) (a : Fin 256) (l : Fin 1024) :
    k0_pay18 v4 v6 acc (ix2 a l) = unit (fun k => Ideal.ofBits .f32 0x3FD744FD#32 * v6 (ix2 a k) + v4 (ix2 0 k) * acc (ix2 a k)) l := by
  unfold unit mean
  pointwise [k0_pay18]

theorem pay19_apply (g : Vec Ideal S1x1024 .f32) (l : Fin 1024) : k0_pay19 g (ix2 0 l) = g (ix2 0 l) := by
  pointwise [k0_pay19]

/-- … and weighted. -/
theorem pay1_apply (x : FVec Ideal S256x1024 .f32) (g : FVec Ideal S1x1024 .f32) (o : Vec Ideal S1x1024 .f32) (a : Fin 256) (l : Fin 1024) :
    k0_pay1 x g o (ix3 0 a l) = x (ix2 a l) * g (ix2 0 l) + o (ix2 0 l) := by
  pointwise [k0_pay1]

end Cert.FfnIdeal.Work

end
-- ==== Proof.FfnLoop.lean ====
/- The feed-forward kernel's loop over the hidden features, and its output block: what the accumulator holds after each trip. -/
module

public import proofs.«01_k».proof.Proof.FfnTile
public import proofs.«01_k».proof.Proof.Heads
public import Idealize.ShloMosaic.Lib.Pipeline.ValueKit.Basic

@[expose] public section

set_option maxRecDepth 16384

noncomputable section

namespace Cert.FfnIdeal.Work

open Idealize.ShloMosaic Idealize.ShloMosaic.TcCoe Idealize.ShloMosaic.Tactic Cert.FfnIdeal.Gen

/-- A chunk of the weights, and of the convolution's. -/
def wslab (x : Vec Ideal S11x1024x256 .bf16) (j : ℕ) : Vec Ideal S1x1024x256 .bf16 := fun y => x (ix3 ⟨j % 11, Nat.mod_lt _ (by decide)⟩ (y 1) (y 2))
def kslab (x : Vec Ideal S11x8x256 .f32) (j : ℕ) : Vec Ideal S1x8x256 .f32 := fun y => x (ix3 ⟨j % 11, Nat.mod_lt _ (by decide)⟩ (y 1) (y 2))
def dslab (x : Vec Ideal S11x256x1024 .bf16) (j : ℕ) : Vec Ideal S1x256x1024 .bf16 := fun y => x (ix3 ⟨j % 11, Nat.mod_lt _ (by decide)⟩ (y 1) (y 2))

/-- The gated hidden feature `f` of chunk `j`. -/
def act (h : FVec Ideal S272x1024 .bf16) (x4 x5 : Vec Ideal S11x1024x256 .bf16) (x6 x7 : Vec Ideal S11x8x256 .f32) (a : Fin 256) (j : ℕ) (f : Fin 256) : EReal :=
  conv h (wslab x4 j) (kslab x6 j) a f * Ideal.logistic (conv h (wslab x4 j) (kslab x6 j) a f) * conv h (wslab x5 j) (kslab x7 j) a f

/-- What chunk `j` adds. -/
def term (h : FVec Ideal S272x1024 .bf16) (x4 x5 : Vec Ideal S11x1024x256 .bf16) (x6 x7 : Vec Ideal S11x8x256 .f32) (x8 : Vec Ideal S11x256x1024 .bf16)
    (a : Fin 256) (l : Fin 1024) (j : ℕ) : EReal := ∑ f : Fin 256, act h x4 x5 x6 x7 a j f * dslab x8 j (ix3 0 f l)

/-- A single store over a whole buffer is what is read back. -/
theorem read_whole (v : View sig .tc .vmem S256x1024 .f32) (f : v.ty.Contents (Elt Ideal)) (w : S256x1024.Idx → EReal) :
    v.read (Elt Ideal) (v.writes (Elt Ideal) f [(⟨Rect.unit (s := S256x1024) ![0, 0] S256x1024.size inb_S256x1024_S256x1024_0_0, w⟩ : View.Piece (Elt Ideal) S256x1024 .f32)]) = w := by
  rw [View.read_writes_eq_canon _ _ _ (View.cover_of_tiledL _ S256x1024.size (by sl_kernel_rfl))]
  exact View.canon_cons_unit_lit _ _ _ (by decide)

section
variable (c : Dev nD) (i : grid0.Coords)
  (arg2 : Memref sig .tc .vmem S1x256x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x1x1x6144 .f32) (harg5 : arg5.IsWhole)
  (arg6 : Memref sig .tc .vmem S11x1024x256 .bf16) (harg6 : arg6.IsWhole)
  (arg7 : Memref sig .tc .vmem S11x1024x256 .bf16) (harg7 : arg7.IsWhole)
  (arg8 : Memref sig .tc .vmem S11x8x256 .f32) (harg8 : arg8.IsWhole)
  (arg9 : Memref sig .tc .vmem S11x8x256 .f32) (harg9 : arg9.IsWhole)
  (arg10 : Memref sig .tc .vmem S11x256x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x256x1024 .f32) (harg13 : arg13.IsWhole)
  (arg14 : Memref sig .tc .vmem S256x1024 .f32) (harg14 : arg14.IsWhole)
  (v2 v3 v4 : FVec Ideal S1x1024 .f32) (v6 : FVec Ideal S256x1024 .f32) (v39 v66 : FVec Ideal S8x1024 .f32) (v72 : FVec Ideal S256x1024 .f32) (v79 : FVec Ideal S256x1 .f32)
  (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty)

abbrev rows : FVec Ideal S272x1024 .bf16 := k0_pay15 v2 v3 v39 v66 v72 v79

theorem slab6 (k : Fin k0_t1_loop.trips) :
    View.readAt (Elt Ideal) arg6.view (Rect.unit (s := S11x1024x256) (k0_off1 k) S1x1024x256.size (k0_off1_inb k)).toLoadRect X_arg6 = wslab (arg6.view.read (Elt Ideal) X_arg6) k.val := by
  have hk : k.val < 11 := Nat.lt_of_lt_of_le k.isLt k0_t1_abs.2.1
  funext y
  refine Heads.load_at _ _ _ _ _ _ _ _ (k0_off1_eq k) fun a => ?_
  have y0 : (y (0 : Fin 3)).val < 1 := (y (0 : Fin 3)).isLt
  fin_cases a
  · show k.val + (y (0 : Fin 3)).val = k.val % 11; omega
  · show 0 + (y (1 : Fin 3)).val = (y (1 : Fin 3)).val; omega
  · show 0 + (y (2 : Fin 3)).val = (y (2 : Fin 3)).val; omega

theorem slab8 (k : Fin k0_t1_loop.trips) :
    View.readAt (Elt Ideal) arg8.view (Rect.unit (s := S11x8x256) (k0_off2 k) S1x8x256.size (k0_off2_inb k)).toLoadRect X_arg8 = kslab (arg8.view.read (Elt Ideal) X_arg8) k.val := by
  have hk : k.val < 11 := Nat.lt_of_lt_of_le k.isLt k0_t1_abs.2.1
  funext y
  refine Heads.load_at _ _ _ _ _ _ _ _ (k0_off2_eq k) fun a => ?_
  have y0 : (y (0 : Fin 3)).val < 1 := (y (0 : Fin 3)).isLt
  fin_cases a
  · show k.val + (y (0 : Fin 3)).val = k.val % 11; omega
  · show 0 + (y (1 : Fin 3)).val = (y (1 : Fin 3)).val; omega
  · show 0 + (y (2 : Fin 3)).val = (y (2 : Fin 3)).val; omega

theorem slab10 (k : Fin k0_t1_loop.trips) :
    View.readAt (Elt Ideal) arg10.view (Rect.unit (s := S11x256x1024) (k0_off3 k) S1x256x1024.size (k0_off3_inb k)).toLoadRect X_arg10 = dslab (arg10.view.read (Elt Ideal) X_arg10) k.val := by
  have hk : k.val < 11 := Nat.lt_of_lt_of_le k.isLt k0_t1_abs.2.1
  funext y
  refine Heads.load_at _ _ _ _ _ _ _ _ (k0_off3_eq k) fun a => ?_
  have y0 : (y (0 : Fin 3)).val < 1 := (y (0 : Fin 3)).isLt
  fin_cases a
  · show k.val + (y (0 : Fin 3)).val = k.val % 11; omega
  · show 0 + (y (1 : Fin 3)).val = (y (1 : Fin 3)).val; omega
  · show 0 + (y (2 : Fin 3)).val = (y (2 : Fin 3)).val; omega

/-- What a trip writes. -/
theorem trip_eq (k : Fin k0_t1_loop.trips) (f14 : BufTy.Contents (Elt Ideal) arg14.view.ty) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v2 v3 v4 v6 v39 v66 v72 v79 X_arg6 X_arg7 X_arg8 X_arg9 X_arg10 k f14
      = [(⟨Rect.unit (s := S256x1024) ![0, 0] S256x1024.size inb_S256x1024_S256x1024_0_0,
          k0_pay17 (k0_pay2 (rows v2 v3 v39 v66 v72 v79) (wslab (arg6.view.read (Elt Ideal) X_arg6) k.val) (kslab (arg8.view.read (Elt Ideal) X_arg8) k.val))
            (k0_pay3 (rows v2 v3 v39 v66 v72 v79) (wslab (arg7.view.read (Elt Ideal) X_arg7) k.val) (kslab (arg9.view.read (Elt Ideal) X_arg9) k.val))
            (k0_pay4 (rows v2 v3 v39 v66 v72 v79) (wslab (arg6.view.read (Elt Ideal) X_arg6) k.val) (kslab (arg8.view.read (Elt Ideal) X_arg8) k.val))
            (arg14.view.read (Elt Ideal) f14) (dslab (arg10.view.read (Elt Ideal) X_arg10) k.val)⟩ : View.Piece (Elt Ideal) S256x1024 .f32)] := by
  rw [← slab6 arg6 X_arg6 k, ← slab6 arg7 X_arg7 k, ← slab8 arg8 X_arg8 k, ← slab8 arg9 X_arg9 k, ← slab10 arg10 X_arg10 k]
  have e : View.readAt (Elt Ideal) arg14.view (Rect.unit (s := S256x1024) ![0, 0] S256x1024.size inb_S256x1024_S256x1024_0_0).toLoadRect f14 = arg14.view.read (Elt Ideal) f14 := by
    rw [View.readAt_eq_ld]
    exact View.ld_unit_lit _ _ (by decide)
  rw [← e]
  unfold tripL_k0_t1 trip_k0_t1
  dsimp only
  sl_unfold_words
  rfl

/-- The accumulator after the first `n` trips. -/
theorem loop (G14 : BufTy.Contents (Elt Ideal) arg14.view.ty) (hG : ∀ a l, arg14.view.read (Elt Ideal) G14 (ix2 a l) = (0 : EReal)) (n : ℕ) (hn : n ≤ k0_t1_loop.trips) (a : Fin 256) (l : Fin 1024) :
    arg14.view.read (Elt Ideal) (arg14.view.writes (Elt Ideal) G14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v2 v3 v4 v6 v39 v66 v72 v79 X_arg6 X_arg7 X_arg8 X_arg9 X_arg10 G14 n)) (ix2 a l)
      = ∑ j ∈ Finset.range n, term (rows v2 v3 v39 v66 v72 v79) (arg6.view.read (Elt Ideal) X_arg6) (arg7.view.read (Elt Ideal) X_arg7) (arg8.view.read (Elt Ideal) X_arg8)
          (arg9.view.read (Elt Ideal) X_arg9) (arg10.view.read (Elt Ideal) X_arg10) a l j := by
  induction n with
  | zero => exact (hG a l).trans (Finset.sum_range_zero _).symm
  | succ n ih =>
    rw [pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 v2 v3 v4 v6 v39 v66 v72 v79 X_arg6 X_arg7 X_arg8 X_arg9 X_arg10 G14 ⟨n, hn⟩, View.writes_append, trip_eq, read_whole,
      pay17_apply, ih (by omega), Finset.sum_range_succ]
    refine congrArg _ (Finset.sum_congr rfl fun f _ => ?_)
    rw [pay2_apply, pay3_apply, pay4_apply]
    rfl

variable (x0 : Vec Ideal S1x256x1024 .f32) (x1 x2 : Vec Ideal S1x8x1024 .f32) (x3 : Vec Ideal S1x1x1x6144 .f32) (x4 x5 : Vec Ideal S11x1024x256 .bf16)
  (x6 x7 : Vec Ideal S11x8x256 .f32) (x8 : Vec Ideal S11x256x1024 .bf16) (x9 x10 : Vec Ideal S1x1024 .f32)

/-- Whether the block has a row before it, and a row after it, in its own sequence. -/
def hasBefore : BitVec 1 := Scalar.andi (Scalar.cmpi .ne (BitVec.ofNat 32 (i 1).val) 0#32) (Scalar.cmpi .ne (BitVec.ofNat 32 (i 1).val) 1#32)
def hasAfter : BitVec 1 := Scalar.andi (Scalar.cmpi .ne (BitVec.ofNat 32 (i 1).val) 0#32) (Scalar.cmpi .ne (BitVec.ofNat 32 (i 1).val) 32#32)

/-- The rows a block projects. -/
abbrev hrows : FVec Ideal S272x1024 .bf16 :=
  rows (k0_pay6 x3) (k0_pay7 x3) (k0_pay11 (hasBefore i) (k0_pay10 x3 x1) (Scalar.ofBits .f32 0x3F800000#32)) (k0_pay12 (k0_pay6 x3) (k0_pay7 x3) (hasAfter i) x2) (k0_pay13 (k0_pay9 x0)) (k0_pay14 (k0_pay9 x0))

/-- The accumulator when the output is written. -/
def last14 : Vec Ideal S256x1024 .f32 :=
  arg14.view.read (Elt Ideal) (arg14.view.writes (Elt Ideal) (arg14.view.writes (Elt Ideal) arg14.view.junk
      [(⟨Rect.unit (s := S256x1024) ![0, 0] S256x1024.size inb_S256x1024_S256x1024_0_0, k0_pay16 (F := Ideal)⟩ : View.Piece (Elt Ideal) S256x1024 .f32)])
    (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (k0_pay6 x3) (k0_pay7 x3) (k0_pay8 x3) (k0_pay9 x0)
      (k0_pay11 (hasBefore i) (k0_pay10 x3 x1) (Scalar.ofBits .f32 0x3F800000#32)) (k0_pay12 (k0_pay6 x3) (k0_pay7 x3) (hasAfter i) x2) (k0_pay13 (k0_pay9 x0)) (k0_pay14 (k0_pay9 x0))
      (harg6.unread x4) (harg7.unread x5) (harg8.unread x6) (harg9.unread x7) (harg10.unread x8)
      (arg14.view.writes (Elt Ideal) arg14.view.junk [(⟨Rect.unit (s := S256x1024) ![0, 0] S256x1024.size inb_S256x1024_S256x1024_0_0, k0_pay16 (F := Ideal)⟩ : View.Piece (Elt Ideal) S256x1024 .f32)])
      k0_t1_loop.trips))

theorem trips : k0_t1_loop.trips = 11 := by decide +kernel

theorem last14_apply (a : Fin 256) (l : Fin 1024) :
    last14 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 a l) = ∑ j ∈ Finset.range 11, term (hrows i x0 x1 x2 x3) x4 x5 x6 x7 x8 a l j := by
  unfold last14
  rw [loop c i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ (fun a l => ?_) _ le_rfl, harg6.read_unread, harg7.read_unread, harg8.read_unread, harg9.read_unread, harg10.read_unread, trips]
  rw [read_whole]
  exact pay16_apply a l

theorem out_eq : out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
    = k0_pay1 (k0_pay18 (k0_pay8 x3) (k0_pay9 x0) (last14 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)) (k0_pay19 x9) x10 := by
  unfold out0_A_11
  rw [View.read_writes_eq_canon _ _ _ (cover0_A_11 _ _ _ _ _ _ _ _ _ _ _ _ _ _ _ _ _ _ _ _ _ _ _ _ _ _ _ _ _ _ _ _ _ _ _ _ _ _ _)]
  unfold kernelRun0_A
  dsimp only
  sl_unfold_words
  have r2 : View.readAt (Elt Ideal) arg2.view (Rect.unit (s := S1x256x1024) ![0, 0, 0] S1x256x1024.size inb_S1x256x1024_S1x256x1024_0_0_0).toLoadRect (harg2.unread x0) = x0 := by
    rw [View.readAt_eq_ld, harg2.read_unread]
    exact View.ld_unit_lit _ _ (by decide)
  have r3 : View.readAt (Elt Ideal) arg3.view (Rect.unit (s := S1x8x1024) ![0, 0, 0] S1x8x1024.size inb_S1x8x1024_S1x8x1024_0_0_0).toLoadRect (harg3.unread x1) = x1 := by
    rw [View.readAt_eq_ld, harg3.read_unread]
    exact View.ld_unit_lit _ _ (by decide)
  have r4 : View.readAt (Elt Ideal) arg4.view (Rect.unit (s := S1x8x1024) ![0, 0, 0] S1x8x1024.size inb_S1x8x1024_S1x8x1024_0_0_0).toLoadRect (harg4.unread x2) = x2 := by
    rw [View.readAt_eq_ld, harg4.read_unread]
    exact View.ld_unit_lit _ _ (by decide)
  have r5 : View.readAt (Elt Ideal) arg5.view (Rect.unit (s := S1x1x1x6144) ![0, 0, 0, 0] S1x1x1x6144.size inb_S1x1x1x6144_S1x1x1x6144_0_0_0_0).toLoadRect (harg5.unread x3) = x3 := by
    rw [View.readAt_eq_ld, harg5.read_unread]
    exact View.ld_unit_lit _ _ (by decide)
  have r11 : View.readAt (Elt Ideal) arg11.view (Rect.unit (s := S1x1024) ![0, 0] S1x1024.size inb_S1x1024_S1x1024_0_0).toLoadRect (harg11.unread x9) = x9 := by
    rw [View.readAt_eq_ld, harg11.read_unread]
    exact View.ld_unit_lit _ _ (by decide)
  have r12 : View.readAt (Elt Ideal) arg12.view (Rect.unit (s := S1x1024) ![0, 0] S1x1024.size inb_S1x1024_S1x1024_0_0).toLoadRect (harg12.unread x10) = x10 := by
    rw [View.readAt_eq_ld, harg12.read_unread]
    exact View.ld_unit_lit _ _ (by decide)
  rw [r2, r3, r4, r5, r11, r12]
  refine (View.canon_cons_unit_lit _ _ _ (by decide)).trans ?_
  unfold last14
  rw [← View.writes_append]
  refine congrArg (fun z => k0_pay1 (k0_pay18 (k0_pay8 x3) (k0_pay9 x0) z) (k0_pay19 x9) x10) ?_
  refine (View.readAt_eq_ld _ _ _).trans ((View.ld_unit_lit _ _ (by decide)).trans ?_)
  rfl

/-- The output block: the row and its gated feed-forward, normalised. -/
theorem out_apply (a : Fin 256) (l : Fin 1024) :
    out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix3 0 a l)
      = unit (fun k => Ideal.ofBits .f32 0x3FD744FD#32 * x0 (ix3 0 a k)
          + x3 (ix4 0 0 0 ⟨5120 + k.val, by omega⟩) * ∑ j ∈ Finset.range 11, term (hrows i x0 x1 x2 x3) x4 x5 x6 x7 x8 a k j) l * x9 (ix2 0 l) + x10 (ix2 0 l) := by
  rw [out_eq, pay1_apply, pay18_apply, pay19_apply]
  refine congrArg (fun f => unit f l * x9 (ix2 0 l) + x10 (ix2 0 l)) (funext fun k => ?_)
  rw [block_apply, gate_apply, last14_apply]

end

end Cert.FfnIdeal.Work

end
-- ==== Proof.FfnHost.lean ====
/- The feed-forward call's arguments as the region finds them: the weights in chunks of the hidden features. -/
module

public import proofs.«01_k».proof.Proof.FfnLoop
public import Idealize.ShloMosaic.Lib.Pipeline.ValueKit.Geometry
public import Idealize.ShloMosaic.Lib.StableHlo.RunRead
public import Idealize.ShloMosaic.Lib.Pointwise

@[expose] public section

set_option maxRecDepth 16384

noncomputable section

namespace Cert.FfnIdeal.Work

open Idealize.ShloMosaic Idealize.ShloMosaic.TcCoe Idealize.ShloMosaic.Tactic Cert.FfnIdeal.Gen
open Idealize.ShloMosaic.Pipeline (Dat Cfg Window)

section
variable (wu : FVec Ideal S1024x5632 .f32) (cw : FVec Ideal S3x5632 .f32) (cb : FVec Ideal S5632 .f32) (wd : FVec Ideal S2816x1024 .f32) (g : FVec Ideal S1024 .f32)

/-- The projection's weights, the gate's half and the value's, chunk by chunk. -/
def wgate : FVec Ideal S11x1024x256 .bf16 :=
  transpose S11x1024x256 [1, 0, 2] (shapeCast S1024x11x256 (extractStridedSlice S1024x2816 ![0, 0] (truncf .bf16 wu bitsLt_bf16_f32) slices_S1024x5632_S1024x2816_0_0) shapeCasts_S1024x2816_S1024x11x256) transposes_S1024x11x256_S11x1024x256_1_0_2
def wval : FVec Ideal S11x1024x256 .bf16 :=
  transpose S11x1024x256 [1, 0, 2] (shapeCast S1024x11x256 (extractStridedSlice S1024x2816 ![0, 2816] (truncf .bf16 wu bitsLt_bf16_f32) slices_S1024x5632_S1024x2816_0_2816) shapeCasts_S1024x2816_S1024x11x256) transposes_S1024x11x256_S11x1024x256_1_0_2

/-- The convolution's weights and its bias, one under the other. -/
def ctab : FVec Ideal S8x5632 .f32 :=
  concatenate S8x5632 0 [⟨S3x5632, cw⟩, ⟨S1x5632, broadcastInDim S1x5632 ![1] bcast_S5632_S1x5632_1 cb⟩,
    ⟨S4x5632, broadcastInDim S4x5632 ![] bcast_S_S4x5632 (constant (F := Ideal) S_ .f32 0x00000000#32)⟩] concatenates_S3x5632_S1x5632_S4x5632_S8x5632_d0
def cgate : FVec Ideal S11x8x256 .f32 :=
  transpose S11x8x256 [1, 0, 2] (shapeCast S8x11x256 (extractStridedSlice S8x2816 ![0, 0] (ctab cw cb) slices_S8x5632_S8x2816_0_0) shapeCasts_S8x2816_S8x11x256) transposes_S8x11x256_S11x8x256_1_0_2
def cval : FVec Ideal S11x8x256 .f32 :=
  transpose S11x8x256 [1, 0, 2] (shapeCast S8x11x256 (extractStridedSlice S8x2816 ![0, 2816] (ctab cw cb) slices_S8x5632_S8x2816_0_2816) shapeCasts_S8x2816_S8x11x256) transposes_S8x11x256_S11x8x256_1_0_2
def wdown : FVec Ideal S11x256x1024 .bf16 := shapeCast S11x256x1024 (truncf .bf16 wd bitsLt_bf16_f32) shapeCasts_S2816x1024_S11x256x1024

theorem wgate_apply (j : Fin 11) (l : Fin 1024) (f : Fin 256) : wgate wu (ix3 j l f) = wu (ix2 l ⟨j.val * 256 + f.val, by omega⟩) := by
  unfold wgate
  pointwise
theorem wval_apply (j : Fin 11) (l : Fin 1024) (f : Fin 256) : wval wu (ix3 j l f) = wu (ix2 l ⟨2816 + (j.val * 256 + f.val), by omega⟩) := by
  unfold wval
  pointwise
theorem cgate_apply (j : Fin 11) (r : Fin 8) (f : Fin 256) : cgate cw cb (ix3 j r f) = ctab cw cb (ix2 r ⟨j.val * 256 + f.val, by omega⟩) := by
  unfold cgate
  pointwise
theorem cval_apply (j : Fin 11) (r : Fin 8) (f : Fin 256) : cval cw cb (ix3 j r f) = ctab cw cb (ix2 r ⟨2816 + (j.val * 256 + f.val), by omega⟩) := by
  unfold cval
  pointwise
theorem wdown_apply (j : Fin 11) (f : Fin 256) (l : Fin 1024) : wdown wd (ix3 j f l) = wd (ix2 ⟨j.val * 256 + f.val, by omega⟩ l) := by
  unfold wdown
  pointwise

theorem ctab_weight (r : Fin 3) (n : Fin 5632) : ctab cw cb (ix2 ⟨r.val, by omega⟩ n) = cw (ix2 r n) := by
  unfold ctab
  refine concatenate_apply_piece (0 : Fin S8x5632.rank) _ _ _ 0 (by simp) S3x5632 cw rfl rfl 0 rfl (ix2 r n) (fun b hb => ?_) ?_
  · match b with
    | ⟨0, _⟩ => exact absurd rfl hb
    | ⟨1, _⟩ => rfl
  · show 0 + r.val = r.val
    omega
theorem ctab_bias (n : Fin 5632) : ctab cw cb (ix2 3 n) = cb (ix1 n) := by
  unfold ctab
  refine (concatenate_apply_piece (0 : Fin S8x5632.rank) _ _ _ 1 (by simp) S1x5632 _ rfl rfl 3 rfl (ix2 0 n) (fun b hb => ?_) ?_).trans ?_
  · match b with
    | ⟨0, _⟩ => exact absurd rfl hb
    | ⟨1, _⟩ => rfl
  · rfl
  · pointwise
end

variable (m : (ℓ : Loc nD τ sig) → Buf (Elt Ideal) ℓ) (c : Dev nD)

theorem V_wgate : V m c main_v3 = wgate (m ((c.tc : Thread nD τ).loc main_arg2)) := by
  after_reads_simp
  rfl
theorem V_wval : V m c main_v6 = wval (m ((c.tc : Thread nD τ).loc main_arg2)) := by
  after_reads_simp
  rfl
theorem V_cgate : V m c main_v12 = cgate (m ((c.tc : Thread nD τ).loc main_arg3)) (m ((c.tc : Thread nD τ).loc main_arg4)) := by
  after_reads_simp
  rfl
theorem V_cval : V m c main_v15 = cval (m ((c.tc : Thread nD τ).loc main_arg3)) (m ((c.tc : Thread nD τ).loc main_arg4)) := by
  after_reads_simp
  rfl
theorem V_wdown : V m c main_v17 = wdown (m ((c.tc : Thread nD τ).loc main_arg5)) := by
  after_reads_simp
  rfl
theorem V_g : V m c main_v18 = shapeCast S1x1024 (m ((c.tc : Thread nD τ).loc main_arg6)) shapeCasts_S1024_S1x1024 := by
  after_reads_simp
  rfl
theorem V_b : V m c main_v19 = shapeCast S1x1024 (m ((c.tc : Thread nD τ).loc main_arg7)) shapeCasts_S1024_S1x1024 := by
  after_reads_simp
  rfl

/-- The windows' block indices at the points. -/
theorem idx_facts : ∀ t : Fin cfg0.N,
    (win0_0.index t (0 : Fin 3) = (grid0.coords t 0).val ∧ win0_0.index t (1 : Fin 3) = (grid0.coords t 1).val ∧ win0_0.index t (2 : Fin 3) = 0)
    ∧ (win0_1.index t (0 : Fin 3) = (grid0.coords t 0).val ∧ win0_1.index t (1 : Fin 3) = 32 * (grid0.coords t 1).val - 1 ∧ win0_1.index t (2 : Fin 3) = 0)
    ∧ (win0_2.index t (0 : Fin 3) = (grid0.coords t 0).val ∧ win0_2.index t (1 : Fin 3) = min (32 * (grid0.coords t 1).val + 32) 1055 ∧ win0_2.index t (2 : Fin 3) = 0)
    ∧ (win0_3.index t (0 : Fin 4) = (grid0.coords t 0).val ∧ win0_3.index t (1 : Fin 4) = min (grid0.coords t 1).val 1 ∧ win0_3.index t (2 : Fin 4) = 0 ∧ win0_3.index t (3 : Fin 4) = 0)
    ∧ (win0_11.index t (0 : Fin 3) = (grid0.coords t 0).val ∧ win0_11.index t (1 : Fin 3) = (grid0.coords t 1).val ∧ win0_11.index t (2 : Fin 3) = 0) :=
  (by decide +kernel : ∀ t : Fin grid0.N, _)
theorem idx_facts' : ∀ t : Fin cfg0.N,
    (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

end Cert.FfnIdeal.Work

end
-- ==== Proof.FfnArray.lean ====
/- The feed-forward kernel's whole output array: at every place, the row and its gated feed-forward, normalised. -/
module

public import proofs.«01_k».proof.Proof.FfnHost

@[expose] public section

set_option maxRecDepth 16384

noncomputable section

namespace Cert.FfnIdeal.Work

open Idealize.ShloMosaic Idealize.ShloMosaic.TcCoe Idealize.ShloMosaic.Tactic Cert.FfnIdeal.Gen
open Idealize.ShloMosaic.Pipeline (Dat Cfg Window)

section spec
variable (x : S2x8448x1024.Idx → EReal) (mu : S2x2x1x6144.Idx → EReal) (wu : S1024x5632.Idx → EReal) (cw : S3x5632.Idx → EReal) (cb : S5632.Idx → EReal)
  (wd : S2816x1024.Idx → EReal) (g s : S1024.Idx → EReal) (b : Fin 2)

/-- Which of the two sequences a row belongs to: the context's or the latent's. -/
def seg (i : Fin 8448) : Fin 2 := if i.val < 256 then 0 else 1

/-- A row, normalised and modulated. -/
def H (i : Fin 8448) (l : Fin 1024) : EReal :=
  modul (fun k => x (ix3 b i k)) (fun k => mu (ix4 b (seg i) 0 ⟨4096 + k.val, by omega⟩)) (fun k => mu (ix4 b (seg i) 0 ⟨3072 + k.val, by omega⟩)) l

/-- A row projected to the hidden features. -/
def U (i : Fin 8448) (n : Fin 5632) : EReal := ∑ l : Fin 1024, H x mu b i l * wu (ix2 l n)

/-- The row before and the row after in the row's own sequence, zero past its ends. -/
def Before (i : Fin 8448) (n : Fin 5632) : EReal := if i.val = 0 ∨ i.val = 256 then 0 else U x mu wu b ⟨i.val - 1, by omega⟩ n
def After (i : Fin 8448) (n : Fin 5632) : EReal := if h : i.val = 255 ∨ i.val = 8447 then 0 else U x mu wu b ⟨i.val + 1, by omega⟩ n

/-- The convolution across a row and its neighbours. -/
def C (i : Fin 8448) (n : Fin 5632) : EReal :=
  Before x mu wu b i n * cw (ix2 0 n) + U x mu wu b i n * cw (ix2 1 n) + After x mu wu b i n * cw (ix2 2 n) + cb (ix1 n)

/-- A gated hidden feature. -/
def A (i : Fin 8448) (f : Fin 2816) : EReal :=
  C x mu wu cw cb b i ⟨f.val, by omega⟩ * Ideal.logistic (C x mu wu cw cb b i ⟨f.val, by omega⟩) * C x mu wu cw cb b i ⟨2816 + f.val, by omega⟩

/-- The row after the feed-forward, and with what it is added to. -/
def Y (i : Fin 8448) (l : Fin 1024) : EReal := ∑ f : Fin 2816, A x mu wu cw cb b i f * wd (ix2 f l)
def Z (i : Fin 8448) (l : Fin 1024) : EReal :=
  Ideal.ofBits .f32 0x3FD744FD#32 * x (ix3 b i l) + mu (ix4 b (seg i) 0 ⟨5120 + l.val, by omega⟩) * Y x mu wu cw cb wd b i l

/-- The whole array. -/
def G : S2x8448x1024.Idx → EReal := fun j =>
  unit (Z x mu wu cw cb wd (j 0) (j 1)) (j 2) * g (ix1 (j 2)) + s (ix1 (j 2))

/-- Chunk by chunk. -/
theorem sum_chunks (F : ℕ → EReal) (n : ℕ) : ∑ j ∈ Finset.range n, ∑ f : Fin 256, F (j * 256 + f.val) = ∑ k ∈ Finset.range (n * 256), F k := by
  induction n with
  | zero => rw [Nat.zero_mul]; rfl
  | succ n ih => rw [Finset.sum_range_succ, ih, Nat.succ_mul, Finset.sum_range_add, Finset.sum_range fun k => F (n * 256 + k)]

theorem one_bits : Ideal.ofBits .f32 0x3F800000#32 = 1 := by
  simp [Ideal.ofBits, Ideal.ieee]
  rw [← EReal.coe_mul]
  norm_num

/-- The blocks at a tile, as places of the arguments. -/
structure Blocks (i : grid0.Coords) (x0 : Vec Ideal S1x256x1024 .f32) (x1 x2 : Vec Ideal S1x8x1024 .f32) (x3 : Vec Ideal S1x1x1x6144 .f32) : Prop where
  own : ∀ (a : Fin 256) (k : Fin 1024) (r : Fin 8448), r.val = 256 * (i 1).val + a.val → x0 (ix3 0 a k) = x (ix3 b r k)
  before : ∀ (k : Fin 1024) (r : Fin 8448), 2 ≤ (i 1).val → r.val + 1 = 256 * (i 1).val → x1 (ix3 0 7 k) = x (ix3 b r k)
  after : ∀ (k : Fin 1024) (r : Fin 8448), 1 ≤ (i 1).val → (i 1).val < 32 → r.val = 256 * (i 1).val + 256 → x2 (ix3 0 0 k) = x (ix3 b r k)
  tok : ∀ (n : Fin 6144) (r : Fin 2), r.val = min (i 1).val 1 → x3 (ix4 0 0 0 n) = mu (ix4 b r 0 n)

theorem before_bit : ∀ n : Fin 33, Scalar.andi (Scalar.cmpi .ne (BitVec.ofNat 32 n.val) 0#32) (Scalar.cmpi .ne (BitVec.ofNat 32 n.val) 1#32) = if n.val < 2 then 0#1 else 1#1 := by decide +kernel
theorem after_bit : ∀ n : Fin 33, Scalar.andi (Scalar.cmpi .ne (BitVec.ofNat 32 n.val) 0#32) (Scalar.cmpi .ne (BitVec.ofNat 32 n.val) 32#32) = if n.val = 0 ∨ n.val = 32 then 0#1 else 1#1 := by decide +kernel

section
variable {x mu b}
variable {i : grid0.Coords} {x0 : Vec Ideal S1x256x1024 .f32} {x1 x2 : Vec Ideal S1x8x1024 .f32} {x3 : Vec Ideal S1x1x1x6144 .f32} (hb : Blocks x mu b i x0 x1 x2 x3)
include hb

theorem Blocks.tok' (r : Fin 8448) (hr : 256 ≤ r.val ↔ 1 ≤ (i 1).val) (n : Fin 6144) : x3 (ix4 0 0 0 n) = mu (ix4 b (seg r) 0 n) := by
  refine hb.tok n _ ?_
  unfold seg
  split_ifs with h
  · show 0 = min (i 1).val 1
    omega
  · show 1 = min (i 1).val 1
    omega

/-- A row read through the block's own scale and shift is the row as the reference modulates it. -/
theorem Blocks.modul (r : Fin 8448) (hr : 256 ≤ r.val ↔ 1 ≤ (i 1).val) (f : Fin 1024 → EReal) (hf : ∀ k, f k = x (ix3 b r k)) (l : Fin 1024) :
    modul f (fun k => k0_pay7 x3 (ix2 0 k)) (fun k => k0_pay6 x3 (ix2 0 k)) l = H x mu b r l := by
  unfold H
  rw [funext hf, funext fun k => (scale_apply x3 k).trans (hb.tok' r hr _), funext fun k => (shift_apply x3 k).trans (hb.tok' r hr _)]

theorem Blocks.row_own (a : Fin 256) (l : Fin 1024) (r : Fin 8448) (hr : r.val = 256 * (i 1).val + a.val) :
    hrows i x0 x1 x2 x3 (ix2 ⟨8 + a.val, by omega⟩ l) = H x mu b r l := by
  refine (rows_own _ _ _ _ _ _ a l).trans (Eq.trans ?_ (hb.modul r (by omega) (fun k => x0 (ix3 0 a k)) (fun k => hb.own a k r hr) l))
  rw [variance_apply]
  unfold Work.modul unit
  simp only [centred_apply, block_apply]

theorem Blocks.row_before (l : Fin 1024) : hrows i x0 x1 x2 x3 (ix2 ⟨7, by omega⟩ l) = if h : (i 1).val < 2 then 0 else H x mu b ⟨256 * (i 1).val - 1, by have : (i 1).val < 33 := (i 1).isLt; omega⟩ l := by
  have hi : (i 1).val < 33 := (i 1).isLt
  refine (rows_before _ _ _ _ _ _ 7 l).trans ((before_apply _ _ _ _ _).trans ?_)
  rw [show hasBefore i = _ from before_bit ⟨(i 1).val, hi⟩]
  by_cases h : (i 1).val < 2
  · rw [dif_pos h, if_pos h]
    exact (congrArg (fun y : EReal => _ * y) (Ideal.ofBits_zero .f32)).trans (mul_zero _)
  · rw [dif_neg h, if_neg h]
    refine (congrArg (fun y : EReal => _ * y) one_bits).trans ((mul_one _).trans ((halo_apply _ _ _ _).trans ?_))
    exact hb.modul _ (by show 256 ≤ 256 * (i 1).val - 1 ↔ _; omega) _ (fun k => hb.before k _ (by omega) (by show 256 * (i 1).val - 1 + 1 = _; omega)) l

theorem Blocks.row_after (l : Fin 1024) : hrows i x0 x1 x2 x3 (ix2 ⟨264, by omega⟩ l) = if h : (i 1).val = 0 ∨ (i 1).val = 32 then 0 else H x mu b ⟨256 * (i 1).val + 256, by have : (i 1).val < 33 := (i 1).isLt; omega⟩ l := by
  have hi : (i 1).val < 33 := (i 1).isLt
  refine (rows_after _ _ _ _ _ _ 0 l).trans ((after_apply _ _ _ _ _ _).trans ?_)
  rw [show hasAfter i = _ from after_bit ⟨(i 1).val, hi⟩]
  by_cases h : (i 1).val = 0 ∨ (i 1).val = 32
  · rw [dif_pos h, if_pos h]
    exact (congrArg (fun y : EReal => _ * y) (Ideal.ofBits_zero .f32)).trans (mul_zero _)
  · rw [dif_neg h, if_neg h]
    refine (congrArg (fun y : EReal => _ * y) one_bits).trans ((mul_one _).trans ?_)
    exact hb.modul _ (by show 256 ≤ 256 * (i 1).val + 256 ↔ _; omega) _ (fun k => hb.after k _ (by omega) (by omega) rfl) l

variable {wu} {w : Vec Ideal S1x1024x256 .bf16} {f : Fin 256} {n : Fin 5632} (hw : ∀ l, w (ix3 0 l f) = wu (ix2 l n))
include hw

theorem Blocks.proj_own (a : Fin 256) (r : Fin 8448) (hr : r.val = 256 * (i 1).val + a.val) :
    proj (hrows i x0 x1 x2 x3) w ⟨8 + a.val, by omega⟩ f = U x mu wu b r n := by
  unfold proj U
  exact Finset.sum_congr rfl fun l _ => congrArg₂ (fun p q : EReal => p * q) (hb.row_own a l r hr) (hw l)

theorem Blocks.proj_before (a : Fin 256) (r : Fin 8448) (hr : r.val = 256 * (i 1).val + a.val) :
    proj (hrows i x0 x1 x2 x3) w ⟨7 + a.val, by omega⟩ f = Before x mu wu b r n := by
  unfold Before
  by_cases ha : a.val = 0
  · have e : (⟨7 + a.val, by omega⟩ : Fin 272) = ⟨7, by omega⟩ := Fin.ext (by show 7 + a.val = 7; omega)
    rw [e]
    unfold proj U
    by_cases h : (i 1).val < 2
    · rw [if_pos (by omega)]
      refine Finset.sum_eq_zero fun l _ => ?_
      rw [hb.row_before, dif_pos h, zero_mul]
    · rw [if_neg (by omega)]
      refine Finset.sum_congr rfl fun l _ => congrArg₂ (fun p q : EReal => p * q) ?_ (hw l)
      rw [hb.row_before, dif_neg h]
      exact congrArg (fun y => H x mu b y l) (Fin.ext (by show 256 * (i 1).val - 1 = r.val - 1; omega))
  · rw [if_neg (by omega), ← hb.proj_own hw ⟨a.val - 1, by omega⟩ _ (by show r.val - 1 = 256 * (i 1).val + (a.val - 1); omega)]
    exact congrArg (fun y => proj (hrows i x0 x1 x2 x3) w y f) (Fin.ext (by show 7 + a.val = 8 + (a.val - 1); omega))

theorem Blocks.proj_after (a : Fin 256) (r : Fin 8448) (hr : r.val = 256 * (i 1).val + a.val) :
    proj (hrows i x0 x1 x2 x3) w ⟨9 + a.val, by omega⟩ f = After x mu wu b r n := by
  unfold After
  by_cases ha : a.val = 255
  · have e : (⟨9 + a.val, by omega⟩ : Fin 272) = ⟨264, by omega⟩ := Fin.ext (by show 9 + a.val = 264; omega)
    rw [e]
    unfold proj U
    by_cases h : (i 1).val = 0 ∨ (i 1).val = 32
    · rw [dif_pos (by omega)]
      refine Finset.sum_eq_zero fun l _ => ?_
      rw [hb.row_after, dif_pos h, zero_mul]
    · rw [dif_neg (by omega)]
      refine Finset.sum_congr rfl fun l _ => congrArg₂ (fun p q : EReal => p * q) ?_ (hw l)
      rw [hb.row_after, dif_neg h]
      exact congrArg (fun y => H x mu b y l) (Fin.ext (by show 256 * (i 1).val + 256 = r.val + 1; omega))
  · rw [dif_neg (by omega), ← hb.proj_own hw ⟨a.val + 1, by omega⟩ _ (by show r.val + 1 = 256 * (i 1).val + (a.val + 1); omega)]
    exact congrArg (fun y => proj (hrows i x0 x1 x2 x3) w y f) (Fin.ext (by show 9 + a.val = 8 + (a.val + 1); omega))

variable {cw cb} {k : Vec Ideal S1x8x256 .f32} (hk : ∀ r : Fin 3, k (ix3 0 ⟨r.val, by omega⟩ f) = cw (ix2 r n)) (hk3 : k (ix3 0 3 f) = cb (ix1 n))
include hk hk3

theorem Blocks.conv (a : Fin 256) (r : Fin 8448) (hr : r.val = 256 * (i 1).val + a.val) : conv (hrows i x0 x1 x2 x3) w k a f = C x mu wu cw cb b r n := by
  unfold Work.conv C
  rw [hb.proj_own hw a r hr, hb.proj_before hw a r hr, hb.proj_after hw a r hr, hk3]
  exact congrArg (fun y : EReal => y + cb (ix1 n)) (congrArg₂ (fun p q : EReal => p + q) (congrArg₂ (fun p q : EReal => p + q)
    (congrArg (fun y : EReal => _ * y) (hk 0)) (congrArg (fun y : EReal => _ * y) (hk 1))) (congrArg (fun y : EReal => _ * y) (hk 2)))
end

/-- The accumulator at the end is the feed-forward's row. -/
theorem Blocks.sum {x mu b} {i : grid0.Coords} {x0 : Vec Ideal S1x256x1024 .f32} {x1 x2 : Vec Ideal S1x8x1024 .f32} {x3 : Vec Ideal S1x1x1x6144 .f32} (hb : Blocks x mu b i x0 x1 x2 x3)
    (a : Fin 256) (r : Fin 8448) (hr : r.val = 256 * (i 1).val + a.val) (l : Fin 1024) :
    ∑ j ∈ Finset.range 11, term (hrows i x0 x1 x2 x3) (wgate wu) (wval wu) (cgate cw cb) (cval cw cb) (wdown wd) a l j = Y x mu wu cw cb wd b r l := by
  have e : ∀ j ∈ Finset.range 11, term (hrows i x0 x1 x2 x3) (wgate wu) (wval wu) (cgate cw cb) (cval cw cb) (wdown wd) a l j
      = ∑ f : Fin 256, (fun k => if h : k < 2816 then A x mu wu cw cb b r ⟨k, h⟩ * wd (ix2 ⟨k, h⟩ l) else (0 : EReal)) (j * 256 + f.val) := by
    intro j hj
    have hj : j < 11 := Finset.mem_range.1 hj
    have em : (⟨j % 11, Nat.mod_lt _ (by decide)⟩ : Fin 11) = ⟨j, hj⟩ := Fin.ext (Nat.mod_eq_of_lt hj)
    unfold term
    refine Finset.sum_congr rfl fun f _ => ?_
    have hf : j * 256 + f.val < 2816 := by omega
    show _ = if h : j * 256 + f.val < 2816 then A x mu wu cw cb b r ⟨j * 256 + f.val, h⟩ * wd (ix2 ⟨j * 256 + f.val, h⟩ l) else 0
    rw [dif_pos hf]
    have e1 := hb.conv (w := wslab (wgate wu) j) (f := f) (n := ⟨j * 256 + f.val, by omega⟩) (wu := wu)
      (fun l => (congrArg (fun y => wgate wu (ix3 y l f)) em).trans (wgate_apply wu _ l f)) (k := kslab (cgate cw cb) j)
      (fun r => (congrArg (fun y => cgate cw cb (ix3 y _ f)) em).trans ((cgate_apply cw cb _ _ f).trans (ctab_weight cw cb r _)))
      ((congrArg (fun y => cgate cw cb (ix3 y _ f)) em).trans ((cgate_apply cw cb _ _ f).trans (ctab_bias cw cb _))) a r hr
    have e2 := hb.conv (w := wslab (wval wu) j) (f := f) (n := ⟨2816 + (j * 256 + f.val), by omega⟩) (wu := wu)
      (fun l => (congrArg (fun y => wval wu (ix3 y l f)) em).trans (wval_apply wu _ l f)) (k := kslab (cval cw cb) j)
      (fun r => (congrArg (fun y => cval cw cb (ix3 y _ f)) em).trans ((cval_apply cw cb _ _ f).trans (ctab_weight cw cb r _)))
      ((congrArg (fun y => cval cw cb (ix3 y _ f)) em).trans ((cval_apply cw cb _ _ f).trans (ctab_bias cw cb _))) a r hr
    unfold act A
    rw [e1, e2]
    exact congrArg (fun y : EReal => _ * y) ((congrArg (fun y => wdown wd (ix3 y f l)) em).trans (wdown_apply wd _ f l))
  refine (Finset.sum_congr rfl e).trans ((sum_chunks (fun k => if h : k < 2816 then A x mu wu cw cb b r ⟨k, h⟩ * wd (ix2 ⟨k, h⟩ l) else (0 : EReal)) 11).trans ((Finset.sum_range _).trans ?_))
  unfold Y
  exact Finset.sum_congr rfl fun f _ => dif_pos f.isLt
end spec

variable (m : (ℓ : Loc nD τ sig) → Buf (Elt Ideal) ℓ) (c : Dev nD) (t : Fin cfg0.N)

theorem blk0_apply (a : Fin 256) (l : Fin 1024) (r : Fin 8448) (hr : r.val = 256 * (grid0.coords t 1).val + a.val) :
    (iblk m c 0 t : Vec Ideal S1x256x1024 .f32) (ix3 0 a l) = m ((c.tc : Thread nD τ).loc main_arg0) (ix3 (grid0.coords t 0) r l) := by
  obtain ⟨⟨e0, e1, e2⟩, -⟩ := idx_facts t
  blk_simp [iblk]
  refine (congrFun (V_main_arg0 m c) _).trans (congrArg (m ((c.tc : Thread nD τ).loc main_arg0)) (funext fun x => Fin.ext ?_))
  fin_cases x
  · show win0_0.index t (0 : Fin 3) * 1 + 1 * 0 = (grid0.coords t 0).val
    omega
  · show win0_0.index t (1 : Fin 3) * 256 + 1 * a.val = r.val
    omega
  · show win0_0.index t (2 : Fin 3) * 1024 + 1 * l.val = l.val
    omega
theorem blk1_apply (l : Fin 1024) (r : Fin 8448) (h2 : 2 ≤ (grid0.coords t 1).val) (hr : r.val + 1 = 256 * (grid0.coords t 1).val) :
    (iblk m c 1 t : Vec Ideal S1x8x1024 .f32) (ix3 0 7 l) = m ((c.tc : Thread nD τ).loc main_arg0) (ix3 (grid0.coords t 0) r l) := by
  obtain ⟨-, ⟨e0, e1, e2⟩, -⟩ := idx_facts t
  blk_simp [iblk]
  refine (congrFun (V_main_arg0 m c) _).trans (congrArg (m ((c.tc : Thread nD τ).loc main_arg0)) (funext fun x => Fin.ext ?_))
  fin_cases x
  · show win0_1.index t (0 : Fin 3) * 1 + 1 * 0 = (grid0.coords t 0).val
    omega
  · show win0_1.index t (1 : Fin 3) * 8 + 1 * 7 = r.val
    omega
  · show win0_1.index t (2 : Fin 3) * 1024 + 1 * l.val = l.val
    omega
theorem blk2_apply (l : Fin 1024) (r : Fin 8448) (h2 : (grid0.coords t 1).val < 32) (hr : r.val = 256 * (grid0.coords t 1).val + 256) :
    (iblk m c 2 t : Vec Ideal S1x8x1024 .f32) (ix3 0 0 l) = m ((c.tc : Thread nD τ).loc main_arg0) (ix3 (grid0.coords t 0) r l) := by
  obtain ⟨-, -, ⟨e0, e1, e2⟩, -⟩ := idx_facts t
  blk_simp [iblk]
  refine (congrFun (V_main_arg0 m c) _).trans (congrArg (m ((c.tc : Thread nD τ).loc main_arg0)) (funext fun x => Fin.ext ?_))
  fin_cases x
  · show win0_2.index t (0 : Fin 3) * 1 + 1 * 0 = (grid0.coords t 0).val
    omega
  · show win0_2.index t (1 : Fin 3) * 8 + 1 * 0 = r.val
    omega
  · show win0_2.index t (2 : Fin 3) * 1024 + 1 * l.val = l.val
    omega
theorem blk3_apply (n : Fin 6144) (r : Fin 2) (hr : r.val = min (grid0.coords t 1).val 1) :
    (iblk m c 3 t : Vec Ideal S1x1x1x6144 .f32) (ix4 0 0 0 n) = m ((c.tc : Thread nD τ).loc main_arg1) (ix4 (grid0.coords t 0) r 0 n) := by
  obtain ⟨-, -, -, ⟨e0, e1, e2, e3⟩, -⟩ := idx_facts t
  blk_simp [iblk]
  refine (congrFun (V_main_arg1 m c) _).trans (congrArg (m ((c.tc : Thread nD τ).loc main_arg1)) (funext fun x => Fin.ext ?_))
  fin_cases x
  · show win0_3.index t (0 : Fin 4) * 1 + 1 * 0 = (grid0.coords t 0).val
    omega
  · show win0_3.index t (1 : Fin 4) * 1 + 1 * 0 = r.val
    omega
  · show win0_3.index t (2 : Fin 4) * 1 + 1 * 0 = 0
    omega
  · show win0_3.index t (3 : Fin 4) * 6144 + 1 * n.val = n.val
    omega

theorem blocks : Blocks (m ((c.tc : Thread nD τ).loc main_arg0)) (m ((c.tc : Thread nD τ).loc main_arg1)) (grid0.coords t 0) (grid0.coords t) (iblk m c 0 t) (iblk m c 1 t) (iblk m c 2 t) (iblk m c 3 t) where
  own a k r hr := blk0_apply m c t a k r hr
  before k r h hr := blk1_apply m c t k r h hr
  after k r _ h hr := blk2_apply m c t k r h hr
  tok n r hr := blk3_apply m c t n r hr

theorem blk4_eq : (iblk m c 4 t : Vec Ideal S11x1024x256 .bf16) = wgate (m ((c.tc : Thread nD τ).loc main_arg2)) := by
  obtain ⟨⟨e0, e1, e2⟩, -⟩ := idx_facts' t
  funext y
  blk_simp [iblk]
  refine (congrFun (V_wgate m c) _).trans (congrArg (wgate (m ((c.tc : Thread nD τ).loc main_arg2))) (funext fun x => Fin.ext ?_))
  fin_cases x
  · show win0_4.index t (0 : Fin 3) * 11 + 1 * (y (0 : Fin 3)).val = (y (0 : Fin 3)).val
    omega
  · show win0_4.index t (1 : Fin 3) * 1024 + 1 * (y (1 : Fin 3)).val = (y (1 : Fin 3)).val
    omega
  · show win0_4.index t (2 : Fin 3) * 256 + 1 * (y (2 : Fin 3)).val = (y (2 : Fin 3)).val
    omega
theorem blk5_eq : (iblk m c 5 t : Vec Ideal S11x1024x256 .bf16) = wval (m ((c.tc : Thread nD τ).loc main_arg2)) := by
  obtain ⟨-, ⟨e0, e1, e2⟩, -⟩ := idx_facts' t
  funext y
  blk_simp [iblk]
  refine (congrFun (V_wval m c) _).trans (congrArg (wval (m ((c.tc : Thread nD τ).loc main_arg2))) (funext fun x => Fin.ext ?_))
  fin_cases x
  · show win0_5.index t (0 : Fin 3) * 11 + 1 * (y (0 : Fin 3)).val = (y (0 : Fin 3)).val
    omega
  · show win0_5.index t (1 : Fin 3) * 1024 + 1 * (y (1 : Fin 3)).val = (y (1 : Fin 3)).val
    omega
  · show win0_5.index t (2 : Fin 3) * 256 + 1 * (y (2 : Fin 3)).val = (y (2 : Fin 3)).val
    omega
theorem blk6_eq : (iblk m c 6 t : Vec Ideal S11x8x256 .f32) = cgate (m ((c.tc : Thread nD τ).loc main_arg3)) (m ((c.tc : Thread nD τ).loc main_arg4)) := by
  obtain ⟨-, -, ⟨e0, e1, e2⟩, -⟩ := idx_facts' t
  funext y
  blk_simp [iblk]
  refine (congrFun (V_cgate m c) _).trans (congrArg (cgate (m ((c.tc : Thread nD τ).loc main_arg3)) (m ((c.tc : Thread nD τ).loc main_arg4))) (funext fun x => Fin.ext ?_))
  fin_cases x
  · show win0_6.index t (0 : Fin 3) * 11 + 1 * (y (0 : Fin 3)).val = (y (0 : Fin 3)).val
    omega
  · show win0_6.index t (1 : Fin 3) * 8 + 1 * (y (1 : Fin 3)).val = (y (1 : Fin 3)).val
    omega
  · show win0_6.index t (2 : Fin 3) * 256 + 1 * (y (2 : Fin 3)).val = (y (2 : Fin 3)).val
    omega
theorem blk7_eq : (iblk m c 7 t : Vec Ideal S11x8x256 .f32) = cval (m ((c.tc : Thread nD τ).loc main_arg3)) (m ((c.tc : Thread nD τ).loc main_arg4)) := by
  obtain ⟨-, -, -, ⟨e0, e1, e2⟩, -⟩ := idx_facts' t
  funext y
  blk_simp [iblk]
  refine (congrFun (V_cval m c) _).trans (congrArg (cval (m ((c.tc : Thread nD τ).loc main_arg3)) (m ((c.tc : Thread nD τ).loc main_arg4))) (funext fun x => Fin.ext ?_))
  fin_cases x
  · show win0_7.index t (0 : Fin 3) * 11 + 1 * (y (0 : Fin 3)).val = (y (0 : Fin 3)).val
    omega
  · show win0_7.index t (1 : Fin 3) * 8 + 1 * (y (1 : Fin 3)).val = (y (1 : Fin 3)).val
    omega
  · show win0_7.index t (2 : Fin 3) * 256 + 1 * (y (2 : Fin 3)).val = (y (2 : Fin 3)).val
    omega
theorem blk8_eq : (iblk m c 8 t : Vec Ideal S11x256x1024 .bf16) = wdown (m ((c.tc : Thread nD τ).loc main_arg5)) := by
  obtain ⟨-, -, -, -, ⟨e0, e1, e2⟩, -⟩ := idx_facts' t
  funext y
  blk_simp [iblk]
  refine (congrFun (V_wdown m c) _).trans (congrArg (wdown (m ((c.tc : Thread nD τ).loc main_arg5))) (funext fun x => Fin.ext ?_))
  fin_cases x
  · show win0_8.index t (0 : Fin 3) * 11 + 1 * (y (0 : Fin 3)).val = (y (0 : Fin 3)).val
    omega
  · show win0_8.index t (1 : Fin 3) * 256 + 1 * (y (1 : Fin 3)).val = (y (1 : Fin 3)).val
    omega
  · show win0_8.index t (2 : Fin 3) * 1024 + 1 * (y (2 : Fin 3)).val = (y (2 : Fin 3)).val
    omega
theorem blk9_apply (l : Fin 1024) : (iblk m c 9 t : Vec Ideal S1x1024 .f32) (ix2 0 l) = m ((c.tc : Thread nD τ).loc main_arg6) (ix1 l) := by
  obtain ⟨-, -, -, -, -, ⟨e0, e1⟩, -⟩ := idx_facts' t
  blk_simp [iblk]
  refine (congrFun (V_g m c) _).trans (Eq.trans (congrArg (shapeCast S1x1024 (m ((c.tc : Thread nD τ).loc main_arg6)) shapeCasts_S1024_S1x1024) (a₂ := ix2 0 l) (funext fun x => Fin.ext ?_)) ?_)
  · fin_cases x
    · show win0_9.index t (0 : Fin 2) * 1 + 1 * 0 = 0
      omega
    · show win0_9.index t (1 : Fin 2) * 1024 + 1 * l.val = l.val
      omega
  · generalize m ((c.tc : Thread nD τ).loc main_arg6) = p
    pointwise
theorem blk10_apply (l : Fin 1024) : (iblk m c 10 t : Vec Ideal S1x1024 .f32) (ix2 0 l) = m ((c.tc : Thread nD τ).loc main_arg7) (ix1 l) := by
  obtain ⟨-, -, -, -, -, -, ⟨e0, e1⟩⟩ := idx_facts' t
  blk_simp [iblk]
  refine (congrFun (V_b m c) _).trans (Eq.trans (congrArg (shapeCast S1x1024 (m ((c.tc : Thread nD τ).loc main_arg7)) shapeCasts_S1024_S1x1024) (a₂ := ix2 0 l) (funext fun x => Fin.ext ?_)) ?_)
  · fin_cases x
    · show win0_10.index t (0 : Fin 2) * 1 + 1 * 0 = 0
      omega
    · show win0_10.index t (1 : Fin 2) * 1024 + 1 * l.val = l.val
      omega
  · generalize m ((c.tc : Thread nD τ).loc main_arg7) = p
    pointwise

/-- The output block at a point. -/
theorem block (a : Fin 256) (l : Fin 1024) (r : Fin 8448) (hr : r.val = 256 * (grid0.coords t 1).val + a.val) :
    (outsAt0 m c t : Vec Ideal S1x256x1024 .f32) (ix3 0 a l)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (ix3 (grid0.coords t 0) r l) := by
  have hi : (grid0.coords t 1).val < 33 := (grid0.coords t 1).isLt
  unfold outsAt0
  refine (out_apply c (grid0.coords t) _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) a l).trans ?_
  rw [blk9_apply, blk10_apply, blk4_eq, blk5_eq, blk6_eq, blk7_eq, blk8_eq]
  unfold G
  refine congrArg (fun f => unit f l * m ((c.tc : Thread nD τ).loc main_arg6) (ix1 l) + m ((c.tc : Thread nD τ).loc main_arg7) (ix1 l)) (funext fun k => ?_)
  rw [(blocks m c t).sum _ _ _ _ a r hr k, blk0_apply m c t a k r hr, (blocks m c t).tok' r (by omega)]
  rfl

/-- The output array after the run. -/
theorem array :
    (dats m 0 c).arrAt 11 cfg0.N
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (dats m 0 c).arrAt_eq_of_covers 11 _ (by decide +kernel) fun t hf y => ?_
  blk_simp
  rw [after0_11]
  obtain ⟨-, -, -, -, e0, e1, e2⟩ := idx_facts t
  have hi : (grid0.coords t 1).val < 33 := (grid0.coords t 1).isLt
  have y0 : (y (0 : Fin 3)).val < 1 := (y (0 : Fin 3)).isLt
  have y1 : (y (1 : Fin 3)).val < 256 := (y (1 : Fin 3)).isLt
  have y2 : (y (2 : Fin 3)).val < 1024 := (y (2 : Fin 3)).isLt
  have hy : y = (ix3 (0 : Fin 1) (⟨(y (1 : Fin 3)).val, y1⟩ : Fin 256) (⟨(y (2 : Fin 3)).val, y2⟩ : Fin 1024) : S1x256x1024.Idx) := by
    funext x
    refine Fin.ext ?_
    fin_cases x
    · show (y (0 : Fin 3)).val = 0
      omega
    · rfl
    · rfl
  refine (congrArg (outsAt0 m c t : Vec Ideal S1x256x1024 .f32) hy).trans ((block m c t ⟨(y (1 : Fin 3)).val, y1⟩ ⟨(y (2 : Fin 3)).val, y2⟩ ⟨256 * (grid0.coords t 1).val + (y (1 : Fin 3)).val, by omega⟩ rfl).trans ?_)
  refine congrArg _ (funext fun x => Fin.ext ?_)
  fin_cases x
  · show (grid0.coords t 0).val = win0_11.index t (0 : Fin 3) * 1 + 1 * (y (0 : Fin 3)).val
    omega
  · show 256 * (grid0.coords t 1).val + (y (1 : Fin 3)).val = win0_11.index t (1 : Fin 3) * 256 + 1 * (y (1 : Fin 3)).val
    omega
  · show (y (2 : Fin 3)).val = win0_11.index t (2 : Fin 3) * 1024 + 1 * (y (2 : Fin 3)).val
    omega

end Cert.FfnIdeal.Work

end
-- ==== Proof.FfnRef.lean ====
/- The feed-forward reference's array: at every place, the row and its gated feed-forward, normalised. -/
module

public import proofs.«01_k».proof.Proof.FfnArray
public import proofs.«01_k».proof.Proof.Gen.FfnRefIdeal.Read

@[expose] public section

set_option maxRecDepth 16384

noncomputable section

namespace Cert.FfnRefIdeal.Work

open Idealize.ShloMosaic Idealize.ShloMosaic.TcCoe Idealize.ShloMosaic.Tactic Cert.FfnRefIdeal.Gen Cert.FfnRefIdeal.Read
open Cert.FfnIdeal.Work (seg H U Before After C A Y Z G unit mean modul one_bits)

variable (x : Vec Ideal S2x8448x1024 .f32) (mu : Vec Ideal S2x2x1x6144 .f32) (wu : Vec Ideal S1024x5632 .f32) (cw : Vec Ideal S3x5632 .f32) (cb : Vec Ideal S5632 .f32)
  (wd : Vec Ideal S2816x1024 .f32) (g s : Vec Ideal S1024 .f32) (b : Fin 2)

/-- A row's modulation is its own sequence's. -/
theorem token_ctx (i : Fin 256) (n : Fin 6144) : val_main_v2 mu (ix3 b i n) = mu (ix4 b 0 0 n) := by
  pointwise [val_main_v2, val_main_v1, val_main_v0]
theorem token_lat (i : Fin 8192) (n : Fin 6144) : val_main_v5 mu (ix3 b i n) = mu (ix4 b 1 0 n) := by
  pointwise [val_main_v5, val_main_v4, val_main_v3]
theorem token (i : Fin 8448) (n : Fin 6144) : val_main_v6 mu (ix3 b i n) = mu (ix4 b (seg i) 0 n) := by
  unfold val_main_v6 seg
  split_ifs with h
  · skip
    refine (concatenate_pair_apply_left (s₁ := S2x256x6144) (s₂ := S2x8192x6144) (1 : Fin S2x8448x6144.rank) _ _ _ _ rfl (ix3 b (⟨i.val, by omega⟩ : Fin 256) n) fun a => ?_).trans (token_ctx mu b _ n)
    match a with
    | ⟨0, _⟩ => rfl
    | ⟨1, _⟩ => rfl
    | ⟨2, _⟩ => rfl
  · skip
    refine (concatenate_pair_apply_right (s₁ := S2x256x6144) (s₂ := S2x8192x6144) (1 : Fin S2x8448x6144.rank) _ _ _ _ rfl rfl (ix3 b (⟨i.val - 256, by omega⟩ : Fin 8192) n) (fun a ha => ?_) ?_).trans (token_lat mu b _ n)
    · match a with
      | ⟨0, _⟩ => rfl
      | ⟨1, _⟩ => exact absurd rfl ha
      | ⟨2, _⟩ => rfl
    · show i.val - 256 + 256 = i.val
      omega

theorem mean_apply (i : Fin 8448) : val_main_v13 x (ix3 b i 0) = mean fun k => x (ix3 b i k) := by
  unfold mean
  pointwise [val_main_v13, val_main_v11, val_main_v10, val_main_v12, val_main_cst, val_main_cst_0]

theorem variance_apply (i : Fin 8448) : val_main_v24 x (ix3 b i 0)
    = mean (fun k => (x (ix3 b i k) - mean fun k => x (ix3 b i k)) * (x (ix3 b i k) - mean fun k => x (ix3 b i k))) + Ideal.ofBits .f32 0x358637BD#32 := by
  rw [← mean_apply]
  unfold mean
  pointwise [val_main_v24, val_main_v23, val_main_v20, val_main_v18, val_main_v17, val_main_v16, val_main_v15, val_main_v14, val_main_v19, val_main_cst_1, val_main_cst_2, val_main_cst_3]

theorem row_apply (i : Fin 8448) (l : Fin 1024) : val_main_v31 x mu (ix3 b i l) = H x mu b i l := by
  unfold H modul unit
  rw [← variance_apply, ← mean_apply]
  simp only [← token]
  pointwise [val_main_v31, val_main_v30, val_main_v29, val_main_v28, val_main_v27, val_main_v26, val_main_v25, val_main_v22, val_main_v21, val_main_v7, val_main_v8, val_main_cst_4]

theorem proj_apply (i : Fin 8448) (n : Fin 5632) : val_main_v32 x mu wu (ix3 b i n) = U x mu wu b i n := by
  unfold U
  simp only [← row_apply]
  pointwise [val_main_v32]

/-- The context's rows and the latent's. -/
theorem ctx_apply (i : Fin 256) (n : Fin 5632) : val_main_v33 x mu wu (ix3 b i n) = U x mu wu b ⟨i.val, by omega⟩ n := by
  rw [← proj_apply]
  pointwise [val_main_v33]
theorem lat_apply (i : Fin 8192) (n : Fin 5632) : val_main_v59 x mu wu (ix3 b i n) = U x mu wu b ⟨256 + i.val, by omega⟩ n := by
  rw [← proj_apply]
  pointwise [val_main_v59]

theorem nothing (i : S_.Idx) : val_main_cst_5 (F := Ideal) i = 0 := Ideal.ofBits_zero .f32
theorem nothing' (i : S_.Idx) : val_main_cst_6 (F := Ideal) i = 0 := Ideal.ofBits_zero .f32

/-- The rows before and after, in each sequence. -/
theorem ctx_zero (i : Fin 1) (n : Fin 5632) : val_main_v34 (F := Ideal) (ix3 b i n) = (0 : EReal) := (val_main_v34_apply _).trans (nothing _)
theorem ctx_early (i : Fin 255) (n : Fin 5632) : val_main_v35 x mu wu (ix3 b i n) = U x mu wu b ⟨i.val, by omega⟩ n := by
  refine (val_main_v35_apply x mu wu _).trans (Eq.trans (congrArg (val_main_v33 x mu wu) (funext fun a => Fin.ext ?_)) (ctx_apply x mu wu b (⟨i.val, by omega⟩ : Fin 256) n))
  match a with
  | ⟨0, _⟩ => rfl
  | ⟨1, _⟩ => rfl
  | ⟨2, _⟩ => rfl
theorem ctx_late (i : Fin 255) (n : Fin 5632) : val_main_v37 x mu wu (ix3 b i n) = U x mu wu b ⟨1 + i.val, by omega⟩ n := by
  refine (val_main_v37_apply x mu wu _).trans (Eq.trans (congrArg (val_main_v33 x mu wu) (funext fun a => Fin.ext ?_)) (ctx_apply x mu wu b (⟨1 + i.val, by omega⟩ : Fin 256) n))
  match a with
  | ⟨0, _⟩ => rfl
  | ⟨1, _⟩ => rfl
  | ⟨2, _⟩ => rfl
theorem ctx_before (i : Fin 256) (n : Fin 5632) : val_main_v36 x mu wu (ix3 b i n) = Before x mu wu b ⟨i.val, by omega⟩ n := by
  unfold val_main_v36 Before
  split_ifs with h
  · have h : i.val = 0 := by
      change i.val = 0 ∨ i.val = 256 at h
      omega
    refine (concatenate_pair_apply_left (s₁ := S2x1x5632) (s₂ := S2x255x5632) (1 : Fin S2x256x5632.rank) _ _ _ _ rfl (ix3 b (⟨i.val, by omega⟩ : Fin 1) n) fun a => ?_).trans (ctx_zero b _ n)
    match a with
    | ⟨0, _⟩ => rfl
    | ⟨1, _⟩ => rfl
    | ⟨2, _⟩ => rfl
  · have h : i.val ≠ 0 := by
      change ¬(i.val = 0 ∨ i.val = 256) at h
      omega
    refine (concatenate_pair_apply_right (s₁ := S2x1x5632) (s₂ := S2x255x5632) (1 : Fin S2x256x5632.rank) _ _ _ _ rfl rfl (ix3 b (⟨i.val - 1, by omega⟩ : Fin 255) n) (fun a ha => ?_) ?_).trans ((ctx_early x mu wu b _ n).trans (congrArg (fun y => U x mu wu b y n) (Fin.ext ?_)))
    · match a with
      | ⟨0, _⟩ => rfl
      | ⟨1, _⟩ => exact absurd rfl ha
      | ⟨2, _⟩ => rfl
    · show i.val - 1 + 1 = i.val
      omega
    · show i.val - 1 = i.val - 1
      omega
theorem ctx_after (i : Fin 256) (n : Fin 5632) : val_main_v38 x mu wu (ix3 b i n) = After x mu wu b ⟨i.val, by omega⟩ n := by
  unfold val_main_v38 After
  split_ifs with h
  · have h : i.val = 255 := by
      change i.val = 255 ∨ i.val = 8447 at h
      omega
    refine (concatenate_pair_apply_right (s₁ := S2x255x5632) (s₂ := S2x1x5632) (1 : Fin S2x256x5632.rank) _ _ _ _ rfl rfl (ix3 b (⟨i.val - 255, by omega⟩ : Fin 1) n) (fun a ha => ?_) ?_).trans (ctx_zero b _ n)
    · match a with
      | ⟨0, _⟩ => rfl
      | ⟨1, _⟩ => exact absurd rfl ha
      | ⟨2, _⟩ => rfl
    · show i.val - 255 + 255 = i.val
      omega
  · have h : i.val < 255 := by
      change ¬(i.val = 255 ∨ i.val = 8447) at h
      omega
    refine (concatenate_pair_apply_left (s₁ := S2x255x5632) (s₂ := S2x1x5632) (1 : Fin S2x256x5632.rank) _ _ _ _ rfl (ix3 b (⟨i.val, by omega⟩ : Fin 255) n) fun a => ?_).trans ((ctx_late x mu wu b _ n).trans (congrArg (fun y => U x mu wu b y n) (Fin.ext ?_)))
    · match a with
      | ⟨0, _⟩ => rfl
      | ⟨1, _⟩ => rfl
      | ⟨2, _⟩ => rfl
    · show 1 + i.val = i.val + 1
      omega

theorem ctx_conv (i : Fin 256) (n : Fin 5632) : val_main_v58 x mu wu cw cb (ix3 b i n) = C x mu wu cw cb b ⟨i.val, by omega⟩ n := by
  unfold C
  rw [← ctx_before, ← ctx_after, ← ctx_apply]
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39]

theorem lat_zero (i : Fin 1) (n : Fin 5632) : val_main_v60 (F := Ideal) (ix3 b i n) = (0 : EReal) := (val_main_v60_apply _).trans (nothing' _)
theorem lat_early (i : Fin 8191) (n : Fin 5632) : val_main_v61 x mu wu (ix3 b i n) = U x mu wu b ⟨256 + (i.val), by omega⟩ n := by
  refine (val_main_v61_apply x mu wu _).trans (Eq.trans (congrArg (val_main_v59 x mu wu) (funext fun a => Fin.ext ?_)) (lat_apply x mu wu b (⟨i.val, by omega⟩ : Fin 8192) n))
  match a with
  | ⟨0, _⟩ => rfl
  | ⟨1, _⟩ => rfl
  | ⟨2, _⟩ => rfl
theorem lat_late (i : Fin 8191) (n : Fin 5632) : val_main_v63 x mu wu (ix3 b i n) = U x mu wu b ⟨256 + (1 + i.val), by omega⟩ n := by
  refine (val_main_v63_apply x mu wu _).trans (Eq.trans (congrArg (val_main_v59 x mu wu) (funext fun a => Fin.ext ?_)) (lat_apply x mu wu b (⟨1 + i.val, by omega⟩ : Fin 8192) n))
  match a with
  | ⟨0, _⟩ => rfl
  | ⟨1, _⟩ => rfl
  | ⟨2, _⟩ => rfl
theorem lat_before (i : Fin 8192) (n : Fin 5632) : val_main_v62 x mu wu (ix3 b i n) = Before x mu wu b ⟨256 + i.val, by omega⟩ n := by
  unfold val_main_v62 Before
  split_ifs with h
  · have h : i.val = 0 := by
      change 256 + (i.val) = 0 ∨ 256 + (i.val) = 256 at h
      omega
    refine (concatenate_pair_apply_left (s₁ := S2x1x5632) (s₂ := S2x8191x5632) (1 : Fin S2x8192x5632.rank) _ _ _ _ rfl (ix3 b (⟨i.val, by omega⟩ : Fin 1) n) fun a => ?_).trans (lat_zero b _ n)
    match a with
    | ⟨0, _⟩ => rfl
    | ⟨1, _⟩ => rfl
    | ⟨2, _⟩ => rfl
  · have h : i.val ≠ 0 := by
      change ¬(256 + (i.val) = 0 ∨ 256 + (i.val) = 256) at h
      omega
    refine (concatenate_pair_apply_right (s₁ := S2x1x5632) (s₂ := S2x8191x5632) (1 : Fin S2x8192x5632.rank) _ _ _ _ rfl rfl (ix3 b (⟨i.val - 1, by omega⟩ : Fin 8191) n) (fun a ha => ?_) ?_).trans ((lat_early x mu wu b _ n).trans (congrArg (fun y => U x mu wu b y n) (Fin.ext ?_)))
    · match a with
      | ⟨0, _⟩ => rfl
      | ⟨1, _⟩ => exact absurd rfl ha
      | ⟨2, _⟩ => rfl
    · show i.val - 1 + 1 = i.val
      omega
    · show 256 + (i.val - 1) = 256 + (i.val) - 1
      omega
theorem lat_after (i : Fin 8192) (n : Fin 5632) : val_main_v64 x mu wu (ix3 b i n) = After x mu wu b ⟨256 + i.val, by omega⟩ n := by
  unfold val_main_v64 After
  split_ifs with h
  · have h : i.val = 8191 := by
      change 256 + (i.val) = 255 ∨ 256 + (i.val) = 8447 at h
      omega
    refine (concatenate_pair_apply_right (s₁ := S2x8191x5632) (s₂ := S2x1x5632) (1 : Fin S2x8192x5632.rank) _ _ _ _ rfl rfl (ix3 b (⟨i.val - 8191, by omega⟩ : Fin 1) n) (fun a ha => ?_) ?_).trans (lat_zero b _ n)
    · match a with
      | ⟨0, _⟩ => rfl
      | ⟨1, _⟩ => exact absurd rfl ha
      | ⟨2, _⟩ => rfl
    · show i.val - 8191 + 8191 = i.val
      omega
  · have h : i.val < 8191 := by
      change ¬(256 + (i.val) = 255 ∨ 256 + (i.val) = 8447) at h
      omega
    refine (concatenate_pair_apply_left (s₁ := S2x8191x5632) (s₂ := S2x1x5632) (1 : Fin S2x8192x5632.rank) _ _ _ _ rfl (ix3 b (⟨i.val, by omega⟩ : Fin 8191) n) fun a => ?_).trans ((lat_late x mu wu b _ n).trans (congrArg (fun y => U x mu wu b y n) (Fin.ext ?_)))
    · match a with
      | ⟨0, _⟩ => rfl
      | ⟨1, _⟩ => rfl
      | ⟨2, _⟩ => rfl
    · show 256 + (1 + i.val) = 256 + (i.val) + 1
      omega

theorem lat_conv (i : Fin 8192) (n : Fin 5632) : val_main_v84 x mu wu cw cb (ix3 b i n) = C x mu wu cw cb b ⟨256 + i.val, by omega⟩ n := by
  unfold C
  rw [← lat_before, ← lat_after, ← lat_apply]
  pointwise [val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65]

/-- The convolution across a row and its neighbours. -/
theorem conv_apply (i : Fin 8448) (n : Fin 5632) : val_main_v85 x mu wu cw cb (ix3 b i n) = C x mu wu cw cb b i n := by
  unfold val_main_v85
  by_cases h : i.val < 256
  · skip
    refine (concatenate_pair_apply_left (s₁ := S2x256x5632) (s₂ := S2x8192x5632) (1 : Fin S2x8448x5632.rank) _ _ _ _ rfl (ix3 b (⟨i.val, by omega⟩ : Fin 256) n) fun a => ?_).trans (ctx_conv x mu wu cw cb b _ n)
    match a with
    | ⟨0, _⟩ => rfl
    | ⟨1, _⟩ => rfl
    | ⟨2, _⟩ => rfl
  · skip
    refine (concatenate_pair_apply_right (s₁ := S2x256x5632) (s₂ := S2x8192x5632) (1 : Fin S2x8448x5632.rank) _ _ _ _ rfl rfl (ix3 b (⟨i.val - 256, by omega⟩ : Fin 8192) n) (fun a ha => ?_) ?_).trans ((lat_conv x mu wu cw cb b _ n).trans (congrArg (fun y => C x mu wu cw cb b y n) (Fin.ext ?_)))
    · match a with
      | ⟨0, _⟩ => rfl
      | ⟨1, _⟩ => exact absurd rfl ha
      | ⟨2, _⟩ => rfl
    · show i.val - 256 + 256 = i.val
      omega
    · show 256 + (i.val - 256) = i.val
      omega

theorem one_silu (i : S_.Idx) : val_main_call0_cst (F := Ideal) i = 1 := one_bits
theorem one_silu' (i : S_.Idx) : val_main_call0_cst_0 (F := Ideal) i = 1 := one_bits

/-- A gated hidden feature. -/
theorem gated_apply (i : Fin 8448) (f : Fin 2816) : val_main_v89 x mu wu cw cb (ix3 b i f) = A x mu wu cw cb b i f := by
  unfold A
  simp only [← conv_apply]
  pointwise [val_main_v89, val_main_v88, val_main_v87, val_main_v86, val_main_call0_v5, val_main_call0_v4, val_main_call0_v3, val_main_call0_v2, val_main_call0_v1, val_main_call0_v0]
  rw [one_silu, one_silu']
  rfl

theorem sum_apply (i : Fin 8448) (l : Fin 1024) : val_main_v94 x mu wu cw cb wd (ix3 b i l) = Z x mu wu cw cb wd b i l := by
  unfold Z Y
  simp only [← gated_apply, ← token]
  pointwise [val_main_v94, val_main_v93, val_main_v92, val_main_v91, val_main_v90, val_main_v9, val_main_cst_7]

theorem mean_apply' (i : Fin 8448) : val_main_v98 x mu wu cw cb wd (ix3 b i 0) = mean (Z x mu wu cw cb wd b i) := by
  rw [show Z x mu wu cw cb wd b i = fun l => val_main_v94 x mu wu cw cb wd (ix3 b i l) from funext fun l => (sum_apply x mu wu cw cb wd b i l).symm]
  unfold mean
  pointwise [val_main_v98, val_main_v97, val_main_v96, val_main_v95, val_main_cst_8, val_main_cst_9]

theorem variance_apply' (i : Fin 8448) : val_main_v109 x mu wu cw cb wd (ix3 b i 0)
    = mean (fun k => (Z x mu wu cw cb wd b i k - mean (Z x mu wu cw cb wd b i)) * (Z x mu wu cw cb wd b i k - mean (Z x mu wu cw cb wd b i))) + Ideal.ofBits .f32 0x358637BD#32 := by
  rw [← mean_apply']
  simp only [← sum_apply]
  unfold mean
  pointwise [val_main_v109, val_main_v108, val_main_v105, val_main_v104, val_main_v103, val_main_v102, val_main_v101, val_main_v100, val_main_v99, val_main_cst_10, val_main_cst_11, val_main_cst_12]

theorem out_apply (i : Fin 8448) (l : Fin 1024) :
    val_main_v118 x mu wu cw cb wd g s (ix3 b i l) = G x mu wu cw cb wd g s (ix3 b i l) := by
  show _ = unit (Z x mu wu cw cb wd b i) l * g (ix1 l) + s (ix1 l)
  unfold unit
  rw [← variance_apply', ← mean_apply', ← sum_apply]
  pointwise [val_main_v118, val_main_v117, val_main_v116, val_main_v115, val_main_v114, val_main_v113, val_main_v112, val_main_v111, val_main_v110, val_main_v107, val_main_v106]

/-- The reference's array. -/
theorem result : val_main_v118 x mu wu cw cb wd g s = G x mu wu cw cb wd g s := by
  funext j
  have e : j = ix3 (j 0) (j 1) (j 2) := funext fun a => match a with
    | ⟨0, _⟩ => rfl
    | ⟨1, _⟩ => rfl
    | ⟨2, _⟩ => rfl
  rw [e]
  exact out_apply x mu wu cw cb wd g s (j 0) (j 1) (j 2)

end Cert.FfnRefIdeal.Work

end
-- ==== Proof.FfnClaim.lean ====
/- The feed-forward: the kernel's array is the reference's. -/
module

public import proofs.«01_k».proof.Defs
public import proofs.«01_k».proof.Proof.FfnRef

@[expose] public section

set_option maxRecDepth 16384

noncomputable section

namespace Cert.Proof

open Idealize.ShloMosaic Idealize.SL.Sem

theorem frame_ffn_ref : Cert.quiescent_FfnRefIdeal (hFfnRefIdeal := Cert.FfnRefIdeal.Gen.facts) := fun m g _ =>
  (θ_run Cert.FfnRefIdeal.defs _ _).mono (fun r h => ⟨fun c => (h c).2, sem_eq_zero_of_no_sems (by decide) r.2⟩)
    (Cert.FfnRefIdeal.Value.run (F := Ideal) m g)

theorem algebraic_ffn : Cert.algebraic_FfnIdeal_FfnRefIdeal (hFfnIdeal := Cert.FfnIdeal.Gen.facts) (hFfnRefIdeal := Cert.FfnRefIdeal.Gen.facts) := by
  intro m g m' g' _ hargs
  refine ⟨fun c => Cert.FfnIdeal.Work.G (m ((c.tc : Thread Cert.FfnIdeal.nD Cert.FfnIdeal.τ).loc Cert.FfnIdeal.main_arg0))
      (m ((c.tc : Thread Cert.FfnIdeal.nD Cert.FfnIdeal.τ).loc Cert.FfnIdeal.main_arg1)) (m ((c.tc : Thread Cert.FfnIdeal.nD Cert.FfnIdeal.τ).loc Cert.FfnIdeal.main_arg2))
      (m ((c.tc : Thread Cert.FfnIdeal.nD Cert.FfnIdeal.τ).loc Cert.FfnIdeal.main_arg3)) (m ((c.tc : Thread Cert.FfnIdeal.nD Cert.FfnIdeal.τ).loc Cert.FfnIdeal.main_arg4))
      (m ((c.tc : Thread Cert.FfnIdeal.nD Cert.FfnIdeal.τ).loc Cert.FfnIdeal.main_arg5)) (m ((c.tc : Thread Cert.FfnIdeal.nD Cert.FfnIdeal.τ).loc Cert.FfnIdeal.main_arg6))
      (m ((c.tc : Thread Cert.FfnIdeal.nD Cert.FfnIdeal.τ).loc Cert.FfnIdeal.main_arg7)), ?_, ?_⟩
  · exact (θ_run Cert.FfnIdeal.defs _ _).mono (fun r h c => ⟨(h c).1.trans (Cert.FfnIdeal.Work.array m c), (h c).2⟩)
      (Cert.FfnIdeal.Value.run_blocks m g)
  · refine (θ_run Cert.FfnRefIdeal.defs _ _).mono (fun r h c => ⟨(h c).1.trans ?_, (h c).2⟩) (Cert.FfnRefIdeal.Value.run (F := Ideal) m' g')
    obtain ⟨e0, e1, e2, e3, e4, e5, e6, e7⟩ := hargs c
    rw [Cert.FfnRefIdeal.Read.val_main_v118_eq]
    refine (Cert.FfnRefIdeal.Work.result _ _ _ _ _ _ _ _).trans ?_
    show Cert.FfnIdeal.Work.G (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1))
        (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3))
        (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5))
        (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg7)) = _
    rw [e0, e1, e2, e3, e4, e5, e6, e7]

end Cert.Proof

end
-- ==== Proof.OutArray.lean ====
/- The out-projection kernel's whole output array: at every place, the row and its projected mix, normalised. -/
module

public import proofs.«01_k».proof.Proof.FfnArray
public import proofs.«01_k».proof.Proof.Gen.OutIdeal.Value

@[expose] public section

set_option maxRecDepth 16384

noncomputable section

namespace Cert.OutIdeal.Work

open Idealize.ShloMosaic Idealize.ShloMosaic.TcCoe Idealize.ShloMosaic.Tactic Cert.OutIdeal.Gen
open Idealize.ShloMosaic.Pipeline (Dat Cfg Window)
open Cert.FfnIdeal.Work (mean unit seg)

section tile
variable (p q : Vec Ideal S1x256x384 .bf16) (o : Vec Ideal S1x256x256 .bf16) (w : Vec Ideal S1024x1024 .bf16) (v10 : Vec Ideal S1x1x1x6144 .f32) (v13 : Vec Ideal S1x256x1024 .f32)

/-- The three mixes of a tile side by side. -/
def cat : FVec Ideal S256x1024 .bf16 :=
  concatenate S256x1024 1 [⟨S256x384, shapeCast S256x384 p shapeCasts_S1x256x384_S256x384⟩, ⟨S256x384, shapeCast S256x384 q shapeCasts_S1x256x384_S256x384⟩,
    ⟨S256x256, shapeCast S256x256 o shapeCasts_S1x256x256_S256x256⟩] concatenates_S256x384_S256x384_S256x256_S256x1024_d1

theorem cat_first (a : Fin 256) (k : Fin 384) : cat p q o (ix2 a ⟨k.val, by omega⟩) = p (ix3 0 a k) := by
  unfold cat
  refine (concatenate_apply_piece (1 : Fin S256x1024.rank) _ _ _ 0 (by simp) S256x384 _ rfl rfl 0 rfl (ix2 a k) (fun b hb => ?_) ?_).trans ?_
  · match b with
    | ⟨0, _⟩ => rfl
    | ⟨1, _⟩ => exact absurd rfl hb
  · show 0 + k.val = k.val
    omega
  · pointwise
theorem cat_second (a : Fin 256) (k : Fin 384) : cat p q o (ix2 a ⟨384 + k.val, by omega⟩) = q (ix3 0 a k) := by
  unfold cat
  refine (concatenate_apply_piece (1 : Fin S256x1024.rank) _ _ _ 1 (by simp) S256x384 _ rfl rfl 384 rfl (ix2 a k) (fun b hb => ?_) ?_).trans ?_
  · match b with
    | ⟨0, _⟩ => rfl
    | ⟨1, _⟩ => exact absurd rfl hb
  · rfl
  · pointwise
theorem cat_third (a k : Fin 256) : cat p q o (ix2 a ⟨768 + k.val, by omega⟩) = o (ix3 0 a k) := by
  unfold cat
  refine (concatenate_apply_piece (1 : Fin S256x1024.rank) _ _ _ 2 (by simp) S256x256 _ rfl rfl 768 rfl (ix2 a k) (fun b hb => ?_) ?_).trans ?_
  · match b with
    | ⟨0, _⟩ => rfl
    | ⟨1, _⟩ => exact absurd rfl hb
  · rfl
  · pointwise

/-- A row of the tile added to its gated projection. -/
def total (x : FVec Ideal S256x1024 .bf16) : FVec Ideal S256x1024 .f32 :=
  addf (mulf (broadcast S256x1024 (Scalar.ofBits .f32 0x3FD744FD#32)) (shapeCast S256x1024 v13 shapeCasts_S1x256x1024_S256x1024))
    (mulf (broadcastTo S256x1024 (extractStridedSlice S1x1024 ![0, 2048] (shapeCast S1x6144 v10 shapeCasts_S1x1x1x6144_S1x6144) slices_S1x6144_o0_2048_S1x1024) broadcasts_S1x1024_S256x1024)
      (matmul dot_S256x1024_S1024x1024_S256x1024_1_0_0_1_n_n none x (shapeCast S1024x1024 w shapeCasts_S1024x1024_S1024x1024 : FVec Ideal S1024x1024 .bf16) (constant S256x1024 .f32 0x00000000#32)))

/-- The row less its mean. -/
def centred (x : FVec Ideal S256x1024 .f32) : FVec Ideal S256x1024 .f32 :=
  subf x (broadcastTo S256x1024 (divf (shapeCast S256x1 (multiReduction .add [1] S256 x 0x00000000#32 reduces_S256x1024_S256 (.inl rfl) rfl) shapeCasts_S256_S256x1)
    (broadcast S256x1 (Scalar.ofBits .f32 0x44800000#32))) broadcasts_S256x1_S256x1024)

theorem pay2_eq : k0_pay2 p q o w v10 v13 = centred (total w v10 v13 (cat p q o)) := rfl

theorem total_apply (x : FVec Ideal S256x1024 .bf16) (a : Fin 256) (l : Fin 1024) :
    total w v10 v13 x (ix2 a l) = Ideal.ofBits .f32 0x3FD744FD#32 * v13 (ix3 0 a l) + v10 (ix4 0 0 0 ⟨2048 + l.val, by omega⟩) * ∑ f : Fin 1024, x (ix2 a f) * w (ix2 f l) := by
  unfold total
  pointwise

theorem centred_apply (x : FVec Ideal S256x1024 .f32) (a : Fin 256) (l : Fin 1024) : centred x (ix2 a l) = x (ix2 a l) - mean fun k => x (ix2 a k) := by
  unfold centred mean
  pointwise

theorem pay3_apply (a : Fin 256) : k0_pay3 p q o w v10 v13 (ix2 a 0)
    = mean (fun k => k0_pay2 p q o w v10 v13 (ix2 a k) * k0_pay2 p q o w v10 v13 (ix2 a k)) + Ideal.ofBits .f32 0x358637BD#32 := by
  unfold mean k0_pay3
  generalize k0_pay2 p q o w v10 v13 = z
  pointwise

theorem pay1_apply (x : FVec Ideal S256x1024 .f32) (v : FVec Ideal S256x1 .f32) (g s : Vec Ideal S1x1024 .f32) (a : Fin 256) (l : Fin 1024) :
    k0_pay1 x v g s (ix3 0 a l) = x (ix2 a l) * Ideal.rsqrt (v (ix2 a 0)) * g (ix2 0 l) + s (ix2 0 l) := by
  pointwise [k0_pay1]

/-- The output block: the row and its projected mix, normalised. -/
theorem out_apply (g s : Vec Ideal S1x1024 .f32) (a : Fin 256) (l : Fin 1024) :
    out0_8 v13 p q o v10 w g s (ix3 0 a l) = unit (fun k => total w v10 v13 (cat p q o) (ix2 a k)) l * g (ix2 0 l) + s (ix2 0 l) := by
  unfold out0_8
  have e0 : View.ld p r0_0 = p := View.ld_unit_lit _ _ (by decide)
  have e1 : View.ld q r0_0 = q := View.ld_unit_lit _ _ (by decide)
  have e2 : View.ld o r0_1 = o := View.ld_unit_lit _ _ (by decide)
  have e3 : View.ld w r0_2 = w := View.ld_unit_lit _ _ (by decide)
  have e4 : View.ld v10 r0_3 = v10 := View.ld_unit_lit _ _ (by decide)
  have e5 : View.ld v13 r0_4 = v13 := View.ld_unit_lit _ _ (by decide)
  have e6 : View.ld g r0_5 = g := View.ld_unit_lit _ _ (by decide)
  have e7 : View.ld s r0_5 = s := View.ld_unit_lit _ _ (by decide)
  rw [e0, e1, e2, e3, e4, e5, e6, e7]
  refine (congrFun (View.canon_cons_unit_lit _ _ _ (by decide)) _).trans ((pay1_apply _ _ _ _ a l).trans ?_)
  rw [pay3_apply, pay2_eq]
  simp only [centred_apply]
  rfl
end tile

section spec
variable (x : S2x8448x1024.Idx → EReal) (p q : S2x8448x384.Idx → EReal) (o : S2x8448x256.Idx → EReal) (mu : S2x2x1x6144.Idx → EReal) (w : S1024x1024.Idx → EReal) (g s : S1024.Idx → EReal) (b : Fin 2)

/-- The three mixes of a row side by side. -/
def Mix (i : Fin 8448) (f : Fin 1024) : EReal :=
  if h : f.val < 384 then p (ix3 b i ⟨f.val, h⟩) else if h : f.val < 768 then q (ix3 b i ⟨f.val - 384, by omega⟩) else o (ix3 b i ⟨f.val - 768, by omega⟩)

/-- The row added to its gated projection. -/
def Z (i : Fin 8448) (l : Fin 1024) : EReal :=
  Ideal.ofBits .f32 0x3FD744FD#32 * x (ix3 b i l) + mu (ix4 b (seg i) 0 ⟨2048 + l.val, by omega⟩) * ∑ f : Fin 1024, Mix p q o b i f * w (ix2 f l)

/-- The whole array. -/
def G : S2x8448x1024.Idx → EReal := fun j =>
  unit (Z x p q o mu w (j 0) (j 1)) (j 2) * g (ix1 (j 2)) + s (ix1 (j 2))
end spec

/-- A tile whose blocks are places of the arguments holds the array's rows. -/
theorem tile {p q : Vec Ideal S1x256x384 .bf16} {o : Vec Ideal S1x256x256 .bf16} {w : Vec Ideal S1024x1024 .bf16} {v10 : Vec Ideal S1x1x1x6144 .f32} {v13 : Vec Ideal S1x256x1024 .f32} {g s : Vec Ideal S1x1024 .f32}
    {X : S2x8448x1024.Idx → EReal} {P Q : S2x8448x384.Idx → EReal} {O : S2x8448x256.Idx → EReal} {mu : S2x2x1x6144.Idx → EReal} {W : S1024x1024.Idx → EReal} {g' s' : S1024.Idx → EReal} {b : Fin 2}
    (a : Fin 256) (r : Fin 8448) (h0 : ∀ l, v13 (ix3 0 a l) = X (ix3 b r l)) (h1 : ∀ k, p (ix3 0 a k) = P (ix3 b r k)) (h2 : ∀ k, q (ix3 0 a k) = Q (ix3 b r k)) (h3 : ∀ k, o (ix3 0 a k) = O (ix3 b r k))
    (h4 : ∀ n, v10 (ix4 0 0 0 n) = mu (ix4 b (seg r) 0 n)) (h5 : ∀ f l, w (ix2 f l) = W (ix2 f l)) (h6 : ∀ l, g (ix2 0 l) = g' (ix1 l)) (h7 : ∀ l, s (ix2 0 l) = s' (ix1 l)) (l : Fin 1024) :
    out0_8 v13 p q o v10 w g s (ix3 0 a l) = G X P Q O mu W g' s' (ix3 b r l) := by
  have hm : ∀ f : Fin 1024, cat p q o (ix2 a f) = Mix P Q O b r f := by
    intro f
    unfold Mix
    split_ifs with k1 k2
    · exact (cat_first p q o a ⟨f.val, k1⟩).trans (h1 _)
    · have e : f = ⟨384 + (f.val - 384), by omega⟩ := Fin.ext (by show f.val = 384 + (f.val - 384); omega)
      exact (congrArg (fun y => cat p q o (ix2 a y)) e).trans ((cat_second p q o a ⟨f.val - 384, by omega⟩).trans (h2 _))
    · have e : f = ⟨768 + (f.val - 768), by omega⟩ := Fin.ext (by show f.val = 768 + (f.val - 768); omega)
      exact (congrArg (fun y => cat p q o (ix2 a y)) e).trans ((cat_third p q o a ⟨f.val - 768, by omega⟩).trans (h3 _))
  have ht : (fun k => total w v10 v13 (cat p q o) (ix2 a k)) = Z X P Q O mu W b r := by
    funext k
    rw [total_apply, h0, h4]
    unfold Z
    simp only [hm, h5]
  rw [out_apply, ht, h6, h7]
  rfl

variable (m : (ℓ : Loc nD τ sig) → Buf (Elt Ideal) ℓ) (c : Dev nD) (t : Fin cfg0.N)

theorem V_w : V m c main_v0 = truncf (F := Ideal) .bf16 (m ((c.tc : Thread nD τ).loc main_arg5)) bitsLt_bf16_f32 := by
  after_reads_simp
theorem V_g : V m c main_v1 = shapeCast S1x1024 (m ((c.tc : Thread nD τ).loc main_arg6)) shapeCasts_S1024_S1x1024 := by
  after_reads_simp
  rfl
theorem V_b : V m c main_v2 = shapeCast S1x1024 (m ((c.tc : Thread nD τ).loc main_arg7)) shapeCasts_S1024_S1x1024 := by
  after_reads_simp
  rfl

/-- The windows' block indices at the points. -/
theorem idx_facts : ∀ t : Fin cfg0.N,
    (win0_0.index t (0 : Fin 3) = (grid0.coords t 0).val ∧ win0_0.index t (1 : Fin 3) = (grid0.coords t 1).val ∧ win0_0.index t (2 : Fin 3) = 0)
    ∧ (win0_1.index t (0 : Fin 3) = (grid0.coords t 0).val ∧ win0_1.index t (1 : Fin 3) = (grid0.coords t 1).val ∧ win0_1.index t (2 : Fin 3) = 0)
    ∧ (win0_2.index t (0 : Fin 3) = (grid0.coords t 0).val ∧ win0_2.index t (1 : Fin 3) = (grid0.coords t 1).val ∧ win0_2.index t (2 : Fin 3) = 0)
    ∧ (win0_3.index t (0 : Fin 3) = (grid0.coords t 0).val ∧ win0_3.index t (1 : Fin 3) = (grid0.coords t 1).val ∧ win0_3.index t (2 : Fin 3) = 0)
    ∧ (win0_4.index t (0 : Fin 4) = (grid0.coords t 0).val ∧ win0_4.index t (1 : Fin 4) = min (grid0.coords t 1).val 1 ∧ win0_4.index t (2 : Fin 4) = 0 ∧ win0_4.index t (3 : Fin 4) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = (grid0.coords t 0).val ∧ win0_8.index t (1 : Fin 3) = (grid0.coords t 1).val ∧ win0_8.index t (2 : Fin 3) = 0) :=
  (by decide +kernel : ∀ t : Fin grid0.N, _)

theorem blk0_apply (a : Fin 256) (l : Fin 1024) (r : Fin 8448) (hr : r.val = 256 * (grid0.coords t 1).val + a.val) :
    (iblk m c 0 t : Vec Ideal S1x256x1024 .f32) (ix3 0 a l) = m ((c.tc : Thread nD τ).loc main_arg0) (ix3 (grid0.coords t 0) r l) := by
  obtain ⟨⟨e0, e1, e2⟩, -⟩ := idx_facts t
  blk_simp [iblk]
  refine (congrFun (V_main_arg0 m c) _).trans (congrArg (m ((c.tc : Thread nD τ).loc main_arg0)) (funext fun x => Fin.ext ?_))
  fin_cases x
  · show win0_0.index t (0 : Fin 3) * 1 + 1 * 0 = (grid0.coords t 0).val
    omega
  · show win0_0.index t (1 : Fin 3) * 256 + 1 * a.val = r.val
    omega
  · show win0_0.index t (2 : Fin 3) * 1024 + 1 * l.val = l.val
    omega
theorem blk1_apply (a : Fin 256) (l : Fin 384) (r : Fin 8448) (hr : r.val = 256 * (grid0.coords t 1).val + a.val) :
    (iblk m c 1 t : Vec Ideal S1x256x384 .bf16) (ix3 0 a l) = m ((c.tc : Thread nD τ).loc main_arg1) (ix3 (grid0.coords t 0) r l) := by
  obtain ⟨-, ⟨e0, e1, e2⟩, -⟩ := idx_facts t
  blk_simp [iblk]
  refine (congrFun (V_main_arg1 m c) _).trans (congrArg (m ((c.tc : Thread nD τ).loc main_arg1)) (funext fun x => Fin.ext ?_))
  fin_cases x
  · show win0_1.index t (0 : Fin 3) * 1 + 1 * 0 = (grid0.coords t 0).val
    omega
  · show win0_1.index t (1 : Fin 3) * 256 + 1 * a.val = r.val
    omega
  · show win0_1.index t (2 : Fin 3) * 384 + 1 * l.val = l.val
    omega
theorem blk2_apply (a : Fin 256) (l : Fin 384) (r : Fin 8448) (hr : r.val = 256 * (grid0.coords t 1).val + a.val) :
    (iblk m c 2 t : Vec Ideal S1x256x384 .bf16) (ix3 0 a l) = m ((c.tc : Thread nD τ).loc main_arg2) (ix3 (grid0.coords t 0) r l) := by
  obtain ⟨-, -, ⟨e0, e1, e2⟩, -⟩ := idx_facts t
  blk_simp [iblk]
  refine (congrFun (V_main_arg2 m c) _).trans (congrArg (m ((c.tc : Thread nD τ).loc main_arg2)) (funext fun x => Fin.ext ?_))
  fin_cases x
  · show win0_2.index t (0 : Fin 3) * 1 + 1 * 0 = (grid0.coords t 0).val
    omega
  · show win0_2.index t (1 : Fin 3) * 256 + 1 * a.val = r.val
    omega
  · show win0_2.index t (2 : Fin 3) * 384 + 1 * l.val = l.val
    omega
theorem blk3_apply (a l : Fin 256) (r : Fin 8448) (hr : r.val = 256 * (grid0.coords t 1).val + a.val) :
    (iblk m c 3 t : Vec Ideal S1x256x256 .bf16) (ix3 0 a l) = m ((c.tc : Thread nD τ).loc main_arg3) (ix3 (grid0.coords t 0) r l) := by
  obtain ⟨-, -, -, ⟨e0, e1, e2⟩, -⟩ := idx_facts t
  blk_simp [iblk]
  refine (congrFun (V_main_arg3 m c) _).trans (congrArg (m ((c.tc : Thread nD τ).loc main_arg3)) (funext fun x => Fin.ext ?_))
  fin_cases x
  · show win0_3.index t (0 : Fin 3) * 1 + 1 * 0 = (grid0.coords t 0).val
    omega
  · show win0_3.index t (1 : Fin 3) * 256 + 1 * a.val = r.val
    omega
  · show win0_3.index t (2 : Fin 3) * 256 + 1 * l.val = l.val
    omega
theorem blk4_apply (n : Fin 6144) (r : Fin 2) (hr : r.val = min (grid0.coords t 1).val 1) :
    (iblk m c 4 t : Vec Ideal S1x1x1x6144 .f32) (ix4 0 0 0 n) = m ((c.tc : Thread nD τ).loc main_arg4) (ix4 (grid0.coords t 0) r 0 n) := by
  obtain ⟨-, -, -, -, ⟨e0, e1, e2, e3⟩, -⟩ := idx_facts t
  blk_simp [iblk]
  refine (congrFun (V_main_arg4 m c) _).trans (congrArg (m ((c.tc : Thread nD τ).loc main_arg4)) (funext fun x => Fin.ext ?_))
  fin_cases x
  · show win0_4.index t (0 : Fin 4) * 1 + 1 * 0 = (grid0.coords t 0).val
    omega
  · show win0_4.index t (1 : Fin 4) * 1 + 1 * 0 = r.val
    omega
  · show win0_4.index t (2 : Fin 4) * 1 + 1 * 0 = 0
    omega
  · show win0_4.index t (3 : Fin 4) * 6144 + 1 * n.val = n.val
    omega
theorem blk5_apply (f l : Fin 1024) : (iblk m c 5 t : Vec Ideal S1024x1024 .bf16) (ix2 f l) = m ((c.tc : Thread nD τ).loc main_arg5) (ix2 f l) := by
  obtain ⟨-, -, -, -, -, ⟨e0, e1⟩, -⟩ := idx_facts t
  blk_simp [iblk]
  refine (congrFun (V_w m c) _).trans (congrArg (m ((c.tc : Thread nD τ).loc main_arg5)) (funext fun x => Fin.ext ?_))
  fin_cases x
  · show win0_5.index t (0 : Fin 2) * 1024 + 1 * f.val = f.val
    omega
  · show win0_5.index t (1 : Fin 2) * 1024 + 1 * l.val = l.val
    omega
theorem blk6_apply (l : Fin 1024) : (iblk m c 6 t : Vec Ideal S1x1024 .f32) (ix2 0 l) = m ((c.tc : Thread nD τ).loc main_arg6) (ix1 l) := by
  obtain ⟨-, -, -, -, -, -, ⟨e0, e1⟩, -⟩ := idx_facts t
  blk_simp [iblk]
  refine (congrFun (V_g m c) _).trans (Eq.trans (congrArg (shapeCast S1x1024 (m ((c.tc : Thread nD τ).loc main_arg6)) shapeCasts_S1024_S1x1024) (a₂ := ix2 0 l) (funext fun x => Fin.ext ?_)) ?_)
  · fin_cases x
    · show win0_6.index t (0 : Fin 2) * 1 + 1 * 0 = 0
      omega
    · show win0_6.index t (1 : Fin 2) * 1024 + 1 * l.val = l.val
      omega
  · generalize m ((c.tc : Thread nD τ).loc main_arg6) = p
    pointwise
theorem blk7_apply (l : Fin 1024) : (iblk m c 7 t : Vec Ideal S1x1024 .f32) (ix2 0 l) = m ((c.tc : Thread nD τ).loc main_arg7) (ix1 l) := by
  obtain ⟨-, -, -, -, -, -, -, ⟨e0, e1⟩, -⟩ := idx_facts t
  blk_simp [iblk]
  refine (congrFun (V_b m c) _).trans (Eq.trans (congrArg (shapeCast S1x1024 (m ((c.tc : Thread nD τ).loc main_arg7)) shapeCasts_S1024_S1x1024) (a₂ := ix2 0 l) (funext fun x => Fin.ext ?_)) ?_)
  · fin_cases x
    · show win0_7.index t (0 : Fin 2) * 1 + 1 * 0 = 0
      omega
    · show win0_7.index t (1 : Fin 2) * 1024 + 1 * l.val = l.val
      omega
  · generalize m ((c.tc : Thread nD τ).loc main_arg7) = p
    pointwise

/-- The output block at a point. -/
theorem block (a : Fin 256) (l : Fin 1024) (r : Fin 8448) (hr : r.val = 256 * (grid0.coords t 1).val + a.val) :
    (out0_8 (iblk m c 0 t) (iblk m c 1 t) (iblk m c 2 t) (iblk m c 3 t) (iblk m c 4 t) (iblk m c 5 t) (iblk m c 6 t) (iblk m c 7 t) : Vec Ideal S1x256x1024 .f32) (ix3 0 a l)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (ix3 (grid0.coords t 0) r l) := by
  have hi : (grid0.coords t 1).val < 33 := (grid0.coords t 1).isLt
  have es : (seg r).val = min (grid0.coords t 1).val 1 := by
    unfold seg
    split_ifs with h
    · show 0 = min (grid0.coords t 1).val 1
      omega
    · show 1 = min (grid0.coords t 1).val 1
      omega
  exact tile a r (fun k => blk0_apply m c t a k r hr) (fun k => blk1_apply m c t a k r hr) (fun k => blk2_apply m c t a k r hr) (fun k => blk3_apply m c t a k r hr)
    (fun n => blk4_apply m c t n (seg r) es) (fun f k => blk5_apply m c t f k) (fun k => blk6_apply m c t k) (fun k => blk7_apply m c t k) l

/-- The output array after the run. -/
theorem array :
    (dats m 0 c).arrAt 8 cfg0.N
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp
  rw [after0_8]
  obtain ⟨-, -, -, -, -, -, -, -, e0, e1, e2⟩ := idx_facts t
  have hi : (grid0.coords t 1).val < 33 := (grid0.coords t 1).isLt
  have y0 : (y (0 : Fin 3)).val < 1 := (y (0 : Fin 3)).isLt
  have y1 : (y (1 : Fin 3)).val < 256 := (y (1 : Fin 3)).isLt
  have y2 : (y (2 : Fin 3)).val < 1024 := (y (2 : Fin 3)).isLt
  have hy : y = (ix3 (0 : Fin 1) (⟨(y (1 : Fin 3)).val, y1⟩ : Fin 256) (⟨(y (2 : Fin 3)).val, y2⟩ : Fin 1024) : S1x256x1024.Idx) := by
    funext x
    refine Fin.ext ?_
    fin_cases x
    · show (y (0 : Fin 3)).val = 0
      omega
    · rfl
    · rfl
  refine (congrArg (out0_8 (iblk m c 0 t) (iblk m c 1 t) (iblk m c 2 t) (iblk m c 3 t) (iblk m c 4 t) (iblk m c 5 t) (iblk m c 6 t) (iblk m c 7 t) : Vec Ideal S1x256x1024 .f32) hy).trans ((block m c t ⟨(y (1 : Fin 3)).val, y1⟩ ⟨(y (2 : Fin 3)).val, y2⟩ ⟨256 * (grid0.coords t 1).val + (y (1 : Fin 3)).val, by omega⟩ rfl).trans ?_)
  refine congrArg _ (funext fun x => Fin.ext ?_)
  fin_cases x
  · show (grid0.coords t 0).val = win0_8.index t (0 : Fin 3) * 1 + 1 * (y (0 : Fin 3)).val
    omega
  · show 256 * (grid0.coords t 1).val + (y (1 : Fin 3)).val = win0_8.index t (1 : Fin 3) * 256 + 1 * (y (1 : Fin 3)).val
    omega
  · show (y (2 : Fin 3)).val = win0_8.index t (2 : Fin 3) * 1024 + 1 * (y (2 : Fin 3)).val
    omega

end Cert.OutIdeal.Work

end
-- ==== Proof.OutRef.lean ====
/- The out-projection reference's array: at every place, the row and its projected mix, normalised. -/
module

public import proofs.«01_k».proof.Proof.OutArray
public import proofs.«01_k».proof.Proof.Gen.OutRefIdeal.Read

@[expose] public section

set_option maxRecDepth 16384

noncomputable section

namespace Cert.OutRefIdeal.Work

open Idealize.ShloMosaic Idealize.ShloMosaic.TcCoe Idealize.ShloMosaic.Tactic Cert.OutRefIdeal.Gen Cert.OutRefIdeal.Read
open Cert.FfnIdeal.Work (seg unit mean)
open Cert.OutIdeal.Work (Mix Z G)

variable (x : Vec Ideal S2x8448x1024 .f32) (p q : Vec Ideal S2x8448x384 .bf16) (o : Vec Ideal S2x8448x256 .bf16) (mu : Vec Ideal S2x2x1x6144 .f32) (w : Vec Ideal S1024x1024 .f32)
  (g s : Vec Ideal S1024 .f32) (b : Fin 2)

/-- A row's gate is its own sequence's. -/
theorem gate_ctx (i : Fin 256) (n : Fin 1024) : val_main_v2 mu (ix3 b i n) = mu (ix4 b 0 0 ⟨2048 + n.val, by omega⟩) := by
  pointwise [val_main_v2, val_main_v1, val_main_v0]
theorem gate_lat (i : Fin 8192) (n : Fin 1024) : val_main_v5 mu (ix3 b i n) = mu (ix4 b 1 0 ⟨2048 + n.val, by omega⟩) := by
  pointwise [val_main_v5, val_main_v4, val_main_v3]
theorem gate (i : Fin 8448) (n : Fin 1024) : val_main_v6 mu (ix3 b i n) = mu (ix4 b (seg i) 0 ⟨2048 + n.val, by omega⟩) := by
  unfold val_main_v6 seg
  split_ifs with h
  · skip
    refine (concatenate_pair_apply_left (s₁ := S2x256x1024) (s₂ := S2x8192x1024) (1 : Fin S2x8448x1024.rank) _ _ _ _ rfl (ix3 b (⟨i.val, by omega⟩ : Fin 256) n) fun a => ?_).trans (gate_ctx mu b _ n)
    match a with
    | ⟨0, _⟩ => rfl
    | ⟨1, _⟩ => rfl
    | ⟨2, _⟩ => rfl
  · skip
    refine (concatenate_pair_apply_right (s₁ := S2x256x1024) (s₂ := S2x8192x1024) (1 : Fin S2x8448x1024.rank) _ _ _ _ rfl rfl (ix3 b (⟨i.val - 256, by omega⟩ : Fin 8192) n) (fun a ha => ?_) ?_).trans (gate_lat mu b _ n)
    · match a with
      | ⟨0, _⟩ => rfl
      | ⟨1, _⟩ => exact absurd rfl ha
      | ⟨2, _⟩ => rfl
    · show i.val - 256 + 256 = i.val
      omega

/-- The mixes side by side. -/
theorem mix_apply (i : Fin 8448) (f : Fin 1024) : val_main_v10 p q o (ix3 b i f) = Mix p q o b i f := by
  unfold val_main_v10 Mix
  split_ifs with h1 h2
  · refine (concatenate_apply_piece (2 : Fin S2x8448x1024.rank) _ _ _ 0 (by simp) S2x8448x384 _ rfl rfl 0 rfl (ix3 b i (⟨f.val, h1⟩ : Fin 384)) (fun a ha => ?_) ?_).trans ?_
    · match a with
      | ⟨0, _⟩ => rfl
      | ⟨1, _⟩ => rfl
      | ⟨2, _⟩ => exact absurd rfl ha
    · show 0 + f.val = f.val
      omega
    · rfl
  · refine (concatenate_apply_piece (2 : Fin S2x8448x1024.rank) _ _ _ 1 (by simp) S2x8448x384 _ rfl rfl 384 rfl (ix3 b i (⟨f.val - 384, by omega⟩ : Fin 384)) (fun a ha => ?_) ?_).trans ?_
    · match a with
      | ⟨0, _⟩ => rfl
      | ⟨1, _⟩ => rfl
      | ⟨2, _⟩ => exact absurd rfl ha
    · show 384 + (f.val - 384) = f.val
      omega
    · rfl
  · refine (concatenate_apply_piece (2 : Fin S2x8448x1024.rank) _ _ _ 2 (by simp) S2x8448x256 _ rfl rfl 768 rfl (ix3 b i (⟨f.val - 768, by omega⟩ : Fin 256)) (fun a ha => ?_) ?_).trans ?_
    · match a with
      | ⟨0, _⟩ => rfl
      | ⟨1, _⟩ => rfl
      | ⟨2, _⟩ => exact absurd rfl ha
    · show 768 + (f.val - 768) = f.val
      omega
    · rfl

theorem sum_apply (i : Fin 8448) (l : Fin 1024) : val_main_v15 x p q o mu w (ix3 b i l) = Z x p q o mu w b i l := by
  unfold Z
  simp only [← mix_apply, ← gate]
  pointwise [val_main_v15, val_main_v14, val_main_v13, val_main_v12, val_main_v11, val_main_cst]

theorem mean_apply (i : Fin 8448) : val_main_v19 x p q o mu w (ix3 b i 0) = mean (Z x p q o mu w b i) := by
  rw [show Z x p q o mu w b i = fun l => val_main_v15 x p q o mu w (ix3 b i l) from funext fun l => (sum_apply x p q o mu w b i l).symm]
  unfold mean
  pointwise [val_main_v19, val_main_v18, val_main_v17, val_main_v16, val_main_cst_0, val_main_cst_1]

theorem variance_apply (i : Fin 8448) : val_main_v30 x p q o mu w (ix3 b i 0)
    = mean (fun k => (Z x p q o mu w b i k - mean (Z x p q o mu w b i)) * (Z x p q o mu w b i k - mean (Z x p q o mu w b i))) + Ideal.ofBits .f32 0x358637BD#32 := by
  rw [← mean_apply]
  simp only [← sum_apply]
  unfold mean
  pointwise [val_main_v30, val_main_v29, val_main_v26, val_main_v25, val_main_v24, val_main_v23, val_main_v22, val_main_v21, val_main_v20, val_main_cst_2, val_main_cst_3, val_main_cst_4]

theorem out_apply (i : Fin 8448) (l : Fin 1024) :
    val_main_v39 x p q o mu w g s (ix3 b i l) = G x p q o mu w g s (ix3 b i l) := by
  show _ = unit (Z x p q o mu w b i) l * g (ix1 l) + s (ix1 l)
  unfold unit
  rw [← variance_apply, ← mean_apply, ← sum_apply]
  pointwise [val_main_v39, val_main_v38, val_main_v37, val_main_v36, val_main_v35, val_main_v34, val_main_v33, val_main_v32, val_main_v31, val_main_v28, val_main_v27]

/-- The reference's array. -/
theorem result : val_main_v39 x p q o mu w g s = G x p q o mu w g s := by
  funext j
  have e : j = ix3 (j 0) (j 1) (j 2) := funext fun a => match a with
    | ⟨0, _⟩ => rfl
    | ⟨1, _⟩ => rfl
    | ⟨2, _⟩ => rfl
  rw [e]
  exact out_apply x p q o mu w g s (j 0) (j 1) (j 2)

end Cert.OutRefIdeal.Work

end
-- ==== Proof.OutClaim.lean ====
/- The out-projection: the kernel's array is the reference's. -/
module

public import proofs.«01_k».proof.Defs
public import proofs.«01_k».proof.Proof.OutRef

@[expose] public section

set_option maxRecDepth 16384

noncomputable section

namespace Cert.Proof

open Idealize.ShloMosaic Idealize.SL.Sem

theorem frame_out_ref : Cert.quiescent_OutRefIdeal (hOutRefIdeal := Cert.OutRefIdeal.Gen.facts) := fun m g _ =>
  (θ_run Cert.OutRefIdeal.defs _ _).mono (fun r h => ⟨fun c => (h c).2, sem_eq_zero_of_no_sems (by decide) r.2⟩)
    (Cert.OutRefIdeal.Value.run (F := Ideal) m g)

theorem algebraic_out : Cert.algebraic_OutIdeal_OutRefIdeal (hOutIdeal := Cert.OutIdeal.Gen.facts) (hOutRefIdeal := Cert.OutRefIdeal.Gen.facts) := by
  intro m g m' g' _ hargs
  refine ⟨fun c => Cert.OutIdeal.Work.G (m ((c.tc : Thread Cert.OutIdeal.nD Cert.OutIdeal.τ).loc Cert.OutIdeal.main_arg0))
      (m ((c.tc : Thread Cert.OutIdeal.nD Cert.OutIdeal.τ).loc Cert.OutIdeal.main_arg1)) (m ((c.tc : Thread Cert.OutIdeal.nD Cert.OutIdeal.τ).loc Cert.OutIdeal.main_arg2))
      (m ((c.tc : Thread Cert.OutIdeal.nD Cert.OutIdeal.τ).loc Cert.OutIdeal.main_arg3)) (m ((c.tc : Thread Cert.OutIdeal.nD Cert.OutIdeal.τ).loc Cert.OutIdeal.main_arg4))
      (m ((c.tc : Thread Cert.OutIdeal.nD Cert.OutIdeal.τ).loc Cert.OutIdeal.main_arg5)) (m ((c.tc : Thread Cert.OutIdeal.nD Cert.OutIdeal.τ).loc Cert.OutIdeal.main_arg6))
      (m ((c.tc : Thread Cert.OutIdeal.nD Cert.OutIdeal.τ).loc Cert.OutIdeal.main_arg7)), ?_, ?_⟩
  · exact (θ_run Cert.OutIdeal.defs _ _).mono (fun r h c => ⟨(h c).1.trans (Cert.OutIdeal.Work.array m c), (h c).2⟩)
      (Cert.OutIdeal.Value.run_blocks m g)
  · refine (θ_run Cert.OutRefIdeal.defs _ _).mono (fun r h c => ⟨(h c).1.trans ?_, (h c).2⟩) (Cert.OutRefIdeal.Value.run (F := Ideal) m' g')
    obtain ⟨e0, e1, e2, e3, e4, e5, e6, e7⟩ := hargs c
    rw [Cert.OutRefIdeal.Read.val_main_v39_eq]
    refine (Cert.OutRefIdeal.Work.result _ _ _ _ _ _ _ _).trans ?_
    show Cert.OutIdeal.Work.G (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1))
        (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3))
        (m' ((c.tc : Thread Cert.OutRefIdeal.nD Cert.OutRefIdeal.τ).loc Cert.OutRefIdeal.main_arg4)) (m' ((c.tc : Thread Cert.OutRefIdeal.nD Cert.OutRefIdeal.τ).loc Cert.OutRefIdeal.main_arg5))
        (m' ((c.tc : Thread Cert.OutRefIdeal.nD Cert.OutRefIdeal.τ).loc Cert.OutRefIdeal.main_arg6)) (m' ((c.tc : Thread Cert.OutRefIdeal.nD Cert.OutRefIdeal.τ).loc Cert.OutRefIdeal.main_arg7)) = _
    rw [e0, e1, e2, e3, e4, e5, e6, e7]

end Cert.Proof

end
-- ==== Proof.InHost.lean ====
/- The in-projection's weights as the region finds them: the plain columns, with the turned ones beside them. -/
module

public import proofs.«01_k».proof.Proof.Gen.InIdeal.Value
public import Idealize.ShloMosaic.Lib.Pipeline.ValueKit.Geometry
public import Idealize.ShloMosaic.Lib.StableHlo.RunRead
public import Idealize.ShloMosaic.Lib.Pointwise

@[expose] public section

set_option maxRecDepth 16384
set_option maxHeartbeats 8000000

noncomputable section

namespace Cert.InIdeal.Work

open Idealize.ShloMosaic Idealize.ShloMosaic.TcCoe Idealize.ShloMosaic.Tactic Cert.InIdeal.Gen
open Idealize.ShloMosaic.Pipeline (Dat Cfg Window)

section
variable (w : FVec Ideal S1024x2720 .f32)

/-- The columns each lane is turned with, and their signs. -/
def from384 : IVec S384x1 32 :=
  broadcastInDim S384x1 ![0] bcast_S384_S384x1_0 (select (constantI S384 1 0#1) (addi (fun i => lit2 (S384.rowMajor i)) (broadcastInDim S384 ![] bcast_S_S384 (constantI S_ 32 384#32))) (fun i => lit2 (S384.rowMajor i)))
def from32 : IVec S32x1 32 :=
  broadcastInDim S32x1 ![0] bcast_S32_S32x1_0 (select (constantI S32 1 0#1) (addi (fun i => lit0 (S32.rowMajor i)) (broadcastInDim S32 ![] bcast_S_S32 (constantI S_ 32 32#32))) (fun i => lit0 (S32.rowMajor i)))

/-- The columns of a group, turned. -/
def turned384 (z : FVec Ideal S1024x384 .f32) : FVec Ideal S1024x384 .f32 :=
  mulf (Host.gather gather_S1024x384_S384x1_S1024x384_0_1_n_n_1_1_10241 z from384)
    (broadcastInDim S1024x384 ![0, 1] bcast_S1x384_S1024x384_0_1 (broadcastInDim S1x384 ![1] bcast_S384_S1x384_1 (fun i => FloatOps.ofBits (F := Ideal) .f32 (lit3 (S384.rowMajor i)))))
def turned32 (z : FVec Ideal S1024x32 .f32) : FVec Ideal S1024x32 .f32 :=
  mulf (Host.gather gather_S1024x32_S32x1_S1024x32_0_1_n_n_1_1_10241 z from32)
    (broadcastInDim S1024x32 ![0, 1] bcast_S1x32_S1024x32_0_1 (broadcastInDim S1x32 ![1] bcast_S32_S1x32_1 (fun i => FloatOps.ofBits (F := Ideal) .f32 (lit1 (S32.rowMajor i)))))
/-- Columns on the third quarter of the lanes, zeros on the others. -/
def padded (z : FVec Ideal S1024x32 .f32) : FVec Ideal S1024x128 .f32 :=
  concatenate S1024x128 1 [⟨S1024x64, broadcastInDim S1024x64 ![] bcast_S_S1024x64 (constant (F := Ideal) S_ .f32 0x00000000#32)⟩, ⟨S1024x32, z⟩,
    ⟨S1024x32, broadcastInDim S1024x32 ![] bcast_S_S1024x32 (constant (F := Ideal) S_ .f32 0x00000000#32)⟩] concatenates_S1024x64_S1024x32_S1024x32_S1024x128_d1

/-- The projection's columns, the turned ones beside the plain. -/
def wide : FVec Ideal S1024x3328 .f32 :=
  concatenate S1024x3328 1
    [⟨S1024x384, extractStridedSlice S1024x384 ![0, 0] w slices_S1024x2720_S1024x384_0_0⟩,
     ⟨S1024x384, turned384 (extractStridedSlice S1024x384 ![0, 0] w slices_S1024x2720_S1024x384_0_0)⟩,
     ⟨S1024x384, extractStridedSlice S1024x384 ![0, 384] w slices_S1024x2720_S1024x384_0_384⟩,
     ⟨S1024x384, turned384 (extractStridedSlice S1024x384 ![0, 384] w slices_S1024x2720_S1024x384_0_384)⟩,
     ⟨S1024x384, extractStridedSlice S1024x384 ![0, 1152] w slices_S1024x2720_S1024x384_0_1152⟩,
     ⟨S1024x384, extractStridedSlice S1024x384 ![0, 1536] w slices_S1024x2720_S1024x384_0_1536⟩,
     ⟨S1024x384, extractStridedSlice S1024x384 ![0, 1920] w slices_S1024x2720_S1024x384_0_1920⟩,
     ⟨S1024x256, extractStridedSlice S1024x256 ![0, 2304] w slices_S1024x2720_S1024x256_0_2304⟩,
     ⟨S1024x128, extractStridedSlice S1024x128 ![0, 2560] w slices_S1024x2720_S1024x128_0_2560⟩,
     ⟨S1024x128, padded (extractStridedSlice S1024x32 ![0, 2688] w slices_S1024x2720_S1024x32_0_2688)⟩,
     ⟨S1024x128, padded (turned32 (extractStridedSlice S1024x32 ![0, 2688] w slices_S1024x2720_S1024x32_0_2688))⟩]
    concatenates_S1024x384_S1024x384_S1024x384_S1024x384_S1024x384_S1024x384_S1024x384_S1024x256_S1024x128_S1024x128_S1024x128_S1024x3328_d1
def wext : FVec Ideal S1024x3328 .bf16 := truncf .bf16 (wide w) bitsLt_bf16_f32

/-- The plain columns that go to the neighbourhood attention. -/
theorem wext_q (l : Fin 1024) (k : Fin 384) : wext w (ix2 l ⟨1536 + k.val, by omega⟩) = w (ix2 l ⟨1152 + k.val, by omega⟩) := by
  show wide w (ix2 l ⟨1536 + k.val, by omega⟩) = _
  unfold wide
  refine (concatenate_apply_piece (1 : Fin S1024x3328.rank) _ _ _ 4 (by simp) S1024x384 _ rfl rfl 1536 rfl (ix2 l k) (fun b hb => ?_) ?_).trans ?_
  · match b with
    | ⟨0, _⟩ => rfl
    | ⟨1, _⟩ => exact absurd rfl hb
  · rfl
  · pointwise
theorem wext_k (l : Fin 1024) (k : Fin 384) : wext w (ix2 l ⟨1920 + k.val, by omega⟩) = w (ix2 l ⟨1536 + k.val, by omega⟩) := by
  show wide w (ix2 l ⟨1920 + k.val, by omega⟩) = _
  unfold wide
  refine (concatenate_apply_piece (1 : Fin S1024x3328.rank) _ _ _ 5 (by simp) S1024x384 _ rfl rfl 1920 rfl (ix2 l k) (fun b hb => ?_) ?_).trans ?_
  · match b with
    | ⟨0, _⟩ => rfl
    | ⟨1, _⟩ => exact absurd rfl hb
  · rfl
  · pointwise
theorem wext_v (l : Fin 1024) (k : Fin 384) : wext w (ix2 l ⟨2304 + k.val, by omega⟩) = w (ix2 l ⟨1920 + k.val, by omega⟩) := by
  show wide w (ix2 l ⟨2304 + k.val, by omega⟩) = _
  unfold wide
  refine (concatenate_apply_piece (1 : Fin S1024x3328.rank) _ _ _ 6 (by simp) S1024x384 _ rfl rfl 2304 rfl (ix2 l k) (fun b hb => ?_) ?_).trans ?_
  · match b with
    | ⟨0, _⟩ => rfl
    | ⟨1, _⟩ => exact absurd rfl hb
  · rfl
  · pointwise
theorem wext_c (l : Fin 1024) (k : Fin 128) : wext w (ix2 l ⟨2944 + k.val, by omega⟩) = w (ix2 l ⟨2560 + k.val, by omega⟩) := by
  show wide w (ix2 l ⟨2944 + k.val, by omega⟩) = _
  unfold wide
  refine (concatenate_apply_piece (1 : Fin S1024x3328.rank) _ _ _ 8 (by simp) S1024x128 _ rfl rfl 2944 rfl (ix2 l k) (fun b hb => ?_) ?_).trans ?_
  · match b with
    | ⟨0, _⟩ => rfl
    | ⟨1, _⟩ => exact absurd rfl hb
  · rfl
  · pointwise

/-- The value columns, transposed. -/
def wval : FVec Ideal S384x1024 .bf16 :=
  truncf .bf16 (transpose S384x1024 [1, 0] (extractStridedSlice S1024x384 ![0, 768] w slices_S1024x2720_S1024x384_0_768) transposes_S1024x384_S384x1024_1_0) bitsLt_bf16_f32
theorem wval_apply (d : Fin 384) (l : Fin 1024) : wval w (ix2 d l) = w (ix2 l ⟨768 + d.val, by omega⟩) := by
  pointwise [wval]
end

section
variable (wk : FVec Ideal S128x512 .f32)

/-- The latent values' columns, transposed. -/
def wukvv : FVec Ideal S256x128 .bf16 :=
  truncf .bf16 (transpose S256x128 [1, 0] (shapeCast S128x256 (extractStridedSlice S128x4x64 ![0, 0, 64] (shapeCast S128x4x128 wk shapeCasts_S128x512_S128x4x128) slices_S128x4x128_S128x4x64_0_0_64)
    shapeCasts_S128x4x64_S128x256) transposes_S128x256_S256x128_1_0) bitsLt_bf16_f32
theorem wukvv_apply (n : Fin 4) (e : Fin 64) (k : Fin 128) : wukvv wk (ix2 ⟨64 * n.val + e.val, by omega⟩ k) = wk (ix2 k ⟨128 * n.val + 64 + e.val, by omega⟩) := by
  pointwise [wukvv]
  exact congrArg (fun q => wk (ix2 k q)) (Fin.ext (show n.val * 128 + (64 + e.val) = 128 * n.val + 64 + e.val by omega))
end

variable (m : (ℓ : Loc nD τ sig) → Buf (Elt Ideal) ℓ) (c : Dev nD)

theorem V_wext : V m c main_v89 = wext (m ((c.tc : Thread nD τ).loc main_arg2)) := by
  after_reads_simp
  rfl
theorem V_wval : V m c main_v91 = wval (m ((c.tc : Thread nD τ).loc main_arg2)) := by
  after_reads_simp
  rfl
theorem V_wukvv : V m c main_v120 = wukvv (m ((c.tc : Thread nD τ).loc main_arg6)) := by
  after_reads_simp
  rfl
theorem V_gkv : V m c main_v122 = shapeCast S1x128 (m ((c.tc : Thread nD τ).loc main_arg4)) shapeCasts_S128_S1x128 := by
  after_reads_simp
  rfl

end Cert.InIdeal.Work

end
-- ==== Proof.InTile.lean ====
/- The in-projection kernel's block operations at an index: the rows, modulated, and the columns that go to the neighbourhood attention. -/
module

public import proofs.«01_k».proof.Proof.Gen.InIdeal.Value
public import proofs.«01_k».proof.Proof.FfnTile
public import Idealize.ShloMosaic.Lib.Pipeline.ValueKit.Geometry
public import Idealize.ShloMosaic.Lib.Pointwise

@[expose] public section

set_option maxRecDepth 16384

noncomputable section

namespace Cert.InIdeal.Work

open Idealize.ShloMosaic Idealize.ShloMosaic.TcCoe Idealize.ShloMosaic.Tactic Cert.InIdeal.Gen
open Cert.FfnIdeal.Work (mean unit modul)

section
variable (x : Vec Ideal S1x256x1024 .f32) (mu : Vec Ideal S1x1x1x6144 .f32) (w : Vec Ideal S1024x3328 .bf16) (P : FVec Ideal S256x3328 .f32) (a : Fin 256)

/-- The block's rows, modulated. -/
theorem pay2_apply (l : Fin 1024) : k0_pay2 x mu (ix2 a l)
    = modul (fun k => x (ix3 0 a k)) (fun k => mu (ix4 0 0 0 ⟨1024 + k.val, by omega⟩)) (fun k => mu (ix4 0 0 0 ⟨k.val, by omega⟩)) l := by
  unfold modul unit mean
  pointwise [k0_pay2]

theorem pay3_apply (n : Fin 3328) : k0_pay3 x mu w (ix2 a n) = ∑ l : Fin 1024, k0_pay2 x mu (ix2 a l) * w (ix2 l n) := by
  unfold k0_pay3
  generalize k0_pay2 x mu = h
  pointwise

/-- The queries, the keys and the values. -/
theorem pay8_apply (l : Fin 384) : k0_pay8 P (ix3 0 a l) = P (ix2 a ⟨1536 + l.val, by omega⟩) * Ideal.ofBits .f32 0x3E000000#32 := by
  pointwise [k0_pay8]
theorem pay9_apply (l : Fin 384) : k0_pay9 P (ix3 0 a l) = P (ix2 a ⟨1920 + l.val, by omega⟩) := by
  pointwise [k0_pay9]
theorem pay10_apply (l : Fin 384) : k0_pay10 P (ix3 0 a l) = P (ix2 a ⟨2304 + l.val, by omega⟩) := by
  pointwise [k0_pay10]
end

section
variable (c : Dev nD) (i : grid0.Coords)
  (arg2 : Memref sig .tc .vmem S1x256x1024 .f32) (harg2 : arg2.IsWhole) (arg3 : Memref sig .tc .vmem S1x1x1x6144 .f32) (harg3 : arg3.IsWhole) (arg4 : Memref sig .tc .vmem S256x128 .f32) (harg4 : arg4.IsWhole)
  (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole)
  (arg8 : Memref sig .tc .vmem S1024x3328 .bf16) (harg8 : arg8.IsWhole) (arg9 : Memref sig .tc .vmem S384x1024 .bf16) (harg9 : arg9.IsWhole) (arg10 : Memref sig .tc .vmem S1x256 .f32) (harg10 : arg10.IsWhole)
  (arg11 : Memref sig .tc .vmem S1x128 .f32) (harg11 : arg11.IsWhole) (arg12 : Memref sig .tc .vmem S256x1024 .bf16) (harg12 : arg12.IsWhole) (arg13 : Memref sig .tc .vmem S128x512 .bf16) (harg13 : arg13.IsWhole)
  (arg14 : Memref sig .tc .vmem S256x128 .bf16) (harg14 : arg14.IsWhole) (arg15 : Memref sig .tc .vmem S1x256x384 .bf16) (harg15 : arg15.IsWhole) (arg16 : Memref sig .tc .vmem S1x256x384 .bf16) (harg16 : arg16.IsWhole)
  (arg17 : Memref sig .tc .vmem S1x256x384 .bf16) (harg17 : arg17.IsWhole) (arg18 : Memref sig .tc .vmem S1x256x384 .bf16) (harg18 : arg18.IsWhole) (arg19 : Memref sig .tc .vmem S1x256x384 .bf16) (harg19 : arg19.IsWhole)
  (arg20 : Memref sig .tc .vmem S1x256x512 .bf16) (harg20 : arg20.IsWhole) (arg21 : Memref sig .tc .vmem S1x256x512 .bf16) (harg21 : arg21.IsWhole) (arg22 : Memref sig .tc .vmem S1x10x1x80x256 .bf16) (harg22 : arg22.IsWhole)
  (x0 : Vec Ideal S1x256x1024 .f32) (x1 : Vec Ideal S1x1x1x6144 .f32) (x2 : Vec Ideal S256x128 .f32) (x3 : Vec Ideal S256x128 .f32) (x4 : Vec Ideal S256x128 .f32) (x5 : Vec Ideal S256x128 .f32) (x6 : Vec Ideal S1024x3328 .bf16) (x7 : Vec Ideal S384x1024 .bf16) (x8 : Vec Ideal S1x256 .f32) (x9 : Vec Ideal S1x128 .f32) (x10 : Vec Ideal S256x1024 .bf16) (x11 : Vec Ideal S128x512 .bf16) (x12 : Vec Ideal S256x128 .bf16)

/-- What the run leaves in the three blocks. -/
theorem out15_eq : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 = k0_pay8 (k0_pay3 x0 x1 x6) := by
  unfold out0_A_15
  rw [View.read_writes_eq_canon _ _ _ (cover0_A_15 _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  have r2 : View.readAt (Elt Ideal) arg2.view (Rect.unit (s := S1x256x1024) ![0, 0, 0] S1x256x1024.size inb_S1x256x1024_S1x256x1024_0_0_0).toLoadRect (harg2.unread x0) = x0 := by
    rw [View.readAt_eq_ld, harg2.read_unread]
    exact View.ld_unit_lit _ _ (by decide)
  have r3 : View.readAt (Elt Ideal) arg3.view (Rect.unit (s := S1x1x1x6144) ![0, 0, 0, 0] S1x1x1x6144.size inb_S1x1x1x6144_S1x1x1x6144_0_0_0_0).toLoadRect (harg3.unread x1) = x1 := by
    rw [View.readAt_eq_ld, harg3.read_unread]
    exact View.ld_unit_lit _ _ (by decide)
  have r8 : View.readAt (Elt Ideal) arg8.view (Rect.unit (s := S1024x3328) ![0, 0] S1024x3328.size inb_S1024x3328_S1024x3328_0_0).toLoadRect (harg8.unread x6) = x6 := by
    rw [View.readAt_eq_ld, harg8.read_unread]
    exact View.ld_unit_lit _ _ (by decide)
  refine (View.canon_cons_unit_lit _ _ _ (by decide)).trans ?_
  rw [r2, r3, r8]
theorem out16_eq : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 = k0_pay9 (k0_pay3 x0 x1 x6) := by
  unfold out0_A_16
  rw [View.read_writes_eq_canon _ _ _ (cover0_A_16 _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  have r2 : View.readAt (Elt Ideal) arg2.view (Rect.unit (s := S1x256x1024) ![0, 0, 0] S1x256x1024.size inb_S1x256x1024_S1x256x1024_0_0_0).toLoadRect (harg2.unread x0) = x0 := by
    rw [View.readAt_eq_ld, harg2.read_unread]
    exact View.ld_unit_lit _ _ (by decide)
  have r3 : View.readAt (Elt Ideal) arg3.view (Rect.unit (s := S1x1x1x6144) ![0, 0, 0, 0] S1x1x1x6144.size inb_S1x1x1x6144_S1x1x1x6144_0_0_0_0).toLoadRect (harg3.unread x1) = x1 := by
    rw [View.readAt_eq_ld, harg3.read_unread]
    exact View.ld_unit_lit _ _ (by decide)
  have r8 : View.readAt (Elt Ideal) arg8.view (Rect.unit (s := S1024x3328) ![0, 0] S1024x3328.size inb_S1024x3328_S1024x3328_0_0).toLoadRect (harg8.unread x6) = x6 := by
    rw [View.readAt_eq_ld, harg8.read_unread]
    exact View.ld_unit_lit _ _ (by decide)
  refine (View.canon_cons_unit_lit _ _ _ (by decide)).trans ?_
  rw [r2, r3, r8]
theorem out17_eq : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 = k0_pay10 (k0_pay3 x0 x1 x6) := by
  unfold out0_A_17
  rw [View.read_writes_eq_canon _ _ _ (cover0_A_17 _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  have r2 : View.readAt (Elt Ideal) arg2.view (Rect.unit (s := S1x256x1024) ![0, 0, 0] S1x256x1024.size inb_S1x256x1024_S1x256x1024_0_0_0).toLoadRect (harg2.unread x0) = x0 := by
    rw [View.readAt_eq_ld, harg2.read_unread]
    exact View.ld_unit_lit _ _ (by decide)
  have r3 : View.readAt (Elt Ideal) arg3.view (Rect.unit (s := S1x1x1x6144) ![0, 0, 0, 0] S1x1x1x6144.size inb_S1x1x1x6144_S1x1x1x6144_0_0_0_0).toLoadRect (harg3.unread x1) = x1 := by
    rw [View.readAt_eq_ld, harg3.read_unread]
    exact View.ld_unit_lit _ _ (by decide)
  have r8 : View.readAt (Elt Ideal) arg8.view (Rect.unit (s := S1024x3328) ![0, 0] S1024x3328.size inb_S1024x3328_S1024x3328_0_0).toLoadRect (harg8.unread x6) = x6 := by
    rw [View.readAt_eq_ld, harg8.read_unread]
    exact View.ld_unit_lit _ _ (by decide)
  refine (View.canon_cons_unit_lit _ _ _ (by decide)).trans ?_
  rw [r2, r3, r8]
end

end Cert.InIdeal.Work

end
-- ==== Proof.InVals.lean ====
/- The in-projection kernel's values: the heads' rows over the tokens, with the ones under them. -/
module

public import proofs.«01_k».proof.Proof.InTile
public import Idealize.ShloMosaic.Lib.IdealHost

@[expose] public section

set_option maxRecDepth 16384

noncomputable section

namespace Cert.InIdeal.Work

open Idealize.ShloMosaic Idealize.ShloMosaic.TcCoe Idealize.ShloMosaic.Tactic Cert.InIdeal.Gen
open Cert.FfnIdeal.Work (mean unit modul)

/-- A row over the root of its mean square, weighted. -/
def rms {n : ℕ} (d : BitVec 32) (f g : Fin n → EReal) (k : Fin n) : EReal :=
  f k * Ideal.rsqrt (Ideal.div (∑ j, f j * f j) (Ideal.ofBits .f32 d) + Ideal.ofBits .f32 0x358637BD#32) * g k

section
variable (P : FVec Ideal S256x3328 .f32) (a : Fin 256)

/-- The latent values' row, normalised. -/
def kvn (g : Vec Ideal S1x128 .f32) (k : Fin 128) : EReal :=
  rms 0x43000000#32 (fun j : Fin 128 => P (ix2 a ⟨2944 + j.val, by omega⟩)) (fun j => g (ix2 0 j)) k

theorem pay17_apply (g : Vec Ideal S1x128 .f32) (k : Fin 128) : k0_pay17 (k0_pay14 P) (k0_pay15 g) (k0_pay16 P) (ix2 a k) = kvn P a g k := by
  unfold kvn rms
  pointwise [k0_pay17, k0_pay14, k0_pay15, k0_pay16]
theorem pay19_apply (h : FVec Ideal S256x1024 .bf16) (z : Vec Ideal S384x1024 .bf16) (d : Fin 384) : k0_pay19 h z (ix2 d a) = ∑ l : Fin 1024, z (ix2 d l) * h (ix2 a l) := by
  pointwise [k0_pay19]
theorem pay20_apply (g : Vec Ideal S1x128 .f32) (z : Vec Ideal S256x128 .bf16) (d : Fin 256) :
    k0_pay20 (k0_pay14 P) (k0_pay15 g) (k0_pay16 P) z (ix2 d a) = ∑ k : Fin 128, z (ix2 d k) * kvn P a g k := by
  simp only [← pay17_apply]
  unfold k0_pay20
  generalize k0_pay17 (k0_pay14 P) (k0_pay15 g) (k0_pay16 P) = h
  pointwise
end

/-- The block: ten heads, each sixty-four rows of values and sixteen of ones. -/
def Rows (A : S384x256.Idx → EReal) (B : S256x256.Idx → EReal) : S1x10x1x80x256.Idx → EReal := fun y =>
  if h : (y 3).val < 64 then
    if h' : (y 1).val < 6 then A (ix2 ⟨64 * (y 1).val + (y 3).val, by omega⟩ (y 4))
    else B (ix2 ⟨64 * ((y 1).val - 6) + (y 3).val, by have e : (y 1).val < 10 := (y 1).isLt; omega⟩ (y 4))
  else 1

section
variable (A : FVec Ideal S384x256 .f32) (B : FVec Ideal S256x256 .f32)

theorem eta64 (x : S1x1x1x64x256.Idx) : x = ix5 0 0 0 (x 3) (x 4) := by
  funext k
  match k with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl
theorem eta16 (x : S1x1x1x16x256.Idx) : x = ix5 0 0 0 (x 3) (x 4) := by
  funext k
  match k with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

/-- A store of a differential head's rows, of a latent head's, and of ones. -/
theorem put_diff (n : ℕ) (hn : n < 6) (inb) (f : S1x1x1x64x256.Idx → EReal)
    (hf : ∀ (d : Fin 64) (a : Fin 256), f (ix5 0 0 0 d a) = A (ix2 ⟨64 * n + d.val, by omega⟩ a)) (x : S1x1x1x64x256.Idx) :
    f x = Rows A B ((Rect.unit (s := S1x10x1x80x256) ![0, n, 0, 0, 0] S1x1x1x64x256.size inb).emb x) := by
  have h3 : (x 3).val < 64 := (x 3).isLt
  have h1 : (x 1).val < 1 := (x 1).isLt
  have e1 : (((Rect.unit (s := S1x10x1x80x256) ![0, n, 0, 0, 0] S1x1x1x64x256.size inb).emb x) 1).val = n + 1 * (x 1).val := rfl
  have e3 : (((Rect.unit (s := S1x10x1x80x256) ![0, n, 0, 0, 0] S1x1x1x64x256.size inb).emb x) 3).val = 0 + 1 * (x 3).val := rfl
  have e4 : (((Rect.unit (s := S1x10x1x80x256) ![0, n, 0, 0, 0] S1x1x1x64x256.size inb).emb x) 4).val = 0 + 1 * (x 4).val := rfl
  unfold Rows
  rw [dif_pos (by omega), dif_pos (by omega)]
  refine (congrArg f (eta64 x)).trans ((hf (x 3) (x 4)).trans (congrArg A (funext fun k => Fin.ext ?_)))
  match k with
  | ⟨0, _⟩ => exact (show 64 * n + (x 3).val = 64 * (((Rect.unit (s := S1x10x1x80x256) ![0, n, 0, 0, 0] S1x1x1x64x256.size inb).emb x) 1).val + (((Rect.unit (s := S1x10x1x80x256) ![0, n, 0, 0, 0] S1x1x1x64x256.size inb).emb x) 3).val by omega)
  | ⟨1, _⟩ => exact (show (x 4).val = (((Rect.unit (s := S1x10x1x80x256) ![0, n, 0, 0, 0] S1x1x1x64x256.size inb).emb x) 4).val by omega)
theorem put_latent (n : ℕ) (hn : n < 4) (inb) (f : S1x1x1x64x256.Idx → EReal)
    (hf : ∀ (d : Fin 64) (a : Fin 256), f (ix5 0 0 0 d a) = B (ix2 ⟨64 * n + d.val, by omega⟩ a)) (x : S1x1x1x64x256.Idx) :
    f x = Rows A B ((Rect.unit (s := S1x10x1x80x256) ![0, 6 + n, 0, 0, 0] S1x1x1x64x256.size inb).emb x) := by
  have h3 : (x 3).val < 64 := (x 3).isLt
  have h1 : (x 1).val < 1 := (x 1).isLt
  have e1 : (((Rect.unit (s := S1x10x1x80x256) ![0, 6 + n, 0, 0, 0] S1x1x1x64x256.size inb).emb x) 1).val = 6 + n + 1 * (x 1).val := rfl
  have e3 : (((Rect.unit (s := S1x10x1x80x256) ![0, 6 + n, 0, 0, 0] S1x1x1x64x256.size inb).emb x) 3).val = 0 + 1 * (x 3).val := rfl
  have e4 : (((Rect.unit (s := S1x10x1x80x256) ![0, 6 + n, 0, 0, 0] S1x1x1x64x256.size inb).emb x) 4).val = 0 + 1 * (x 4).val := rfl
  unfold Rows
  rw [dif_pos (by omega), dif_neg (by omega)]
  refine (congrArg f (eta64 x)).trans ((hf (x 3) (x 4)).trans (congrArg B (funext fun k => Fin.ext ?_)))
  match k with
  | ⟨0, _⟩ => exact (show 64 * n + (x 3).val = 64 * ((((Rect.unit (s := S1x10x1x80x256) ![0, 6 + n, 0, 0, 0] S1x1x1x64x256.size inb).emb x) 1).val - 6) + (((Rect.unit (s := S1x10x1x80x256) ![0, 6 + n, 0, 0, 0] S1x1x1x64x256.size inb).emb x) 3).val by omega)
  | ⟨1, _⟩ => exact (show (x 4).val = (((Rect.unit (s := S1x10x1x80x256) ![0, 6 + n, 0, 0, 0] S1x1x1x64x256.size inb).emb x) 4).val by omega)
theorem put_ones (n : ℕ) (inb) (f : S1x1x1x16x256.Idx → EReal)
    (hf : ∀ (d : Fin 16) (a : Fin 256), f (ix5 0 0 0 d a) = 1) (x : S1x1x1x16x256.Idx) :
    f x = Rows A B ((Rect.unit (s := S1x10x1x80x256) ![0, n, 0, 64, 0] S1x1x1x16x256.size inb).emb x) := by
  have e3 : (((Rect.unit (s := S1x10x1x80x256) ![0, n, 0, 64, 0] S1x1x1x16x256.size inb).emb x) 3).val = 64 + 1 * (x 3).val := rfl
  unfold Rows
  rw [dif_neg (by omega)]
  exact (congrArg f (eta16 x)).trans (hf (x 3) (x 4))
end

section
variable (A : FVec Ideal S384x256 .f32) (B : FVec Ideal S256x256 .f32) (a : Fin 256)

theorem ones_apply (d : Fin 16) : k0_pay21 (F := Ideal) (ix2 d a) = 1 := Ideal.ofBits_one_bf16
theorem pay22_apply (h : FVec Ideal S256x1024 .bf16) (z : Vec Ideal S384x1024 .bf16) (d : Fin 64) : k0_pay22 h z (ix5 0 0 0 d a) = k0_pay19 h z (ix2 ⟨64 * 0 + d.val, by omega⟩ a) := by
  unfold k0_pay22
  generalize k0_pay19 h z = A
  pointwise
theorem pay24_apply (d : Fin 64) : k0_pay24 A (ix5 0 0 0 d a) = A (ix2 ⟨64 * 1 + d.val, by omega⟩ a) := by
  pointwise [k0_pay24]
theorem pay26_apply (d : Fin 64) : k0_pay26 A (ix5 0 0 0 d a) = A (ix2 ⟨64 * 2 + d.val, by omega⟩ a) := by
  pointwise [k0_pay26]
theorem pay28_apply (d : Fin 64) : k0_pay28 A (ix5 0 0 0 d a) = A (ix2 ⟨64 * 3 + d.val, by omega⟩ a) := by
  pointwise [k0_pay28]
theorem pay30_apply (d : Fin 64) : k0_pay30 A (ix5 0 0 0 d a) = A (ix2 ⟨64 * 4 + d.val, by omega⟩ a) := by
  pointwise [k0_pay30]
theorem pay32_apply (d : Fin 64) : k0_pay32 A (ix5 0 0 0 d a) = A (ix2 ⟨64 * 5 + d.val, by omega⟩ a) := by
  pointwise [k0_pay32]
theorem pay34_apply (d : Fin 64) : k0_pay34 B (ix5 0 0 0 d a) = B (ix2 ⟨64 * 0 + d.val, by omega⟩ a) := by
  pointwise [k0_pay34]
theorem pay36_apply (d : Fin 64) : k0_pay36 B (ix5 0 0 0 d a) = B (ix2 ⟨64 * 1 + d.val, by omega⟩ a) := by
  pointwise [k0_pay36]
theorem pay38_apply (d : Fin 64) : k0_pay38 B (ix5 0 0 0 d a) = B (ix2 ⟨64 * 2 + d.val, by omega⟩ a) := by
  pointwise [k0_pay38]
theorem pay40_apply (d : Fin 64) : k0_pay40 B (ix5 0 0 0 d a) = B (ix2 ⟨64 * 3 + d.val, by omega⟩ a) := by
  pointwise [k0_pay40]
theorem pay23_apply (d : Fin 16) : k0_pay23 (k0_pay21 (F := Ideal)) (ix5 0 0 0 d a) = 1 := by
  refine (show k0_pay23 (k0_pay21 (F := Ideal)) (ix5 0 0 0 d a) = k0_pay21 (F := Ideal) (ix2 d a) from ?_).trans (ones_apply a d)
  generalize k0_pay21 (F := Ideal) = z
  pointwise [k0_pay23]
end

section
variable (c : Dev nD) (i : grid0.Coords)
  (arg2 : Memref sig .tc .vmem S1x256x1024 .f32) (harg2 : arg2.IsWhole) (arg3 : Memref sig .tc .vmem S1x1x1x6144 .f32) (harg3 : arg3.IsWhole) (arg4 : Memref sig .tc .vmem S256x128 .f32) (harg4 : arg4.IsWhole)
  (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole)
  (arg8 : Memref sig .tc .vmem S1024x3328 .bf16) (harg8 : arg8.IsWhole) (arg9 : Memref sig .tc .vmem S384x1024 .bf16) (harg9 : arg9.IsWhole) (arg10 : Memref sig .tc .vmem S1x256 .f32) (harg10 : arg10.IsWhole)
  (arg11 : Memref sig .tc .vmem S1x128 .f32) (harg11 : arg11.IsWhole) (arg12 : Memref sig .tc .vmem S256x1024 .bf16) (harg12 : arg12.IsWhole) (arg13 : Memref sig .tc .vmem S128x512 .bf16) (harg13 : arg13.IsWhole)
  (arg14 : Memref sig .tc .vmem S256x128 .bf16) (harg14 : arg14.IsWhole) (arg15 : Memref sig .tc .vmem S1x256x384 .bf16) (harg15 : arg15.IsWhole) (arg16 : Memref sig .tc .vmem S1x256x384 .bf16) (harg16 : arg16.IsWhole)
  (arg17 : Memref sig .tc .vmem S1x256x384 .bf16) (harg17 : arg17.IsWhole) (arg18 : Memref sig .tc .vmem S1x256x384 .bf16) (harg18 : arg18.IsWhole) (arg19 : Memref sig .tc .vmem S1x256x384 .bf16) (harg19 : arg19.IsWhole)
  (arg20 : Memref sig .tc .vmem S1x256x512 .bf16) (harg20 : arg20.IsWhole) (arg21 : Memref sig .tc .vmem S1x256x512 .bf16) (harg21 : arg21.IsWhole) (arg22 : Memref sig .tc .vmem S1x10x1x80x256 .bf16) (harg22 : arg22.IsWhole)
  (x0 : Vec Ideal S1x256x1024 .f32) (x1 : Vec Ideal S1x1x1x6144 .f32) (x2 : Vec Ideal S256x128 .f32) (x3 : Vec Ideal S256x128 .f32) (x4 : Vec Ideal S256x128 .f32) (x5 : Vec Ideal S256x128 .f32) (x6 : Vec Ideal S1024x3328 .bf16) (x7 : Vec Ideal S384x1024 .bf16) (x8 : Vec Ideal S1x256 .f32) (x9 : Vec Ideal S1x128 .f32) (x10 : Vec Ideal S256x1024 .bf16) (x11 : Vec Ideal S128x512 .bf16) (x12 : Vec Ideal S256x128 .bf16)

/-- What the run leaves in the values' block. -/
theorem out20_eq (y : S1x10x1x80x256.Idx) : (out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 : Vec Ideal S1x10x1x80x256 .bf16) y
    = Rows (k0_pay19 (k0_pay2 x0 x1) x7) (k0_pay20 (k0_pay14 (k0_pay3 x0 x1 x6)) (k0_pay15 x9) (k0_pay16 (k0_pay3 x0 x1 x6)) x12) y := by
  unfold out0_A_20
  rw [View.read_writes_eq_canon _ _ _ (cover0_A_20 _ _ _ _ _ _ _ _ _ _ _ _ _ _ _ _ _ _ _ _ _ _ _ _ _ _ _ _ _ _ _ _ _ _ _ _ _ _ _ _ _ _ _ _ _ _ _ _ _ _ _ _ _ _ _ _ _ )]
  refine View.canon_apply_of_pieces (Val := Elt Ideal) (e := .bf16) (Rows (k0_pay19 (k0_pay2 x0 x1) x7) (k0_pay20 (k0_pay14 (k0_pay3 x0 x1 x6)) (k0_pay15 x9) (k0_pay16 (k0_pay3 x0 x1 x6)) x12)) _ ?_ y (cover0_A_20 _ _ _ _ _ _ _ _ _ _ _ _ _ _ _ _ _ _ _ _ _ _ _ _ _ _ _ _ _ _ _ _ _ _ _ _ _ _ _ _ _ _ _ _ _ _ _ _ _ _ _ _ _ _ _ _ _  y)
  unfold kernelRun0_A
  dsimp only
  sl_unfold_words
  have r2 : View.readAt (Elt Ideal) arg2.view (Rect.unit (s := S1x256x1024) ![0, 0, 0] S1x256x1024.size inb_S1x256x1024_S1x256x1024_0_0_0).toLoadRect (harg2.unread x0) = x0 := by
    rw [View.readAt_eq_ld, harg2.read_unread]
    exact View.ld_unit_lit _ _ (by decide)
  have r3 : View.readAt (Elt Ideal) arg3.view (Rect.unit (s := S1x1x1x6144) ![0, 0, 0, 0] S1x1x1x6144.size inb_S1x1x1x6144_S1x1x1x6144_0_0_0_0).toLoadRect (harg3.unread x1) = x1 := by
    rw [View.readAt_eq_ld, harg3.read_unread]
    exact View.ld_unit_lit _ _ (by decide)
  have r8 : View.readAt (Elt Ideal) arg8.view (Rect.unit (s := S1024x3328) ![0, 0] S1024x3328.size inb_S1024x3328_S1024x3328_0_0).toLoadRect (harg8.unread x6) = x6 := by
    rw [View.readAt_eq_ld, harg8.read_unread]
    exact View.ld_unit_lit _ _ (by decide)
  have r9 : View.readAt (Elt Ideal) arg9.view (Rect.unit (s := S384x1024) ![0, 0] S384x1024.size inb_S384x1024_S384x1024_0_0).toLoadRect (harg9.unread x7) = x7 := by
    rw [View.readAt_eq_ld, harg9.read_unread]
    exact View.ld_unit_lit _ _ (by decide)
  have r11 : View.readAt (Elt Ideal) arg11.view (Rect.unit (s := S1x128) ![0, 0] S1x128.size inb_S1x128_S1x128_0_0).toLoadRect (harg11.unread x9) = x9 := by
    rw [View.readAt_eq_ld, harg11.read_unread]
    exact View.ld_unit_lit _ _ (by decide)
  have r14 : View.readAt (Elt Ideal) arg14.view (Rect.unit (s := S256x128) ![0, 0] S256x128.size inb_S256x128_S256x128_0_0).toLoadRect (harg14.unread x12) = x12 := by
    rw [View.readAt_eq_ld, harg14.read_unread]
    exact View.ld_unit_lit _ _ (by decide)
  rw [r2, r3, r8, r9, r11, r14]
  refine List.forall_mem_cons.2 ⟨?_, ?_⟩
  · intro x
    exact put_ones _ _ 9 inb_S1x10x1x80x256_S1x1x1x16x256_0_9_0_64_0 _ (fun d a => pay23_apply a d) x
  refine List.forall_mem_cons.2 ⟨?_, ?_⟩
  · intro x
    exact put_latent _ _ 3 (by decide) inb_S1x10x1x80x256_S1x1x1x64x256_0_9_0_0_0 _ (fun d a => pay40_apply _ a d) x
  refine List.forall_mem_cons.2 ⟨?_, ?_⟩
  · intro x
    exact put_ones _ _ 8 inb_S1x10x1x80x256_S1x1x1x16x256_0_8_0_64_0 _ (fun d a => pay23_apply a d) x
  refine List.forall_mem_cons.2 ⟨?_, ?_⟩
  · intro x
    exact put_latent _ _ 2 (by decide) inb_S1x10x1x80x256_S1x1x1x64x256_0_8_0_0_0 _ (fun d a => pay38_apply _ a d) x
  refine List.forall_mem_cons.2 ⟨?_, ?_⟩
  · intro x
    exact put_ones _ _ 7 inb_S1x10x1x80x256_S1x1x1x16x256_0_7_0_64_0 _ (fun d a => pay23_apply a d) x
  refine List.forall_mem_cons.2 ⟨?_, ?_⟩
  · intro x
    exact put_latent _ _ 1 (by decide) inb_S1x10x1x80x256_S1x1x1x64x256_0_7_0_0_0 _ (fun d a => pay36_apply _ a d) x
  refine List.forall_mem_cons.2 ⟨?_, ?_⟩
  · intro x
    exact put_ones _ _ 6 inb_S1x10x1x80x256_S1x1x1x16x256_0_6_0_64_0 _ (fun d a => pay23_apply a d) x
  refine List.forall_mem_cons.2 ⟨?_, ?_⟩
  · intro x
    exact put_latent _ _ 0 (by decide) inb_S1x10x1x80x256_S1x1x1x64x256_0_6_0_0_0 _ (fun d a => pay34_apply _ a d) x
  refine List.forall_mem_cons.2 ⟨?_, ?_⟩
  · intro x
    exact put_ones _ _ 5 inb_S1x10x1x80x256_S1x1x1x16x256_0_5_0_64_0 _ (fun d a => pay23_apply a d) x
  refine List.forall_mem_cons.2 ⟨?_, ?_⟩
  · intro x
    exact put_diff _ _ 5 (by decide) inb_S1x10x1x80x256_S1x1x1x64x256_0_5_0_0_0 _ (fun d a => pay32_apply _ a d) x
  refine List.forall_mem_cons.2 ⟨?_, ?_⟩
  · intro x
    exact put_ones _ _ 4 inb_S1x10x1x80x256_S1x1x1x16x256_0_4_0_64_0 _ (fun d a => pay23_apply a d) x
  refine List.forall_mem_cons.2 ⟨?_, ?_⟩
  · intro x
    exact put_diff _ _ 4 (by decide) inb_S1x10x1x80x256_S1x1x1x64x256_0_4_0_0_0 _ (fun d a => pay30_apply _ a d) x
  refine List.forall_mem_cons.2 ⟨?_, ?_⟩
  · intro x
    exact put_ones _ _ 3 inb_S1x10x1x80x256_S1x1x1x16x256_0_3_0_64_0 _ (fun d a => pay23_apply a d) x
  refine List.forall_mem_cons.2 ⟨?_, ?_⟩
  · intro x
    exact put_diff _ _ 3 (by decide) inb_S1x10x1x80x256_S1x1x1x64x256_0_3_0_0_0 _ (fun d a => pay28_apply _ a d) x
  refine List.forall_mem_cons.2 ⟨?_, ?_⟩
  · intro x
    exact put_ones _ _ 2 inb_S1x10x1x80x256_S1x1x1x16x256_0_2_0_64_0 _ (fun d a => pay23_apply a d) x
  refine List.forall_mem_cons.2 ⟨?_, ?_⟩
  · intro x
    exact put_diff _ _ 2 (by decide) inb_S1x10x1x80x256_S1x1x1x64x256_0_2_0_0_0 _ (fun d a => pay26_apply _ a d) x
  refine List.forall_mem_cons.2 ⟨?_, ?_⟩
  · intro x
    exact put_ones _ _ 1 inb_S1x10x1x80x256_S1x1x1x16x256_0_1_0_64_0 _ (fun d a => pay23_apply a d) x
  refine List.forall_mem_cons.2 ⟨?_, ?_⟩
  · intro x
    exact put_diff _ _ 1 (by decide) inb_S1x10x1x80x256_S1x1x1x64x256_0_1_0_0_0 _ (fun d a => pay24_apply _ a d) x
  refine List.forall_mem_cons.2 ⟨?_, ?_⟩
  · intro x
    exact put_ones _ _ 0 inb_S1x10x1x80x256_S1x1x1x16x256_0_0_0_64_0 _ (fun d a => pay23_apply a d) x
  refine List.forall_mem_cons.2 ⟨?_, ?_⟩
  · intro x
    exact put_diff _ _ 0 (by decide) inb_S1x10x1x80x256_S1x1x1x64x256_0_0_0_0_0 _ (fun d a => pay22_apply a _ _ d) x
  intro p hp
  exact absurd hp (List.not_mem_nil)
end

end Cert.InIdeal.Work

end
-- ==== Proof.InArray.lean ====
/- The in-projection kernel's arrays for the neighbourhood attention: at every place, the modulated row over one column; and the two other attentions' values, over the tokens. -/
module

public import proofs.«01_k».proof.Proof.FfnArray
public import proofs.«01_k».proof.Proof.InHost
public import proofs.«01_k».proof.Proof.InVals

@[expose] public section

set_option maxRecDepth 16384

noncomputable section

namespace Cert.InIdeal.Work

open Idealize.ShloMosaic Idealize.ShloMosaic.TcCoe Idealize.ShloMosaic.Tactic Cert.InIdeal.Gen
open Idealize.ShloMosaic.Pipeline (Dat Cfg Window)
open Cert.FfnIdeal.Work (seg modul)

section spec
variable (x : S2x8448x1024.Idx → EReal) (mu : S2x2x1x6144.Idx → EReal) (w : S1024x2720.Idx → EReal) (g : S128.Idx → EReal) (wk : S128x512.Idx → EReal)

/-- A row, normalised and modulated. -/
def Row (b : Fin 2) (i : Fin 8448) (l : Fin 1024) : EReal :=
  modul (fun k => x (ix3 b i k)) (fun k => mu (ix4 b (seg i) 0 ⟨1024 + k.val, by omega⟩)) (fun k => mu (ix4 b (seg i) 0 ⟨k.val, by omega⟩)) l

/-- The row over a column. -/
def Col (b : Fin 2) (i : Fin 8448) (n : Fin 2720) : EReal := ∑ l : Fin 1024, Row x mu b i l * w (ix2 l n)

/-- The queries, the keys and the values. -/
def Q : S2x8448x384.Idx → EReal := fun j => Col x mu w (j 0) (j 1) ⟨1152 + (j 2).val, by have h : (j 2).val < 384 := (j 2).isLt; omega⟩ * Ideal.ofBits .f32 0x3E000000#32
def K : S2x8448x384.Idx → EReal := fun j => Col x mu w (j 0) (j 1) ⟨1536 + (j 2).val, by have h : (j 2).val < 384 := (j 2).isLt; omega⟩
def Vv : S2x8448x384.Idx → EReal := fun j => Col x mu w (j 0) (j 1) ⟨1920 + (j 2).val, by have h : (j 2).val < 384 := (j 2).isLt; omega⟩

/-- The latent part of a row, normalised, over a column of the latent weights. -/
def Lat (b : Fin 2) (i : Fin 8448) (n : Fin 512) : EReal :=
  ∑ k : Fin 128, rms 0x43000000#32 (fun j : Fin 128 => Col x mu w b i ⟨2560 + j.val, by omega⟩) (fun j => g (ix1 j)) k * wk (ix2 k n)
/-- A head's value: six heads straight from the row, four by way of the latent part. -/
def Val (hd : Fin 10) (e : Fin 64) (b : Fin 2) (i : Fin 8448) : EReal :=
  if h : hd.val < 6 then Col x mu w b i ⟨768 + (64 * hd.val + e.val), by omega⟩ else Lat x mu w g wk b i ⟨128 * (hd.val - 6) + 64 + e.val, by omega⟩
/-- The values head by head and tile by tile, with the ones under them. -/
def Vt : S2x10x33x80x256.Idx → EReal := fun y =>
  if h : (y 3).val < 64 then Val x mu w g wk (y 1) ⟨(y 3).val, h⟩ (y 0) ⟨256 * (y 2).val + (y 4).val, by
    have h2 : (y 2).val < 33 := (y 2).isLt
    have h4 : (y 4).val < 256 := (y 4).isLt
    omega⟩ else 1

theorem vt_diff (b : Fin 2) (hd : Fin 10) (j : Fin 33) (e : Fin 80) (a : Fin 256) (h : e.val < 64) (h' : hd.val < 6) :
    Vt x mu w g wk (ix5 b hd j e a) = Col x mu w b ⟨256 * j.val + a.val, by omega⟩ ⟨768 + (64 * hd.val + e.val), by omega⟩ := by
  unfold Vt Val
  exact (dif_pos h).trans (dif_pos h')
theorem vt_latent (b : Fin 2) (hd : Fin 10) (j : Fin 33) (e : Fin 80) (a : Fin 256) (h : e.val < 64) (h' : ¬hd.val < 6) :
    Vt x mu w g wk (ix5 b hd j e a) = Lat x mu w g wk b ⟨256 * j.val + a.val, by omega⟩ ⟨128 * (hd.val - 6) + 64 + e.val, by omega⟩ := by
  unfold Vt Val
  exact (dif_pos h).trans (dif_neg h')
theorem vt_ones (b : Fin 2) (hd : Fin 10) (j : Fin 33) (e : Fin 80) (a : Fin 256) (h : ¬e.val < 64) : Vt x mu w g wk (ix5 b hd j e a) = 1 := by
  unfold Vt
  exact dif_neg h
end spec

section
variable (A : S384x256.Idx → EReal) (B : S256x256.Idx → EReal) (y : S1x10x1x80x256.Idx)
theorem rows_diff (h : (y 3).val < 64) (h' : (y 1).val < 6) : Rows A B y = A (ix2 ⟨64 * (y 1).val + (y 3).val, by omega⟩ (y 4)) := by
  unfold Rows
  exact (dif_pos h).trans (dif_pos h')
theorem rows_latent (h : (y 3).val < 64) (h' : ¬(y 1).val < 6) :
    Rows A B y = B (ix2 ⟨64 * ((y 1).val - 6) + (y 3).val, by have e : (y 1).val < 10 := (y 1).isLt; omega⟩ (y 4)) := by
  unfold Rows
  exact (dif_pos h).trans (dif_neg h')
theorem rows_ones (h : ¬(y 3).val < 64) : Rows A B y = 1 := by
  unfold Rows
  exact dif_neg h
end

theorem row_of (g : FVec Ideal S128 .f32) (k : Fin 128) : shapeCast S1x128 g shapeCasts_S128_S1x128 (ix2 0 k) = g (ix1 k) := by
  pointwise

/-- A tile's column is the row over the weights' column. -/
theorem tile {x : Vec Ideal S1x256x1024 .f32} {mu : Vec Ideal S1x1x1x6144 .f32} {w : Vec Ideal S1024x3328 .bf16}
    {X : S2x8448x1024.Idx → EReal} {M : S2x2x1x6144.Idx → EReal} {W : S1024x2720.Idx → EReal} {b : Fin 2} (a : Fin 256) (r : Fin 8448) (n : Fin 3328) (n' : Fin 2720)
    (h0 : ∀ l, x (ix3 0 a l) = X (ix3 b r l)) (h1 : ∀ k, mu (ix4 0 0 0 k) = M (ix4 b (seg r) 0 k)) (h2 : ∀ l, w (ix2 l n) = W (ix2 l n')) :
    k0_pay3 x mu w (ix2 a n) = Col X M W b r n' := by
  unfold Col Row
  rw [pay3_apply]
  refine Finset.sum_congr rfl fun l _ => ?_
  rw [pay2_apply, h2]
  simp only [h0, h1]

variable (m : (ℓ : Loc nD τ sig) → Buf (Elt Ideal) ℓ) (c : Dev nD) (t : Fin cfg0.N)

/-- The windows' block indices at the points. -/
theorem idx_facts : ∀ t : Fin cfg0.N,
    (win0_0.index t (0 : Fin 3) = (grid0.coords t 0).val ∧ win0_0.index t (1 : Fin 3) = (grid0.coords t 1).val ∧ win0_0.index t (2 : Fin 3) = 0)
    ∧ (win0_1.index t (0 : Fin 4) = (grid0.coords t 0).val ∧ win0_1.index t (1 : Fin 4) = min (grid0.coords t 1).val 1 ∧ win0_1.index t (2 : Fin 4) = 0 ∧ win0_1.index t (3 : Fin 4) = 0)
    ∧ (win0_6.index t (0 : Fin 2) = 0 ∧ win0_6.index t (1 : Fin 2) = 0)
    ∧ (win0_15.index t (0 : Fin 3) = (grid0.coords t 0).val ∧ win0_15.index t (1 : Fin 3) = (grid0.coords t 1).val ∧ win0_15.index t (2 : Fin 3) = 0)
    ∧ (win0_16.index t (0 : Fin 3) = (grid0.coords t 0).val ∧ win0_16.index t (1 : Fin 3) = (grid0.coords t 1).val ∧ win0_16.index t (2 : Fin 3) = 0)
    ∧ (win0_17.index t (0 : Fin 3) = (grid0.coords t 0).val ∧ win0_17.index t (1 : Fin 3) = (grid0.coords t 1).val ∧ win0_17.index t (2 : Fin 3) = 0) :=
  (by decide +kernel : ∀ t : Fin grid0.N, _)

theorem blk0_apply (a : Fin 256) (l : Fin 1024) (r : Fin 8448) (hr : r.val = 256 * (grid0.coords t 1).val + a.val) :
    (iblk m c 0 t : Vec Ideal S1x256x1024 .f32) (ix3 0 a l) = m ((c.tc : Thread nD τ).loc main_arg0) (ix3 (grid0.coords t 0) r l) := by
  obtain ⟨⟨e0, e1, e2⟩, -⟩ := idx_facts t
  blk_simp [iblk]
  refine (congrFun (V_main_arg0 m c) _).trans (congrArg (m ((c.tc : Thread nD τ).loc main_arg0)) (funext fun x => Fin.ext ?_))
  fin_cases x
  · show win0_0.index t (0 : Fin 3) * 1 + 1 * 0 = (grid0.coords t 0).val
    omega
  · show win0_0.index t (1 : Fin 3) * 256 + 1 * a.val = r.val
    omega
  · show win0_0.index t (2 : Fin 3) * 1024 + 1 * l.val = l.val
    omega
theorem blk1_apply (n : Fin 6144) (r : Fin 2) (hr : r.val = min (grid0.coords t 1).val 1) :
    (iblk m c 1 t : Vec Ideal S1x1x1x6144 .f32) (ix4 0 0 0 n) = m ((c.tc : Thread nD τ).loc main_arg1) (ix4 (grid0.coords t 0) r 0 n) := by
  obtain ⟨-, ⟨e0, e1, e2, e3⟩, -⟩ := idx_facts t
  blk_simp [iblk]
  refine (congrFun (V_main_arg1 m c) _).trans (congrArg (m ((c.tc : Thread nD τ).loc main_arg1)) (funext fun x => Fin.ext ?_))
  fin_cases x
  · show win0_1.index t (0 : Fin 4) * 1 + 1 * 0 = (grid0.coords t 0).val
    omega
  · show win0_1.index t (1 : Fin 4) * 1 + 1 * 0 = r.val
    omega
  · show win0_1.index t (2 : Fin 4) * 1 + 1 * 0 = 0
    omega
  · show win0_1.index t (3 : Fin 4) * 6144 + 1 * n.val = n.val
    omega
theorem blk6_apply (l : Fin 1024) (n : Fin 3328) : (iblk m c 6 t : Vec Ideal S1024x3328 .bf16) (ix2 l n) = wext (m ((c.tc : Thread nD τ).loc main_arg2)) (ix2 l n) := by
  obtain ⟨-, -, ⟨e0, e1⟩, -⟩ := idx_facts t
  blk_simp [iblk]
  refine (congrFun (V_wext m c) _).trans (congrArg (wext (m ((c.tc : Thread nD τ).loc main_arg2))) (funext fun x => Fin.ext ?_))
  fin_cases x
  · show win0_6.index t (0 : Fin 2) * 1024 + 1 * l.val = l.val
    omega
  · show win0_6.index t (1 : Fin 2) * 3328 + 1 * n.val = n.val
    omega

/-- The tile's tokens have one modulation. -/
theorem seg_min (a : Fin 256) (r : Fin 8448) (hr : r.val = 256 * (grid0.coords t 1).val + a.val) : (seg r).val = min (grid0.coords t 1).val 1 := by
  unfold seg
  split_ifs with h
  · show 0 = min (grid0.coords t 1).val 1
    omega
  · show 1 = min (grid0.coords t 1).val 1
    omega

/-- A column of the block at a point. -/
theorem column (a : Fin 256) (r : Fin 8448) (hr : r.val = 256 * (grid0.coords t 1).val + a.val) (n : Fin 3328) (n' : Fin 2720)
    (h : ∀ l, wext (m ((c.tc : Thread nD τ).loc main_arg2)) (ix2 l n) = m ((c.tc : Thread nD τ).loc main_arg2) (ix2 l n')) :
    k0_pay3 (iblk m c 0 t : Vec Ideal S1x256x1024 .f32) (iblk m c 1 t : Vec Ideal S1x1x1x6144 .f32) (iblk m c 6 t : Vec Ideal S1024x3328 .bf16) (ix2 a n)
      = Col (m ((c.tc : Thread nD τ).loc main_arg0)) (m ((c.tc : Thread nD τ).loc main_arg1)) (m ((c.tc : Thread nD τ).loc main_arg2)) (grid0.coords t 0) r n' := by
  have es : (seg r).val = min (grid0.coords t 1).val 1 := seg_min t a r hr
  exact tile a r n n' (fun l => blk0_apply m c t a l r hr) (fun k => blk1_apply m c t k (seg r) es) (fun l => (blk6_apply m c t l n).trans (h l))

theorem block15 (a : Fin 256) (l : Fin 384) (r : Fin 8448) (hr : r.val = 256 * (grid0.coords t 1).val + a.val) :
    ((outsAt0 m c t).2.2.1 : Vec Ideal S1x256x384 .bf16) (ix3 0 a l) = Q (m ((c.tc : Thread nD τ).loc main_arg0)) (m ((c.tc : Thread nD τ).loc main_arg1)) (m ((c.tc : Thread nD τ).loc main_arg2)) (ix3 (grid0.coords t 0) r l) := by
  unfold outsAt0
  dsimp only
  rw [out15_eq]
  refine (pay8_apply _ a l).trans ?_
  exact congrArg (· * Ideal.ofBits .f32 0x3E000000#32) (column m c t a r hr ⟨1536 + l.val, by omega⟩ ⟨1152 + l.val, by omega⟩ fun k => wext_q _ k l)
theorem array15 : (dats m 0 c).arrAt 15 cfg0.N = Q (m ((c.tc : Thread nD τ).loc main_arg0)) (m ((c.tc : Thread nD τ).loc main_arg1)) (m ((c.tc : Thread nD τ).loc main_arg2)) := by
  refine (dats m 0 c).arrAt_eq_of_covers 15 _ (by decide +kernel) fun t hf y => ?_
  blk_simp
  rw [after0_15]
  obtain ⟨-, -, -, ⟨e0, e1, e2⟩, -⟩ := idx_facts t
  have hi : (grid0.coords t 1).val < 33 := (grid0.coords t 1).isLt
  have y0 : (y (0 : Fin 3)).val < 1 := (y (0 : Fin 3)).isLt
  have y1 : (y (1 : Fin 3)).val < 256 := (y (1 : Fin 3)).isLt
  have y2 : (y (2 : Fin 3)).val < 384 := (y (2 : Fin 3)).isLt
  have hy : y = (ix3 (0 : Fin 1) (⟨(y (1 : Fin 3)).val, y1⟩ : Fin 256) (⟨(y (2 : Fin 3)).val, y2⟩ : Fin 384) : S1x256x384.Idx) := by
    funext x
    refine Fin.ext ?_
    fin_cases x
    · show (y (0 : Fin 3)).val = 0
      omega
    · rfl
    · rfl
  refine (congrArg ((outsAt0 m c t).2.2.1 : Vec Ideal S1x256x384 .bf16) hy).trans ((block15 m c t ⟨(y (1 : Fin 3)).val, y1⟩ ⟨(y (2 : Fin 3)).val, y2⟩ ⟨256 * (grid0.coords t 1).val + (y (1 : Fin 3)).val, by omega⟩ rfl).trans ?_)
  refine congrArg _ (funext fun x => Fin.ext ?_)
  fin_cases x
  · show (grid0.coords t 0).val = win0_15.index t (0 : Fin 3) * 1 + 1 * (y (0 : Fin 3)).val
    omega
  · show 256 * (grid0.coords t 1).val + (y (1 : Fin 3)).val = win0_15.index t (1 : Fin 3) * 256 + 1 * (y (1 : Fin 3)).val
    omega
  · show (y (2 : Fin 3)).val = win0_15.index t (2 : Fin 3) * 384 + 1 * (y (2 : Fin 3)).val
    omega

theorem block16 (a : Fin 256) (l : Fin 384) (r : Fin 8448) (hr : r.val = 256 * (grid0.coords t 1).val + a.val) :
    ((outsAt0 m c t).2.2.2.1 : Vec Ideal S1x256x384 .bf16) (ix3 0 a l) = K (m ((c.tc : Thread nD τ).loc main_arg0)) (m ((c.tc : Thread nD τ).loc main_arg1)) (m ((c.tc : Thread nD τ).loc main_arg2)) (ix3 (grid0.coords t 0) r l) := by
  unfold outsAt0
  dsimp only
  rw [out16_eq]
  refine (pay9_apply _ a l).trans ?_
  exact column m c t a r hr ⟨1920 + l.val, by omega⟩ ⟨1536 + l.val, by omega⟩ fun k => wext_k _ k l
theorem array16 : (dats m 0 c).arrAt 16 cfg0.N = K (m ((c.tc : Thread nD τ).loc main_arg0)) (m ((c.tc : Thread nD τ).loc main_arg1)) (m ((c.tc : Thread nD τ).loc main_arg2)) := by
  refine (dats m 0 c).arrAt_eq_of_covers 16 _ (by decide +kernel) fun t hf y => ?_
  blk_simp
  rw [after0_16]
  obtain ⟨-, -, -, -, ⟨e0, e1, e2⟩, -⟩ := idx_facts t
  have hi : (grid0.coords t 1).val < 33 := (grid0.coords t 1).isLt
  have y0 : (y (0 : Fin 3)).val < 1 := (y (0 : Fin 3)).isLt
  have y1 : (y (1 : Fin 3)).val < 256 := (y (1 : Fin 3)).isLt
  have y2 : (y (2 : Fin 3)).val < 384 := (y (2 : Fin 3)).isLt
  have hy : y = (ix3 (0 : Fin 1) (⟨(y (1 : Fin 3)).val, y1⟩ : Fin 256) (⟨(y (2 : Fin 3)).val, y2⟩ : Fin 384) : S1x256x384.Idx) := by
    funext x
    refine Fin.ext ?_
    fin_cases x
    · show (y (0 : Fin 3)).val = 0
      omega
    · rfl
    · rfl
  refine (congrArg ((outsAt0 m c t).2.2.2.1 : Vec Ideal S1x256x384 .bf16) hy).trans ((block16 m c t ⟨(y (1 : Fin 3)).val, y1⟩ ⟨(y (2 : Fin 3)).val, y2⟩ ⟨256 * (grid0.coords t 1).val + (y (1 : Fin 3)).val, by omega⟩ rfl).trans ?_)
  refine congrArg _ (funext fun x => Fin.ext ?_)
  fin_cases x
  · show (grid0.coords t 0).val = win0_16.index t (0 : Fin 3) * 1 + 1 * (y (0 : Fin 3)).val
    omega
  · show 256 * (grid0.coords t 1).val + (y (1 : Fin 3)).val = win0_16.index t (1 : Fin 3) * 256 + 1 * (y (1 : Fin 3)).val
    omega
  · show (y (2 : Fin 3)).val = win0_16.index t (2 : Fin 3) * 384 + 1 * (y (2 : Fin 3)).val
    omega

theorem block17 (a : Fin 256) (l : Fin 384) (r : Fin 8448) (hr : r.val = 256 * (grid0.coords t 1).val + a.val) :
    ((outsAt0 m c t).2.2.2.2.1 : Vec Ideal S1x256x384 .bf16) (ix3 0 a l) = Vv (m ((c.tc : Thread nD τ).loc main_arg0)) (m ((c.tc : Thread nD τ).loc main_arg1)) (m ((c.tc : Thread nD τ).loc main_arg2)) (ix3 (grid0.coords t 0) r l) := by
  unfold outsAt0
  dsimp only
  rw [out17_eq]
  refine (pay10_apply _ a l).trans ?_
  exact column m c t a r hr ⟨2304 + l.val, by omega⟩ ⟨1920 + l.val, by omega⟩ fun k => wext_v _ k l
theorem array17 : (dats m 0 c).arrAt 17 cfg0.N = Vv (m ((c.tc : Thread nD τ).loc main_arg0)) (m ((c.tc : Thread nD τ).loc main_arg1)) (m ((c.tc : Thread nD τ).loc main_arg2)) := by
  refine (dats m 0 c).arrAt_eq_of_covers 17 _ (by decide +kernel) fun t hf y => ?_
  blk_simp
  rw [after0_17]
  obtain ⟨-, -, -, -, -, e0, e1, e2⟩ := idx_facts t
  have hi : (grid0.coords t 1).val < 33 := (grid0.coords t 1).isLt
  have y0 : (y (0 : Fin 3)).val < 1 := (y (0 : Fin 3)).isLt
  have y1 : (y (1 : Fin 3)).val < 256 := (y (1 : Fin 3)).isLt
  have y2 : (y (2 : Fin 3)).val < 384 := (y (2 : Fin 3)).isLt
  have hy : y = (ix3 (0 : Fin 1) (⟨(y (1 : Fin 3)).val, y1⟩ : Fin 256) (⟨(y (2 : Fin 3)).val, y2⟩ : Fin 384) : S1x256x384.Idx) := by
    funext x
    refine Fin.ext ?_
    fin_cases x
    · show (y (0 : Fin 3)).val = 0
      omega
    · rfl
    · rfl
  refine (congrArg ((outsAt0 m c t).2.2.2.2.1 : Vec Ideal S1x256x384 .bf16) hy).trans ((block17 m c t ⟨(y (1 : Fin 3)).val, y1⟩ ⟨(y (2 : Fin 3)).val, y2⟩ ⟨256 * (grid0.coords t 1).val + (y (1 : Fin 3)).val, by omega⟩ rfl).trans ?_)
  refine congrArg _ (funext fun x => Fin.ext ?_)
  fin_cases x
  · show (grid0.coords t 0).val = win0_17.index t (0 : Fin 3) * 1 + 1 * (y (0 : Fin 3)).val
    omega
  · show 256 * (grid0.coords t 1).val + (y (1 : Fin 3)).val = win0_17.index t (1 : Fin 3) * 256 + 1 * (y (1 : Fin 3)).val
    omega
  · show (y (2 : Fin 3)).val = win0_17.index t (2 : Fin 3) * 384 + 1 * (y (2 : Fin 3)).val
    omega

/-- The values' windows. -/
theorem idx_vals : ∀ t : Fin cfg0.N,
    (win0_7.index t (0 : Fin 2) = 0 ∧ win0_7.index t (1 : Fin 2) = 0)
    ∧ (win0_9.index t (0 : Fin 2) = 0 ∧ win0_9.index t (1 : Fin 2) = 0)
    ∧ (win0_12.index t (0 : Fin 2) = 0 ∧ win0_12.index t (1 : Fin 2) = 0)
    ∧ (win0_20.index t (0 : Fin 5) = (grid0.coords t 0).val ∧ win0_20.index t (1 : Fin 5) = 0 ∧ win0_20.index t (2 : Fin 5) = (grid0.coords t 1).val
      ∧ win0_20.index t (3 : Fin 5) = 0 ∧ win0_20.index t (4 : Fin 5) = 0) :=
  (by decide +kernel : ∀ t : Fin grid0.N, _)

theorem blk7_apply (d : Fin 384) (l : Fin 1024) : (iblk m c 7 t : Vec Ideal S384x1024 .bf16) (ix2 d l) = wval (m ((c.tc : Thread nD τ).loc main_arg2)) (ix2 d l) := by
  obtain ⟨⟨e0, e1⟩, -⟩ := idx_vals t
  blk_simp [iblk]
  refine (congrFun (V_wval m c) _).trans (congrArg (wval (m ((c.tc : Thread nD τ).loc main_arg2))) (funext fun x => Fin.ext ?_))
  fin_cases x
  · show win0_7.index t (0 : Fin 2) * 384 + 1 * d.val = d.val
    omega
  · show win0_7.index t (1 : Fin 2) * 1024 + 1 * l.val = l.val
    omega
theorem blk9_apply (k : Fin 128) : (iblk m c 9 t : Vec Ideal S1x128 .f32) (ix2 0 k) = m ((c.tc : Thread nD τ).loc main_arg4) (ix1 k) := by
  obtain ⟨-, ⟨e0, e1⟩, -⟩ := idx_vals t
  have e : (iblk m c 9 t : Vec Ideal S1x128 .f32) (ix2 0 k) = shapeCast S1x128 (m ((c.tc : Thread nD τ).loc main_arg4)) shapeCasts_S128_S1x128 (ix2 0 k) := by
    blk_simp [iblk]
    refine (congrFun (V_gkv m c) _).trans (congrArg (shapeCast S1x128 (m ((c.tc : Thread nD τ).loc main_arg4)) shapeCasts_S128_S1x128) (funext fun x => Fin.ext ?_))
    fin_cases x
    · show win0_9.index t (0 : Fin 2) * 1 + 1 * 0 = 0
      omega
    · show win0_9.index t (1 : Fin 2) * 128 + 1 * k.val = k.val
      omega
  rw [e]
  generalize m ((c.tc : Thread nD τ).loc main_arg4) = g
  exact row_of g k
theorem blk12_apply (d : Fin 256) (k : Fin 128) : (iblk m c 12 t : Vec Ideal S256x128 .bf16) (ix2 d k) = wukvv (m ((c.tc : Thread nD τ).loc main_arg6)) (ix2 d k) := by
  obtain ⟨-, -, ⟨e0, e1⟩, -⟩ := idx_vals t
  blk_simp [iblk]
  refine (congrFun (V_wukvv m c) _).trans (congrArg (wukvv (m ((c.tc : Thread nD τ).loc main_arg6))) (funext fun x => Fin.ext ?_))
  fin_cases x
  · show win0_12.index t (0 : Fin 2) * 256 + 1 * d.val = d.val
    omega
  · show win0_12.index t (1 : Fin 2) * 128 + 1 * k.val = k.val
    omega

theorem rowblock (a : Fin 256) (r : Fin 8448) (hr : r.val = 256 * (grid0.coords t 1).val + a.val) (l : Fin 1024) :
    k0_pay2 (iblk m c 0 t : Vec Ideal S1x256x1024 .f32) (iblk m c 1 t : Vec Ideal S1x1x1x6144 .f32) (ix2 a l) = Row (m ((c.tc : Thread nD τ).loc main_arg0)) (m ((c.tc : Thread nD τ).loc main_arg1)) (grid0.coords t 0) r l := by
  have es : (seg r).val = min (grid0.coords t 1).val 1 := seg_min t a r hr
  unfold Row
  rw [pay2_apply]
  simp only [blk0_apply m c t a _ r hr, blk1_apply m c t _ (seg r) es]

theorem vals_diff (a : Fin 256) (r : Fin 8448) (hr : r.val = 256 * (grid0.coords t 1).val + a.val) (d : Fin 384) :
    (k0_pay19 (k0_pay2 (iblk m c 0 t : Vec Ideal S1x256x1024 .f32) (iblk m c 1 t : Vec Ideal S1x1x1x6144 .f32)) (iblk m c 7 t : Vec Ideal S384x1024 .bf16)) (ix2 d a) = Col (m ((c.tc : Thread nD τ).loc main_arg0)) (m ((c.tc : Thread nD τ).loc main_arg1)) (m ((c.tc : Thread nD τ).loc main_arg2)) (grid0.coords t 0) r ⟨768 + d.val, by omega⟩ := by
  rw [pay19_apply]
  unfold Col
  refine Finset.sum_congr rfl fun l _ => ?_
  rw [rowblock m c t a r hr l, blk7_apply, wval_apply, mul_comm]

theorem vals_latent (a : Fin 256) (r : Fin 8448) (hr : r.val = 256 * (grid0.coords t 1).val + a.val) (n : Fin 4) (e : Fin 64) :
    (k0_pay20 (k0_pay14 (k0_pay3 (iblk m c 0 t : Vec Ideal S1x256x1024 .f32) (iblk m c 1 t : Vec Ideal S1x1x1x6144 .f32) (iblk m c 6 t : Vec Ideal S1024x3328 .bf16))) (k0_pay15 (iblk m c 9 t : Vec Ideal S1x128 .f32)) (k0_pay16 (k0_pay3 (iblk m c 0 t : Vec Ideal S1x256x1024 .f32) (iblk m c 1 t : Vec Ideal S1x1x1x6144 .f32) (iblk m c 6 t : Vec Ideal S1024x3328 .bf16))) (iblk m c 12 t : Vec Ideal S256x128 .bf16)) (ix2 ⟨64 * n.val + e.val, by omega⟩ a) = Lat (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (grid0.coords t 0) r ⟨128 * n.val + 64 + e.val, by omega⟩ := by
  rw [pay20_apply]
  unfold Lat kvn
  refine Finset.sum_congr rfl fun k _ => ?_
  rw [blk12_apply, wukvv_apply, mul_comm]
  simp only [column m c t a r hr _ _ (fun l => wext_c _ l _), blk9_apply]

theorem block20 (y : S1x10x1x80x256.Idx) :
    ((outsAt0 m c t).2.2.2.2.2.2.2 : Vec Ideal S1x10x1x80x256 .bf16) y = Vt (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (ix5 (grid0.coords t 0) (y 1) (grid0.coords t 1) (y 3) (y 4)) := by
  have hi : (grid0.coords t 1).val < 33 := (grid0.coords t 1).isLt
  have y4 : (y 4).val < 256 := (y 4).isLt
  have y1 : (y 1).val < 10 := (y 1).isLt
  unfold outsAt0
  dsimp only
  rw [out20_eq]
  by_cases h : (y 3).val < 64
  · by_cases h' : (y 1).val < 6
    · refine (rows_diff _ _ y h h').trans ((vals_diff m c t (y 4) ⟨256 * (grid0.coords t 1).val + (y 4).val, by omega⟩ rfl ⟨64 * (y 1).val + (y 3).val, by omega⟩).trans ?_)
      exact (vt_diff _ _ _ _ _ _ _ _ _ _ h h').symm
    · refine (rows_latent _ _ y h h').trans ((vals_latent m c t (y 4) ⟨256 * (grid0.coords t 1).val + (y 4).val, by omega⟩ rfl ⟨(y 1).val - 6, by omega⟩ ⟨(y 3).val, h⟩).trans ?_)
      exact (vt_latent _ _ _ _ _ _ _ _ _ _ h h').symm
  · exact (rows_ones _ _ y h).trans (vt_ones _ _ _ _ _ _ _ _ _ _ h).symm
theorem array20 : (dats m 0 c).arrAt 20 cfg0.N = Vt (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) := by
  refine (dats m 0 c).arrAt_eq_of_covers 20 _ (by decide +kernel) fun t hf y => ?_
  blk_simp
  rw [after0_20]
  obtain ⟨-, -, -, e0, e1, e2, e3, e4⟩ := idx_vals t
  have y0 : (y (0 : Fin 5)).val < 1 := (y (0 : Fin 5)).isLt
  have y2 : (y (2 : Fin 5)).val < 1 := (y (2 : Fin 5)).isLt
  refine (block20 m c t y).trans ?_
  refine congrArg _ (funext fun x => Fin.ext ?_)
  fin_cases x
  · show (grid0.coords t 0).val = win0_20.index t (0 : Fin 5) * 1 + 1 * (y (0 : Fin 5)).val
    omega
  · show (y (1 : Fin 5)).val = win0_20.index t (1 : Fin 5) * 10 + 1 * (y (1 : Fin 5)).val
    omega
  · show (grid0.coords t 1).val = win0_20.index t (2 : Fin 5) * 1 + 1 * (y (2 : Fin 5)).val
    omega
  · show (y (3 : Fin 5)).val = win0_20.index t (3 : Fin 5) * 80 + 1 * (y (3 : Fin 5)).val
    omega
  · show (y (4 : Fin 5)).val = win0_20.index t (4 : Fin 5) * 256 + 1 * (y (4 : Fin 5)).val
    omega

end Cert.InIdeal.Work

end
-- ==== Proof.InRef.lean ====
/- The in-projection reference's arrays for the neighbourhood attention, and the two other attentions' values. -/
module

public import proofs.«01_k».proof.Proof.InArray
public import proofs.«01_k».proof.Proof.Gen.InRefIdeal.Read

@[expose] public section

set_option maxRecDepth 16384

noncomputable section

namespace Cert.InRefIdeal.Work

open Idealize.ShloMosaic Idealize.ShloMosaic.TcCoe Idealize.ShloMosaic.Tactic Cert.InRefIdeal.Gen Cert.InRefIdeal.Read
open Cert.FfnIdeal.Work (seg unit mean modul)
open Cert.InIdeal.Work (Row Col Q K Vv Lat Vt rms vt_diff vt_latent vt_ones)

variable (x : Vec Ideal S2x8448x1024 .f32) (mu : Vec Ideal S2x2x1x6144 .f32) (w : Vec Ideal S1024x2720 .f32) (g : Vec Ideal S128 .f32) (wk : Vec Ideal S128x512 .f32) (b : Fin 2)

/-- A row's modulation is its own sequence's. -/
theorem token_ctx (i : Fin 256) (n : Fin 6144) : val_main_v2 mu (ix3 b i n) = mu (ix4 b 0 0 n) := by
  pointwise [val_main_v2, val_main_v1, val_main_v0]
theorem token_lat (i : Fin 8192) (n : Fin 6144) : val_main_v5 mu (ix3 b i n) = mu (ix4 b 1 0 n) := by
  pointwise [val_main_v5, val_main_v4, val_main_v3]
theorem token (i : Fin 8448) (n : Fin 6144) : val_main_v6 mu (ix3 b i n) = mu (ix4 b (seg i) 0 n) := by
  unfold val_main_v6 seg
  split_ifs with h
  · skip
    refine (concatenate_pair_apply_left (s₁ := S2x256x6144) (s₂ := S2x8192x6144) (1 : Fin S2x8448x6144.rank) _ _ _ _ rfl (ix3 b (⟨i.val, by omega⟩ : Fin 256) n) fun a => ?_).trans (token_ctx mu b _ n)
    match a with
    | ⟨0, _⟩ => rfl
    | ⟨1, _⟩ => rfl
    | ⟨2, _⟩ => rfl
  · skip
    refine (concatenate_pair_apply_right (s₁ := S2x256x6144) (s₂ := S2x8192x6144) (1 : Fin S2x8448x6144.rank) _ _ _ _ rfl rfl (ix3 b (⟨i.val - 256, by omega⟩ : Fin 8192) n) (fun a ha => ?_) ?_).trans (token_lat mu b _ n)
    · match a with
      | ⟨0, _⟩ => rfl
      | ⟨1, _⟩ => exact absurd rfl ha
      | ⟨2, _⟩ => rfl
    · show i.val - 256 + 256 = i.val
      omega

theorem mean_apply (i : Fin 8448) : val_main_v10 x (ix3 b i 0) = mean fun k => x (ix3 b i k) := by
  unfold mean
  pointwise [val_main_v10, val_main_v8, val_main_v7, val_main_v9, val_main_cst, val_main_cst_0]

theorem variance_apply (i : Fin 8448) : val_main_v21 x (ix3 b i 0)
    = mean (fun k => (x (ix3 b i k) - mean fun k => x (ix3 b i k)) * (x (ix3 b i k) - mean fun k => x (ix3 b i k))) + Ideal.ofBits .f32 0x358637BD#32 := by
  rw [← mean_apply]
  unfold mean
  pointwise [val_main_v21, val_main_v20, val_main_v17, val_main_v15, val_main_v14, val_main_v13, val_main_v12, val_main_v11, val_main_v16, val_main_cst_1, val_main_cst_2, val_main_cst_3]

theorem row_apply (i : Fin 8448) (l : Fin 1024) : val_main_v30 x mu (ix3 b i l) = Row x mu b i l := by
  unfold Row modul unit
  rw [← variance_apply, ← mean_apply]
  simp only [← token]
  pointwise [val_main_v30, val_main_v29, val_main_v28, val_main_v27, val_main_v26, val_main_v25, val_main_v24, val_main_v23, val_main_v22, val_main_v19, val_main_v18, val_main_cst_4]

theorem col_apply (i : Fin 8448) (n : Fin 2720) : val_main_v31 x mu w (ix3 b i n) = Col x mu w b i n := by
  unfold Col
  simp only [← row_apply]
  pointwise [val_main_v31]

theorem eta (j : S2x8448x384.Idx) : j = ix3 (j 0) (j 1) (j 2) := funext fun a => match a with
  | ⟨0, _⟩ => rfl
  | ⟨1, _⟩ => rfl
  | ⟨2, _⟩ => rfl

/-- The reference's arrays. -/
theorem q_apply (i : Fin 8448) (l : Fin 384) : val_main_v65 x mu w (ix3 b i l) = Q x mu w (ix3 b i l) := by
  show _ = Col x mu w b i ⟨1152 + l.val, by omega⟩ * Ideal.ofBits .f32 0x3E000000#32
  rw [← col_apply]
  pointwise [val_main_v65, val_main_v64, val_main_v63, val_main_cst_9, val_main_v35]
theorem k_apply (i : Fin 8448) (l : Fin 384) : val_main_v66 x mu w (ix3 b i l) = K x mu w (ix3 b i l) := by
  show _ = Col x mu w b i ⟨1536 + l.val, by omega⟩
  rw [← col_apply]
  pointwise [val_main_v66, val_main_v36]
theorem v_apply (i : Fin 8448) (l : Fin 384) : val_main_v67 x mu w (ix3 b i l) = Vv x mu w (ix3 b i l) := by
  show _ = Col x mu w b i ⟨1920 + l.val, by omega⟩
  rw [← col_apply]
  pointwise [val_main_v67, val_main_v37]
theorem result_q : val_main_v65 x mu w = Q x mu w := funext fun j => by
  rw [eta j]
  exact q_apply x mu w (j 0) (j 1) (j 2)
theorem result_k : val_main_v66 x mu w = K x mu w := funext fun j => by
  rw [eta j]
  exact k_apply x mu w (j 0) (j 1) (j 2)
theorem result_v : val_main_v67 x mu w = Vv x mu w := funext fun j => by
  rw [eta j]
  exact v_apply x mu w (j 0) (j 1) (j 2)

theorem rms_apply (i : Fin 8448) (k : Fin 128) : val_main_v53 x mu w g (ix3 b i k)
    = rms 0x43000000#32 (fun j : Fin 128 => Col x mu w b i ⟨2560 + j.val, by omega⟩) (fun j => g (ix1 j)) k := by
  unfold rms
  simp only [← col_apply]
  pointwise [val_main_v53, val_main_v52, val_main_v51, val_main_v50, val_main_v49, val_main_v48, val_main_v47, val_main_v46, val_main_v45, val_main_v44, val_main_v43, val_main_v42, val_main_v41, val_main_v39, val_main_cst_5, val_main_cst_6, val_main_cst_7]

theorem lat_apply (i : Fin 8448) (n : Fin 512) : val_main_v54 x mu w g wk (ix3 b i n) = Lat x mu w g wk b i n := by
  unfold Lat
  simp only [← rms_apply]
  pointwise [val_main_v54]

theorem diff_head (i : Fin 8448) (hd : Fin 6) (e : Fin 64) : val_main_v57 x mu w (ix4 b i hd e) = Col x mu w b i ⟨768 + (64 * hd.val + e.val), by omega⟩ := by
  rw [← col_apply]
  pointwise [val_main_v57, val_main_v34]
  exact congrArg (fun q => val_main_v31 x mu w (ix3 b i q)) (Fin.ext (show 768 + (hd.val * 64 + e.val) = 768 + (64 * hd.val + e.val) by omega))
theorem lat_head (i : Fin 8448) (n : Fin 4) (e : Fin 64) : val_main_v56 x mu w g wk (ix4 b i n e) = Lat x mu w g wk b i ⟨128 * n.val + 64 + e.val, by omega⟩ := by
  rw [← lat_apply]
  pointwise [val_main_v56, val_main_v55]
  exact congrArg (fun q => val_main_v54 x mu w g wk (ix3 b i q)) (Fin.ext (show n.val * 128 + (64 + e.val) = 128 * n.val + 64 + e.val by omega))
theorem head_diff (i : Fin 8448) (hd : Fin 10) (e : Fin 64) (h : hd.val < 6) : val_main_v58 x mu w g wk (ix4 b i hd e) = Col x mu w b i ⟨768 + (64 * hd.val + e.val), by omega⟩ := by
  unfold val_main_v58
  refine (concatenate_pair_apply_left (s₁ := S2x8448x6x64) (s₂ := S2x8448x4x64) (2 : Fin S2x8448x10x64.rank) _ _ _ _ rfl (ix4 b i (⟨hd.val, h⟩ : Fin 6) e) fun a => ?_).trans (diff_head x mu w b i _ e)
  match a with
  | ⟨0, _⟩ => rfl
  | ⟨1, _⟩ => rfl
  | ⟨2, _⟩ => rfl
  | ⟨3, _⟩ => rfl
theorem head_latent (i : Fin 8448) (hd : Fin 10) (e : Fin 64) (h : ¬hd.val < 6) : val_main_v58 x mu w g wk (ix4 b i hd e) = Lat x mu w g wk b i ⟨128 * (hd.val - 6) + 64 + e.val, by omega⟩ := by
  unfold val_main_v58
  refine (concatenate_pair_apply_right (s₁ := S2x8448x6x64) (s₂ := S2x8448x4x64) (2 : Fin S2x8448x10x64.rank) _ _ _ _ rfl rfl (ix4 b i (⟨hd.val - 6, by omega⟩ : Fin 4) e) (fun a ha => ?_) ?_).trans (lat_head x mu w g wk b i _ e)
  · match a with
    | ⟨0, _⟩ => rfl
    | ⟨1, _⟩ => rfl
    | ⟨2, _⟩ => exact absurd rfl ha
    | ⟨3, _⟩ => rfl
  · show hd.val - 6 + 6 = hd.val
    omega

/-- Over the tokens of a tile. -/
theorem tiled (j : Fin 33) (a : Fin 256) (hd : Fin 10) (e : Fin 64) : val_main_v59 x mu w g wk (ix5 b j a hd e) = val_main_v58 x mu w g wk (ix4 b ⟨256 * j.val + a.val, by omega⟩ hd e) := by
  unfold val_main_v59
  refine shapeCast_apply _ _ _ (ix4 b (⟨256 * j.val + a.val, by omega⟩ : Fin 8448) hd e) ?_
  refine (Shape.rowMajor_val_four _).trans (Eq.trans ?_ (Shape.rowMajor_val_five _).symm)
  show ((b.val * 8448 + (256 * j.val + a.val)) * 10 + hd.val) * 64 + e.val = (((b.val * 33 + j.val) * 256 + a.val) * 10 + hd.val) * 64 + e.val
  omega
theorem turned (hd : Fin 10) (j : Fin 33) (e : Fin 64) (a : Fin 256) : val_main_v60 x mu w g wk (ix5 b hd j e a) = val_main_v58 x mu w g wk (ix4 b ⟨256 * j.val + a.val, by omega⟩ hd e) := by
  refine (val_main_v60_apply x mu w g wk (ix5 b hd j e a)).trans (Eq.trans ?_ (tiled x mu w g wk b j a hd e))
  generalize val_main_v59 x mu w g wk = z
  exact congrArg z (funext fun k => match k with
    | ⟨0, _⟩ => rfl
    | ⟨1, _⟩ => rfl
    | ⟨2, _⟩ => rfl
    | ⟨3, _⟩ => rfl
    | ⟨4, _⟩ => rfl)

theorem vals_top (hd : Fin 10) (j : Fin 33) (e : Fin 80) (a : Fin 256) (h : e.val < 64) :
    val_main_v62 x mu w g wk (ix5 b hd j e a) = val_main_v58 x mu w g wk (ix4 b ⟨256 * j.val + a.val, by omega⟩ hd ⟨e.val, h⟩) := by
  unfold val_main_v62
  refine (concatenate_pair_apply_left (s₁ := S2x10x33x64x256) (s₂ := S2x10x33x16x256) (3 : Fin S2x10x33x80x256.rank) _ _ _ _ rfl (ix5 b hd j (⟨e.val, h⟩ : Fin 64) a) fun k => ?_).trans (turned x mu w g wk b hd j _ a)
  match k with
  | ⟨0, _⟩ => rfl
  | ⟨1, _⟩ => rfl
  | ⟨2, _⟩ => rfl
  | ⟨3, _⟩ => rfl
  | ⟨4, _⟩ => rfl
theorem vals_ones (hd : Fin 10) (j : Fin 33) (e : Fin 80) (a : Fin 256) (h : ¬e.val < 64) : val_main_v62 x mu w g wk (ix5 b hd j e a) = 1 := by
  unfold val_main_v62
  refine (concatenate_pair_apply_right (s₁ := S2x10x33x64x256) (s₂ := S2x10x33x16x256) (3 : Fin S2x10x33x80x256.rank) _ _ _ _ rfl rfl (ix5 b hd j (⟨e.val - 64, by omega⟩ : Fin 16) a) (fun k hk => ?_) ?_).trans (show _ = _ from Ideal.ofBits_one_f32)
  · match k with
    | ⟨0, _⟩ => rfl
    | ⟨1, _⟩ => rfl
    | ⟨2, _⟩ => rfl
    | ⟨3, _⟩ => exact absurd rfl hk
    | ⟨4, _⟩ => rfl
  · show e.val - 64 + 64 = e.val
    omega

theorem vt_apply (hd : Fin 10) (j : Fin 33) (e : Fin 80) (a : Fin 256) : val_main_v68 x mu w g wk (ix5 b hd j e a) = Vt x mu w g wk (ix5 b hd j e a) := by
  refine (show val_main_v68 x mu w g wk (ix5 b hd j e a) = val_main_v62 x mu w g wk (ix5 b hd j e a) from rfl).trans ?_
  by_cases h : e.val < 64
  · by_cases h' : hd.val < 6
    · exact (vals_top x mu w g wk b hd j e a h).trans ((head_diff x mu w g wk b _ hd _ h').trans (vt_diff _ _ _ _ _ _ _ _ _ _ h h').symm)
    · exact (vals_top x mu w g wk b hd j e a h).trans ((head_latent x mu w g wk b _ hd _ h').trans (vt_latent _ _ _ _ _ _ _ _ _ _ h h').symm)
  · exact (vals_ones x mu w g wk b hd j e a h).trans (vt_ones _ _ _ _ _ _ _ _ _ _ h).symm
theorem result_vt : val_main_v68 x mu w g wk = Vt x mu w g wk := funext fun y => by
  rw [show y = ix5 (y 0) (y 1) (y 2) (y 3) (y 4) from funext fun k => match k with
    | ⟨0, _⟩ => rfl
    | ⟨1, _⟩ => rfl
    | ⟨2, _⟩ => rfl
    | ⟨3, _⟩ => rfl
    | ⟨4, _⟩ => rfl]
  exact vt_apply x mu w g wk (y 0) (y 1) (y 2) (y 3) (y 4)

end Cert.InRefIdeal.Work

end
-- ==== Proof.InClaim.lean ====
/- The in-projection: the kernel's arrays for the neighbourhood attention and the other attentions' values are the reference's. -/
module

public import proofs.«01_k».proof.Defs
public import proofs.«01_k».proof.Proof.InRef

@[expose] public section

set_option maxRecDepth 16384

noncomputable section

namespace Cert.Proof

open Idealize.ShloMosaic Idealize.SL.Sem

theorem frame_in_ref : Cert.quiescent_InRefIdeal (hInRefIdeal := Cert.InRefIdeal.Gen.facts) := fun m g _ =>
  (θ_run Cert.InRefIdeal.defs _ _).mono (fun r h => ⟨fun c => (h c).2.2.2.2, sem_eq_zero_of_no_sems (by decide) r.2⟩)
    (Cert.InRefIdeal.Value.run (F := Ideal) m g)

theorem algebraic_in : Cert.algebraic_InIdeal_InRefIdeal (hInIdeal := Cert.InIdeal.Gen.facts) (hInRefIdeal := Cert.InRefIdeal.Gen.facts) := by
  intro m g m' g' _ hargs
  refine ⟨fun c => Cert.InIdeal.Work.Q (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)),
    fun c => Cert.InIdeal.Work.K (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)),
    fun c => Cert.InIdeal.Work.Vv (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)),
    fun c => Cert.InIdeal.Work.Vt (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg4)) (m ((c.tc : Thread Cert.InIdeal.nD Cert.InIdeal.τ).loc Cert.InIdeal.main_arg6)), ?_, ?_⟩
  · exact (θ_run Cert.InIdeal.defs _ _).mono (fun r h c => by
      obtain ⟨-, -, h2, h3, h4, -, -, h7, ha⟩ := h c
      exact ⟨h2.trans (Cert.InIdeal.Work.array15 m c), h3.trans (Cert.InIdeal.Work.array16 m c), h4.trans (Cert.InIdeal.Work.array17 m c), h7.trans (Cert.InIdeal.Work.array20 m c), ha⟩)
      (Cert.InIdeal.Value.run_blocks m g)
  · refine (θ_run Cert.InRefIdeal.defs _ _).mono (fun r h c => ⟨(h c).1.trans ?_, (h c).2.1.trans ?_, (h c).2.2.1.trans ?_, (h c).2.2.2.1.trans ?_, (h c).2.2.2.2⟩) (Cert.InRefIdeal.Value.run (F := Ideal) m' g')
    · obtain ⟨e0, e1, e2, -⟩ := hargs c
      rw [Cert.InRefIdeal.Read.val_main_v65_eq]
      refine (Cert.InRefIdeal.Work.result_q _ _ _).trans ?_
      show Cert.InIdeal.Work.Q (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) = _
      rw [e0, e1, e2]
    · obtain ⟨e0, e1, e2, -⟩ := hargs c
      rw [Cert.InRefIdeal.Read.val_main_v66_eq]
      refine (Cert.InRefIdeal.Work.result_k _ _ _).trans ?_
      show Cert.InIdeal.Work.K (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) = _
      rw [e0, e1, e2]
    · obtain ⟨e0, e1, e2, -⟩ := hargs c
      rw [Cert.InRefIdeal.Read.val_main_v67_eq]
      refine (Cert.InRefIdeal.Work.result_v _ _ _).trans ?_
      show Cert.InIdeal.Work.Vv (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) = _
      rw [e0, e1, e2]
    · obtain ⟨e0, e1, e2, -, e4, -, e6⟩ := hargs c
      rw [Cert.InRefIdeal.Read.val_main_v68_eq]
      refine (Cert.InRefIdeal.Work.result_vt _ _ _ _ _).trans ?_
      show Cert.InIdeal.Work.Vt (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) (m' ((c.tc : Thread Cert.InRefIdeal.nD Cert.InRefIdeal.τ).loc Cert.InRefIdeal.main_arg4)) (m' ((c.tc : Thread Cert.InRefIdeal.nD Cert.InRefIdeal.τ).loc Cert.InRefIdeal.main_arg6)) = _
      rw [e0, e1, e2, e4, e6]

end Cert.Proof

end
-- ==== Proof.lean ====
/- The certificate: the frames of the calls, that the two attention kernels compute the reference's attention, the out-projection kernel its output projection, and the feed-forward kernel its feed-forward. -/
module

public import proofs.«01_k».proof.Defs
public import proofs.«01_k».proof.Proof.Gen.Mla.Frame
public import proofs.«01_k».proof.Proof.Gen.MlaIdeal.Frame
public import proofs.«01_k».proof.Proof.Gen.MlaIdeal.Value
public import proofs.«01_k».proof.Proof.Gen.MlaRefIdeal.Read
public import proofs.«01_k».proof.Proof.Gen.Diff.Frame
public import proofs.«01_k».proof.Proof.Gen.DiffIdeal.Frame
public import proofs.«01_k».proof.Proof.Gen.DiffIdeal.Value
public import proofs.«01_k».proof.Proof.Gen.DiffRefIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Read
public import proofs.«01_k».proof.Proof.Gen.In.Frame
public import proofs.«01_k».proof.Proof.Gen.InIdeal.Frame
public import proofs.«01_k».proof.Proof.Gen.InIdeal.Value
public import proofs.«01_k».proof.Proof.Gen.InRefIdeal.Read
public import proofs.«01_k».proof.Proof.MlaClaim
public import proofs.«01_k».proof.Proof.DiffClaim
public import proofs.«01_k».proof.Proof.FfnClaim
public import proofs.«01_k».proof.Proof.OutClaim
public import proofs.«01_k».proof.Proof.InClaim

@[expose] public section

noncomputable section

namespace Cert.Proof

open Idealize.ShloMosaic Idealize.SL.Sem

/-- Every claim. -/
theorem claim : Cert.Claim :=
  ⟨Cert.Mla.Gen.facts, Cert.MlaIdeal.Gen.facts, Cert.MlaRefIdeal.Gen.facts, Cert.Diff.Gen.facts, Cert.DiffIdeal.Gen.facts, Cert.DiffRefIdeal.Gen.facts,
    Cert.Ffn.Gen.facts, Cert.FfnIdeal.Gen.facts, Cert.FfnRefIdeal.Gen.facts,
    Cert.Out.Gen.facts, Cert.OutIdeal.Gen.facts, Cert.OutRefIdeal.Gen.facts,
    Cert.In.Gen.facts, Cert.InIdeal.Gen.facts, Cert.InRefIdeal.Gen.facts,
    Cert.Pre_mla_inputs.facts, Cert.Pre_diff_inputs.facts,
    fun m g _ => Cert.Mla.Gen.frame m g,
    fun m g _ => Cert.MlaIdeal.Gen.frame m g,
    fun m g _ => Cert.MlaIdeal.Gen.frame m g,
    frame_mla_ref,
    fun m g _ => frame_mla_ref m g trivial,
    fun m g _ => Cert.Diff.Gen.frame m g,
    fun m g _ => Cert.DiffIdeal.Gen.frame m g,
    fun m g _ => Cert.DiffIdeal.Gen.frame m g,
    frame_diff_ref,
    fun m g _ => frame_diff_ref m g trivial,
    fun m g _ => Cert.Ffn.Gen.frame m g,
    fun m g _ => Cert.FfnIdeal.Gen.frame m g,
    frame_ffn_ref,
    fun m g _ => Cert.Out.Gen.frame m g,
    fun m g _ => Cert.OutIdeal.Gen.frame m g,
    frame_out_ref,
    fun m g _ => Cert.In.Gen.frame m g,
    fun m g _ => Cert.InIdeal.Gen.frame m g,
    frame_in_ref,
    trivial,
    algebraic_mla,
    trivial,
    algebraic_diff,
    trivial,
    algebraic_ffn,
    trivial,
    algebraic_out,
    trivial,
    algebraic_in⟩

end Cert.Proof

end
